-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_ConfIn (m : (ℓ : Loc Cert.ConfIn.nD Cert.ConfIn.τ Cert.ConfIn.sig) → Buf (Elt Bits) ℓ) : Prop :=
  True

def Pre_ConfInIdeal (m : (ℓ : Loc Cert.ConfInIdeal.nD Cert.ConfInIdeal.τ Cert.ConfInIdeal.sig) → Buf (Elt Ideal) ℓ) : Prop :=
  True

def Pre_ConfInRefIdeal (m : (ℓ : Loc Cert.ConfInRefIdeal.nD Cert.ConfInRefIdeal.τ Cert.ConfInRefIdeal.sig) → Buf (Elt Ideal) ℓ) : Prop :=
  True

def Pre_FtOut (m : (ℓ : Loc Cert.FtOut.nD Cert.FtOut.τ Cert.FtOut.sig) → Buf (Elt Bits) ℓ) : Prop :=
  True

def Pre_FtOutIdeal (m : (ℓ : Loc Cert.FtOutIdeal.nD Cert.FtOutIdeal.τ Cert.FtOutIdeal.sig) → Buf (Elt Ideal) ℓ) : Prop :=
  True

def Pre_FtOutRefIdeal (m : (ℓ : Loc Cert.FtOutRefIdeal.nD Cert.FtOutRefIdeal.τ Cert.FtOutRefIdeal.sig) → Buf (Elt Ideal) ℓ) : Prop :=
  True

def Pre_RgOut (m : (ℓ : Loc Cert.RgOut.nD Cert.RgOut.τ Cert.RgOut.sig) → Buf (Elt Bits) ℓ) : Prop :=
  True

def Pre_RgOutIdeal (m : (ℓ : Loc Cert.RgOutIdeal.nD Cert.RgOutIdeal.τ Cert.RgOutIdeal.sig) → Buf (Elt Ideal) ℓ) : Prop :=
  True

def Pre_RgOutRefIdeal (m : (ℓ : Loc Cert.RgOutRefIdeal.nD Cert.RgOutRefIdeal.τ Cert.RgOutRefIdeal.sig) → Buf (Elt Ideal) ℓ) : Prop :=
  True

def Pre_RgIn (m : (ℓ : Loc Cert.RgIn.nD Cert.RgIn.τ Cert.RgIn.sig) → Buf (Elt Bits) ℓ) : Prop :=
  True

def Pre_RgInIdeal (m : (ℓ : Loc Cert.RgInIdeal.nD Cert.RgInIdeal.τ Cert.RgInIdeal.sig) → Buf (Elt Ideal) ℓ) : Prop :=
  True

def Pre_RgInRefIdeal (m : (ℓ : Loc Cert.RgInRefIdeal.nD Cert.RgInRefIdeal.τ Cert.RgInRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def quiescent_ConfIn [hConfIn : Cert.ConfIn.Facts] : Prop :=
  ∀ (m : (ℓ : Loc Cert.ConfIn.nD Cert.ConfIn.τ Cert.ConfIn.sig) → Buf (Elt Bits) ℓ) (g : Dev Cert.ConfIn.nD → PrngReg), Pre_ConfIn m →
    θ_run (Cert.ConfIn.defs (F := Bits)) (onTc (τ := Cert.ConfIn.τ) (Cert.ConfIn.main (F := Bits))) ⟨m, fun _ => 0, g⟩ (fun r => (∀ c : Dev Cert.ConfIn.nD,
      r.2.mem ((c.tc : Thread Cert.ConfIn.nD Cert.ConfIn.τ).loc Cert.ConfIn.main_arg0) = m ((c.tc : Thread Cert.ConfIn.nD Cert.ConfIn.τ).loc Cert.ConfIn.main_arg0)
      ∧ r.2.mem ((c.tc : Thread Cert.ConfIn.nD Cert.ConfIn.τ).loc Cert.ConfIn.main_arg1) = m ((c.tc : Thread Cert.ConfIn.nD Cert.ConfIn.τ).loc Cert.ConfIn.main_arg1)
      ∧ r.2.mem ((c.tc : Thread Cert.ConfIn.nD Cert.ConfIn.τ).loc Cert.ConfIn.main_arg2) = m ((c.tc : Thread Cert.ConfIn.nD Cert.ConfIn.τ).loc Cert.ConfIn.main_arg2)
      ∧ r.2.mem ((c.tc : Thread Cert.ConfIn.nD Cert.ConfIn.τ).loc Cert.ConfIn.main_arg3) = m ((c.tc : Thread Cert.ConfIn.nD Cert.ConfIn.τ).loc Cert.ConfIn.main_arg3))
      ∧ r.2.sem = fun _ => 0)

def quiescent_ConfInIdeal [hConfInIdeal : Cert.ConfInIdeal.Facts] : Prop :=
  ∀ (m : (ℓ : Loc Cert.ConfInIdeal.nD Cert.ConfInIdeal.τ Cert.ConfInIdeal.sig) → Buf (Elt Ideal) ℓ) (g : Dev Cert.ConfInIdeal.nD → PrngReg), Pre_ConfInIdeal m →
    θ_run (Cert.ConfInIdeal.defs (F := Ideal)) (onTc (τ := Cert.ConfInIdeal.τ) (Cert.ConfInIdeal.main (F := Ideal))) ⟨m, fun _ => 0, g⟩ (fun r => (∀ c : Dev Cert.ConfInIdeal.nD,
      r.2.mem ((c.tc : Thread Cert.ConfInIdeal.nD Cert.ConfInIdeal.τ).loc Cert.ConfInIdeal.main_arg0) = m ((c.tc : Thread Cert.ConfInIdeal.nD Cert.ConfInIdeal.τ).loc Cert.ConfInIdeal.main_arg0)
      ∧ r.2.mem ((c.tc : Thread Cert.ConfInIdeal.nD Cert.ConfInIdeal.τ).loc Cert.ConfInIdeal.main_arg1) = m ((c.tc : Thread Cert.ConfInIdeal.nD Cert.ConfInIdeal.τ).loc Cert.ConfInIdeal.main_arg1)
      ∧ r.2.mem ((c.tc : Thread Cert.ConfInIdeal.nD Cert.ConfInIdeal.τ).loc Cert.ConfInIdeal.main_arg2) = m ((c.tc : Thread Cert.ConfInIdeal.nD Cert.ConfInIdeal.τ).loc Cert.ConfInIdeal.main_arg2)
      ∧ r.2.mem ((c.tc : Thread Cert.ConfInIdeal.nD Cert.ConfInIdeal.τ).loc Cert.ConfInIdeal.main_arg3) = m ((c.tc : Thread Cert.ConfInIdeal.nD Cert.ConfInIdeal.τ).loc Cert.ConfInIdeal.main_arg3))
      ∧ r.2.sem = fun _ => 0)

def quiescent_ConfInRefIdeal [hConfInRefIdeal : Cert.ConfInRefIdeal.Facts] : Prop :=
  ∀ (m : (ℓ : Loc Cert.ConfInRefIdeal.nD Cert.ConfInRefIdeal.τ Cert.ConfInRefIdeal.sig) → Buf (Elt Ideal) ℓ) (g : Dev Cert.ConfInRefIdeal.nD → PrngReg), Pre_ConfInRefIdeal m →
    θ_run (Cert.ConfInRefIdeal.defs (F := Ideal)) (onTc (τ := Cert.ConfInRefIdeal.τ) (Cert.ConfInRefIdeal.main (F := Ideal))) ⟨m, fun _ => 0, g⟩ (fun r => (∀ c : Dev Cert.ConfInRefIdeal.nD,
      r.2.mem ((c.tc : Thread Cert.ConfInRefIdeal.nD Cert.ConfInRefIdeal.τ).loc Cert.ConfInRefIdeal.main_arg0) = m ((c.tc : Thread Cert.ConfInRefIdeal.nD Cert.ConfInRefIdeal.τ).loc Cert.ConfInRefIdeal.main_arg0)
      ∧ r.2.mem ((c.tc : Thread Cert.ConfInRefIdeal.nD Cert.ConfInRefIdeal.τ).loc Cert.ConfInRefIdeal.main_arg1) = m ((c.tc : Thread Cert.ConfInRefIdeal.nD Cert.ConfInRefIdeal.τ).loc Cert.ConfInRefIdeal.main_arg1)
      ∧ r.2.mem ((c.tc : Thread Cert.ConfInRefIdeal.nD Cert.ConfInRefIdeal.τ).loc Cert.ConfInRefIdeal.main_arg2) = m ((c.tc : Thread Cert.ConfInRefIdeal.nD Cert.ConfInRefIdeal.τ).loc Cert.ConfInRefIdeal.main_arg2)
      ∧ r.2.mem ((c.tc : Thread Cert.ConfInRefIdeal.nD Cert.ConfInRefIdeal.τ).loc Cert.ConfInRefIdeal.main_arg3) = m ((c.tc : Thread Cert.ConfInRefIdeal.nD Cert.ConfInRefIdeal.τ).loc Cert.ConfInRefIdeal.main_arg3))
      ∧ r.2.sem = fun _ => 0)

def quiescent_FtOut [hFtOut : Cert.FtOut.Facts] : Prop :=
  ∀ (m : (ℓ : Loc Cert.FtOut.nD Cert.FtOut.τ Cert.FtOut.sig) → Buf (Elt Bits) ℓ) (g : Dev Cert.FtOut.nD → PrngReg), Pre_FtOut m →
    θ_run (Cert.FtOut.defs (F := Bits)) (onTc (τ := Cert.FtOut.τ) (Cert.FtOut.main (F := Bits))) ⟨m, fun _ => 0, g⟩ (fun r => (∀ c : Dev Cert.FtOut.nD,
      r.2.mem ((c.tc : Thread Cert.FtOut.nD Cert.FtOut.τ).loc Cert.FtOut.main_arg0) = m ((c.tc : Thread Cert.FtOut.nD Cert.FtOut.τ).loc Cert.FtOut.main_arg0)
      ∧ r.2.mem ((c.tc : Thread Cert.FtOut.nD Cert.FtOut.τ).loc Cert.FtOut.main_arg1) = m ((c.tc : Thread Cert.FtOut.nD Cert.FtOut.τ).loc Cert.FtOut.main_arg1)
      ∧ r.2.mem ((c.tc : Thread Cert.FtOut.nD Cert.FtOut.τ).loc Cert.FtOut.main_arg2) = m ((c.tc : Thread Cert.FtOut.nD Cert.FtOut.τ).loc Cert.FtOut.main_arg2)
      ∧ r.2.mem ((c.tc : Thread Cert.FtOut.nD Cert.FtOut.τ).loc Cert.FtOut.main_arg3) = m ((c.tc : Thread Cert.FtOut.nD Cert.FtOut.τ).loc Cert.FtOut.main_arg3)
      ∧ r.2.mem ((c.tc : Thread Cert.FtOut.nD Cert.FtOut.τ).loc Cert.FtOut.main_arg4) = m ((c.tc : Thread Cert.FtOut.nD Cert.FtOut.τ).loc Cert.FtOut.main_arg4)
      ∧ r.2.mem ((c.tc : Thread Cert.FtOut.nD Cert.FtOut.τ).loc Cert.FtOut.main_arg5) = m ((c.tc : Thread Cert.FtOut.nD Cert.FtOut.τ).loc Cert.FtOut.main_arg5)
      ∧ r.2.mem ((c.tc : Thread Cert.FtOut.nD Cert.FtOut.τ).loc Cert.FtOut.main_arg6) = m ((c.tc : Thread Cert.FtOut.nD Cert.FtOut.τ).loc Cert.FtOut.main_arg6))
      ∧ r.2.sem = fun _ => 0)

def quiescent_FtOutIdeal [hFtOutIdeal : Cert.FtOutIdeal.Facts] : Prop :=
  ∀ (m : (ℓ : Loc Cert.FtOutIdeal.nD Cert.FtOutIdeal.τ Cert.FtOutIdeal.sig) → Buf (Elt Ideal) ℓ) (g : Dev Cert.FtOutIdeal.nD → PrngReg), Pre_FtOutIdeal m →
    θ_run (Cert.FtOutIdeal.defs (F := Ideal)) (onTc (τ := Cert.FtOutIdeal.τ) (Cert.FtOutIdeal.main (F := Ideal))) ⟨m, fun _ => 0, g⟩ (fun r => (∀ c : Dev Cert.FtOutIdeal.nD,
      r.2.mem ((c.tc : Thread Cert.FtOutIdeal.nD Cert.FtOutIdeal.τ).loc Cert.FtOutIdeal.main_arg0) = m ((c.tc : Thread Cert.FtOutIdeal.nD Cert.FtOutIdeal.τ).loc Cert.FtOutIdeal.main_arg0)
      ∧ r.2.mem ((c.tc : Thread Cert.FtOutIdeal.nD Cert.FtOutIdeal.τ).loc Cert.FtOutIdeal.main_arg1) = m ((c.tc : Thread Cert.FtOutIdeal.nD Cert.FtOutIdeal.τ).loc Cert.FtOutIdeal.main_arg1)
      ∧ r.2.mem ((c.tc : Thread Cert.FtOutIdeal.nD Cert.FtOutIdeal.τ).loc Cert.FtOutIdeal.main_arg2) = m ((c.tc : Thread Cert.FtOutIdeal.nD Cert.FtOutIdeal.τ).loc Cert.FtOutIdeal.main_arg2)
      ∧ r.2.mem ((c.tc : Thread Cert.FtOutIdeal.nD Cert.FtOutIdeal.τ).loc Cert.FtOutIdeal.main_arg3) = m ((c.tc : Thread Cert.FtOutIdeal.nD Cert.FtOutIdeal.τ).loc Cert.FtOutIdeal.main_arg3)
      ∧ r.2.mem ((c.tc : Thread Cert.FtOutIdeal.nD Cert.FtOutIdeal.τ).loc Cert.FtOutIdeal.main_arg4) = m ((c.tc : Thread Cert.FtOutIdeal.nD Cert.FtOutIdeal.τ).loc Cert.FtOutIdeal.main_arg4)
      ∧ r.2.mem ((c.tc : Thread Cert.FtOutIdeal.nD Cert.FtOutIdeal.τ).loc Cert.FtOutIdeal.main_arg5) = m ((c.tc : Thread Cert.FtOutIdeal.nD Cert.FtOutIdeal.τ).loc Cert.FtOutIdeal.main_arg5)
      ∧ r.2.mem ((c.tc : Thread Cert.FtOutIdeal.nD Cert.FtOutIdeal.τ).loc Cert.FtOutIdeal.main_arg6) = m ((c.tc : Thread Cert.FtOutIdeal.nD Cert.FtOutIdeal.τ).loc Cert.FtOutIdeal.main_arg6))
      ∧ r.2.sem = fun _ => 0)

def quiescent_FtOutRefIdeal [hFtOutRefIdeal : Cert.FtOutRefIdeal.Facts] : Prop :=
  ∀ (m : (ℓ : Loc Cert.FtOutRefIdeal.nD Cert.FtOutRefIdeal.τ Cert.FtOutRefIdeal.sig) → Buf (Elt Ideal) ℓ) (g : Dev Cert.FtOutRefIdeal.nD → PrngReg), Pre_FtOutRefIdeal m →
    θ_run (Cert.FtOutRefIdeal.defs (F := Ideal)) (onTc (τ := Cert.FtOutRefIdeal.τ) (Cert.FtOutRefIdeal.main (F := Ideal))) ⟨m, fun _ => 0, g⟩ (fun r => (∀ c : Dev Cert.FtOutRefIdeal.nD,
      r.2.mem ((c.tc : Thread Cert.FtOutRefIdeal.nD Cert.FtOutRefIdeal.τ).loc Cert.FtOutRefIdeal.main_arg0) = m ((c.tc : Thread Cert.FtOutRefIdeal.nD Cert.FtOutRefIdeal.τ).loc Cert.FtOutRefIdeal.main_arg0)
      ∧ r.2.mem ((c.tc : Thread Cert.FtOutRefIdeal.nD Cert.FtOutRefIdeal.τ).loc Cert.FtOutRefIdeal.main_arg1) = m ((c.tc : Thread Cert.FtOutRefIdeal.nD Cert.FtOutRefIdeal.τ).loc Cert.FtOutRefIdeal.main_arg1)
      ∧ r.2.mem ((c.tc : Thread Cert.FtOutRefIdeal.nD Cert.FtOutRefIdeal.τ).loc Cert.FtOutRefIdeal.main_arg2) = m ((c.tc : Thread Cert.FtOutRefIdeal.nD Cert.FtOutRefIdeal.τ).loc Cert.FtOutRefIdeal.main_arg2)
      ∧ r.2.mem ((c.tc : Thread Cert.FtOutRefIdeal.nD Cert.FtOutRefIdeal.τ).loc Cert.FtOutRefIdeal.main_arg3) = m ((c.tc : Thread Cert.FtOutRefIdeal.nD Cert.FtOutRefIdeal.τ).loc Cert.FtOutRefIdeal.main_arg3)
      ∧ r.2.mem ((c.tc : Thread Cert.FtOutRefIdeal.nD Cert.FtOutRefIdeal.τ).loc Cert.FtOutRefIdeal.main_arg4) = m ((c.tc : Thread Cert.FtOutRefIdeal.nD Cert.FtOutRefIdeal.τ).loc Cert.FtOutRefIdeal.main_arg4)
      ∧ r.2.mem ((c.tc : Thread Cert.FtOutRefIdeal.nD Cert.FtOutRefIdeal.τ).loc Cert.FtOutRefIdeal.main_arg5) = m ((c.tc : Thread Cert.FtOutRefIdeal.nD Cert.FtOutRefIdeal.τ).loc Cert.FtOutRefIdeal.main_arg5)
      ∧ r.2.mem ((c.tc : Thread Cert.FtOutRefIdeal.nD Cert.FtOutRefIdeal.τ).loc Cert.FtOutRefIdeal.main_arg6) = m ((c.tc : Thread Cert.FtOutRefIdeal.nD Cert.FtOutRefIdeal.τ).loc Cert.FtOutRefIdeal.main_arg6))
      ∧ r.2.sem = fun _ => 0)

def quiescent_RgOut [hRgOut : Cert.RgOut.Facts] : Prop :=
  ∀ (m : (ℓ : Loc Cert.RgOut.nD Cert.RgOut.τ Cert.RgOut.sig) → Buf (Elt Bits) ℓ) (g : Dev Cert.RgOut.nD → PrngReg), Pre_RgOut m →
    θ_run (Cert.RgOut.defs (F := Bits)) (onTc (τ := Cert.RgOut.τ) (Cert.RgOut.main (F := Bits))) ⟨m, fun _ => 0, g⟩ (fun r => (∀ c : Dev Cert.RgOut.nD,
      r.2.mem ((c.tc : Thread Cert.RgOut.nD Cert.RgOut.τ).loc Cert.RgOut.main_arg0) = m ((c.tc : Thread Cert.RgOut.nD Cert.RgOut.τ).loc Cert.RgOut.main_arg0)
      ∧ r.2.mem ((c.tc : Thread Cert.RgOut.nD Cert.RgOut.τ).loc Cert.RgOut.main_arg1) = m ((c.tc : Thread Cert.RgOut.nD Cert.RgOut.τ).loc Cert.RgOut.main_arg1)
      ∧ r.2.mem ((c.tc : Thread Cert.RgOut.nD Cert.RgOut.τ).loc Cert.RgOut.main_arg2) = m ((c.tc : Thread Cert.RgOut.nD Cert.RgOut.τ).loc Cert.RgOut.main_arg2)
      ∧ r.2.mem ((c.tc : Thread Cert.RgOut.nD Cert.RgOut.τ).loc Cert.RgOut.main_arg3) = m ((c.tc : Thread Cert.RgOut.nD Cert.RgOut.τ).loc Cert.RgOut.main_arg3)
      ∧ r.2.mem ((c.tc : Thread Cert.RgOut.nD Cert.RgOut.τ).loc Cert.RgOut.main_arg4) = m ((c.tc : Thread Cert.RgOut.nD Cert.RgOut.τ).loc Cert.RgOut.main_arg4)
      ∧ r.2.mem ((c.tc : Thread Cert.RgOut.nD Cert.RgOut.τ).loc Cert.RgOut.main_arg5) = m ((c.tc : Thread Cert.RgOut.nD Cert.RgOut.τ).loc Cert.RgOut.main_arg5))
      ∧ r.2.sem = fun _ => 0)

def quiescent_RgOutIdeal [hRgOutIdeal : Cert.RgOutIdeal.Facts] : Prop :=
  ∀ (m : (ℓ : Loc Cert.RgOutIdeal.nD Cert.RgOutIdeal.τ Cert.RgOutIdeal.sig) → Buf (Elt Ideal) ℓ) (g : Dev Cert.RgOutIdeal.nD → PrngReg), Pre_RgOutIdeal m →
    θ_run (Cert.RgOutIdeal.defs (F := Ideal)) (onTc (τ := Cert.RgOutIdeal.τ) (Cert.RgOutIdeal.main (F := Ideal))) ⟨m, fun _ => 0, g⟩ (fun r => (∀ c : Dev Cert.RgOutIdeal.nD,
      r.2.mem ((c.tc : Thread Cert.RgOutIdeal.nD Cert.RgOutIdeal.τ).loc Cert.RgOutIdeal.main_arg0) = m ((c.tc : Thread Cert.RgOutIdeal.nD Cert.RgOutIdeal.τ).loc Cert.RgOutIdeal.main_arg0)
      ∧ r.2.mem ((c.tc : Thread Cert.RgOutIdeal.nD Cert.RgOutIdeal.τ).loc Cert.RgOutIdeal.main_arg1) = m ((c.tc : Thread Cert.RgOutIdeal.nD Cert.RgOutIdeal.τ).loc Cert.RgOutIdeal.main_arg1)
      ∧ r.2.mem ((c.tc : Thread Cert.RgOutIdeal.nD Cert.RgOutIdeal.τ).loc Cert.RgOutIdeal.main_arg2) = m ((c.tc : Thread Cert.RgOutIdeal.nD Cert.RgOutIdeal.τ).loc Cert.RgOutIdeal.main_arg2)
      ∧ r.2.mem ((c.tc : Thread Cert.RgOutIdeal.nD Cert.RgOutIdeal.τ).loc Cert.RgOutIdeal.main_arg3) = m ((c.tc : Thread Cert.RgOutIdeal.nD Cert.RgOutIdeal.τ).loc Cert.RgOutIdeal.main_arg3)
      ∧ r.2.mem ((c.tc : Thread Cert.RgOutIdeal.nD Cert.RgOutIdeal.τ).loc Cert.RgOutIdeal.main_arg4) = m ((c.tc : Thread Cert.RgOutIdeal.nD Cert.RgOutIdeal.τ).loc Cert.RgOutIdeal.main_arg4)
      ∧ r.2.mem ((c.tc : Thread Cert.RgOutIdeal.nD Cert.RgOutIdeal.τ).loc Cert.RgOutIdeal.main_arg5) = m ((c.tc : Thread Cert.RgOutIdeal.nD Cert.RgOutIdeal.τ).loc Cert.RgOutIdeal.main_arg5))
      ∧ r.2.sem = fun _ => 0)

def quiescent_RgOutRefIdeal [hRgOutRefIdeal : Cert.RgOutRefIdeal.Facts] : Prop :=
  ∀ (m : (ℓ : Loc Cert.RgOutRefIdeal.nD Cert.RgOutRefIdeal.τ Cert.RgOutRefIdeal.sig) → Buf (Elt Ideal) ℓ) (g : Dev Cert.RgOutRefIdeal.nD → PrngReg), Pre_RgOutRefIdeal m →
    θ_run (Cert.RgOutRefIdeal.defs (F := Ideal)) (onTc (τ := Cert.RgOutRefIdeal.τ) (Cert.RgOutRefIdeal.main (F := Ideal))) ⟨m, fun _ => 0, g⟩ (fun r => (∀ c : Dev Cert.RgOutRefIdeal.nD,
      r.2.mem ((c.tc : Thread Cert.RgOutRefIdeal.nD Cert.RgOutRefIdeal.τ).loc Cert.RgOutRefIdeal.main_arg0) = m ((c.tc : Thread Cert.RgOutRefIdeal.nD Cert.RgOutRefIdeal.τ).loc Cert.RgOutRefIdeal.main_arg0)
      ∧ r.2.mem ((c.tc : Thread Cert.RgOutRefIdeal.nD Cert.RgOutRefIdeal.τ).loc Cert.RgOutRefIdeal.main_arg1) = m ((c.tc : Thread Cert.RgOutRefIdeal.nD Cert.RgOutRefIdeal.τ).loc Cert.RgOutRefIdeal.main_arg1)
      ∧ r.2.mem ((c.tc : Thread Cert.RgOutRefIdeal.nD Cert.RgOutRefIdeal.τ).loc Cert.RgOutRefIdeal.main_arg2) = m ((c.tc : Thread Cert.RgOutRefIdeal.nD Cert.RgOutRefIdeal.τ).loc Cert.RgOutRefIdeal.main_arg2)
      ∧ r.2.mem ((c.tc : Thread Cert.RgOutRefIdeal.nD Cert.RgOutRefIdeal.τ).loc Cert.RgOutRefIdeal.main_arg3) = m ((c.tc : Thread Cert.RgOutRefIdeal.nD Cert.RgOutRefIdeal.τ).loc Cert.RgOutRefIdeal.main_arg3)
      ∧ r.2.mem ((c.tc : Thread Cert.RgOutRefIdeal.nD Cert.RgOutRefIdeal.τ).loc Cert.RgOutRefIdeal.main_arg4) = m ((c.tc : Thread Cert.RgOutRefIdeal.nD Cert.RgOutRefIdeal.τ).loc Cert.RgOutRefIdeal.main_arg4)
      ∧ r.2.mem ((c.tc : Thread Cert.RgOutRefIdeal.nD Cert.RgOutRefIdeal.τ).loc Cert.RgOutRefIdeal.main_arg5) = m ((c.tc : Thread Cert.RgOutRefIdeal.nD Cert.RgOutRefIdeal.τ).loc Cert.RgOutRefIdeal.main_arg5))
      ∧ r.2.sem = fun _ => 0)

def quiescent_RgIn [hRgIn : Cert.RgIn.Facts] : Prop :=
  ∀ (m : (ℓ : Loc Cert.RgIn.nD Cert.RgIn.τ Cert.RgIn.sig) → Buf (Elt Bits) ℓ) (g : Dev Cert.RgIn.nD → PrngReg), Pre_RgIn m →
    θ_run (Cert.RgIn.defs (F := Bits)) (onTc (τ := Cert.RgIn.τ) (Cert.RgIn.main (F := Bits))) ⟨m, fun _ => 0, g⟩ (fun r => (∀ c : Dev Cert.RgIn.nD,
      r.2.mem ((c.tc : Thread Cert.RgIn.nD Cert.RgIn.τ).loc Cert.RgIn.main_arg0) = m ((c.tc : Thread Cert.RgIn.nD Cert.RgIn.τ).loc Cert.RgIn.main_arg0)
      ∧ r.2.mem ((c.tc : Thread Cert.RgIn.nD Cert.RgIn.τ).loc Cert.RgIn.main_arg1) = m ((c.tc : Thread Cert.RgIn.nD Cert.RgIn.τ).loc Cert.RgIn.main_arg1)
      ∧ r.2.mem ((c.tc : Thread Cert.RgIn.nD Cert.RgIn.τ).loc Cert.RgIn.main_arg2) = m ((c.tc : Thread Cert.RgIn.nD Cert.RgIn.τ).loc Cert.RgIn.main_arg2)
      ∧ r.2.mem ((c.tc : Thread Cert.RgIn.nD Cert.RgIn.τ).loc Cert.RgIn.main_arg3) = m ((c.tc : Thread Cert.RgIn.nD Cert.RgIn.τ).loc Cert.RgIn.main_arg3))
      ∧ r.2.sem = fun _ => 0)

def quiescent_RgInIdeal [hRgInIdeal : Cert.RgInIdeal.Facts] : Prop :=
  ∀ (m : (ℓ : Loc Cert.RgInIdeal.nD Cert.RgInIdeal.τ Cert.RgInIdeal.sig) → Buf (Elt Ideal) ℓ) (g : Dev Cert.RgInIdeal.nD → PrngReg), Pre_RgInIdeal m →
    θ_run (Cert.RgInIdeal.defs (F := Ideal)) (onTc (τ := Cert.RgInIdeal.τ) (Cert.RgInIdeal.main (F := Ideal))) ⟨m, fun _ => 0, g⟩ (fun r => (∀ c : Dev Cert.RgInIdeal.nD,
      r.2.mem ((c.tc : Thread Cert.RgInIdeal.nD Cert.RgInIdeal.τ).loc Cert.RgInIdeal.main_arg0) = m ((c.tc : Thread Cert.RgInIdeal.nD Cert.RgInIdeal.τ).loc Cert.RgInIdeal.main_arg0)
      ∧ r.2.mem ((c.tc : Thread Cert.RgInIdeal.nD Cert.RgInIdeal.τ).loc Cert.RgInIdeal.main_arg1) = m ((c.tc : Thread Cert.RgInIdeal.nD Cert.RgInIdeal.τ).loc Cert.RgInIdeal.main_arg1)
      ∧ r.2.mem ((c.tc : Thread Cert.RgInIdeal.nD Cert.RgInIdeal.τ).loc Cert.RgInIdeal.main_arg2) = m ((c.tc : Thread Cert.RgInIdeal.nD Cert.RgInIdeal.τ).loc Cert.RgInIdeal.main_arg2)
      ∧ r.2.mem ((c.tc : Thread Cert.RgInIdeal.nD Cert.RgInIdeal.τ).loc Cert.RgInIdeal.main_arg3) = m ((c.tc : Thread Cert.RgInIdeal.nD Cert.RgInIdeal.τ).loc Cert.RgInIdeal.main_arg3))
      ∧ r.2.sem = fun _ => 0)

def quiescent_RgInRefIdeal [hRgInRefIdeal : Cert.RgInRefIdeal.Facts] : Prop :=
  ∀ (m : (ℓ : Loc Cert.RgInRefIdeal.nD Cert.RgInRefIdeal.τ Cert.RgInRefIdeal.sig) → Buf (Elt Ideal) ℓ) (g : Dev Cert.RgInRefIdeal.nD → PrngReg), Pre_RgInRefIdeal m →
    θ_run (Cert.RgInRefIdeal.defs (F := Ideal)) (onTc (τ := Cert.RgInRefIdeal.τ) (Cert.RgInRefIdeal.main (F := Ideal))) ⟨m, fun _ => 0, g⟩ (fun r => (∀ c : Dev Cert.RgInRefIdeal.nD,
      r.2.mem ((c.tc : Thread Cert.RgInRefIdeal.nD Cert.RgInRefIdeal.τ).loc Cert.RgInRefIdeal.main_arg0) = m ((c.tc : Thread Cert.RgInRefIdeal.nD Cert.RgInRefIdeal.τ).loc Cert.RgInRefIdeal.main_arg0)
      ∧ r.2.mem ((c.tc : Thread Cert.RgInRefIdeal.nD Cert.RgInRefIdeal.τ).loc Cert.RgInRefIdeal.main_arg1) = m ((c.tc : Thread Cert.RgInRefIdeal.nD Cert.RgInRefIdeal.τ).loc Cert.RgInRefIdeal.main_arg1)
      ∧ r.2.mem ((c.tc : Thread Cert.RgInRefIdeal.nD Cert.RgInRefIdeal.τ).loc Cert.RgInRefIdeal.main_arg2) = m ((c.tc : Thread Cert.RgInRefIdeal.nD Cert.RgInRefIdeal.τ).loc Cert.RgInRefIdeal.main_arg2)
      ∧ r.2.mem ((c.tc : Thread Cert.RgInRefIdeal.nD Cert.RgInRefIdeal.τ).loc Cert.RgInRefIdeal.main_arg3) = m ((c.tc : Thread Cert.RgInRefIdeal.nD Cert.RgInRefIdeal.τ).loc Cert.RgInRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Scan_ScanIdeal : Prop :=
  True

def algebraic_ScanIdeal_ScanRefIdeal_on_block_lanes [hScanIdeal : Cert.ScanIdeal.Facts] [hScanRefIdeal : Cert.ScanRefIdeal.Facts] [hOn_block_lanes : Cert.On_block_lanes.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v54_0)) (v1 : (c : Dev Cert.ScanIdeal.nD) → Buf (Elt Ideal) ((c.tc : Thread Cert.ScanIdeal.nD Cert.ScanIdeal.τ).loc Cert.ScanIdeal.main_v54_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          (∀ i : (⟨3, ![2, 8192, 3072]⟩ : Shape).Idx, (Cert.On_block_lanes.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).1 i = 1#1 → r.2.mem ((c.tc : Thread Cert.ScanIdeal.nD Cert.ScanIdeal.τ).loc Cert.ScanIdeal.main_v54_0) i = v0 c i)
          ∧ (∀ i : (⟨3, ![2, 1, 3072]⟩ : Shape).Idx, (Cert.On_block_lanes.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2 i = 1#1 → r.2.mem ((c.tc : Thread Cert.ScanIdeal.nD Cert.ScanIdeal.τ).loc Cert.ScanIdeal.main_v54_1) i = v1 c i)
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          (∀ i : (⟨3, ![2, 8192, 3072]⟩ : Shape).Idx, (Cert.On_block_lanes.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).1 i = 1#1 → r.2.mem ((c.tc : Thread Cert.ScanRefIdeal.nD Cert.ScanRefIdeal.τ).loc Cert.ScanRefIdeal.main_v86) i = v0 c i)
          ∧ (∀ i : (⟨3, ![2, 1, 3072]⟩ : Shape).Idx, (Cert.On_block_lanes.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2 i = 1#1 → r.2.mem ((c.tc : Thread Cert.ScanRefIdeal.nD Cert.ScanRefIdeal.τ).loc Cert.ScanRefIdeal.main_v87) i = v1 c i)
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8))

def preserves_ConfIn_ConfInIdeal : Prop :=
  True

def algebraic_ConfInIdeal_ConfInRefIdeal [hConfInIdeal : Cert.ConfInIdeal.Facts] [hConfInRefIdeal : Cert.ConfInRefIdeal.Facts] : Prop :=
  ∀ (m : (ℓ : Loc Cert.ConfInIdeal.nD Cert.ConfInIdeal.τ Cert.ConfInIdeal.sig) → Buf (Elt Ideal) ℓ) (g : Dev Cert.ConfInIdeal.nD → PrngReg)
    (m' : (ℓ : Loc Cert.ConfInRefIdeal.nD Cert.ConfInRefIdeal.τ Cert.ConfInRefIdeal.sig) → Buf (Elt Ideal) ℓ) (g' : Dev Cert.ConfInRefIdeal.nD → PrngReg), Pre_ConfInIdeal m →
    (∀ c : Dev Cert.ConfInIdeal.nD,
      m' ((c.tc : Thread Cert.ConfInRefIdeal.nD Cert.ConfInRefIdeal.τ).loc Cert.ConfInRefIdeal.main_arg0) = m ((c.tc : Thread Cert.ConfInIdeal.nD Cert.ConfInIdeal.τ).loc Cert.ConfInIdeal.main_arg0)
      ∧ m' ((c.tc : Thread Cert.ConfInRefIdeal.nD Cert.ConfInRefIdeal.τ).loc Cert.ConfInRefIdeal.main_arg1) = m ((c.tc : Thread Cert.ConfInIdeal.nD Cert.ConfInIdeal.τ).loc Cert.ConfInIdeal.main_arg1)
      ∧ m' ((c.tc : Thread Cert.ConfInRefIdeal.nD Cert.ConfInRefIdeal.τ).loc Cert.ConfInRefIdeal.main_arg2) = m ((c.tc : Thread Cert.ConfInIdeal.nD Cert.ConfInIdeal.τ).loc Cert.ConfInIdeal.main_arg2)
      ∧ m' ((c.tc : Thread Cert.ConfInRefIdeal.nD Cert.ConfInRefIdeal.τ).loc Cert.ConfInRefIdeal.main_arg3) = m ((c.tc : Thread Cert.ConfInIdeal.nD Cert.ConfInIdeal.τ).loc Cert.ConfInIdeal.main_arg3)) →
    ∃ (v0 : (c : Dev Cert.ConfInIdeal.nD) → Buf (Elt Ideal) ((c.tc : Thread Cert.ConfInIdeal.nD Cert.ConfInIdeal.τ).loc Cert.ConfInIdeal.main_v2)),
      θ_run (Cert.ConfInIdeal.defs (F := Ideal)) (onTc (τ := Cert.ConfInIdeal.τ) (Cert.ConfInIdeal.main (F := Ideal))) ⟨m, fun _ => 0, g⟩ (fun r => ∀ c : Dev Cert.ConfInIdeal.nD,
          r.2.mem ((c.tc : Thread Cert.ConfInIdeal.nD Cert.ConfInIdeal.τ).loc Cert.ConfInIdeal.main_v2) = v0 c
          ∧ r.2.mem ((c.tc : Thread Cert.ConfInIdeal.nD Cert.ConfInIdeal.τ).loc Cert.ConfInIdeal.main_arg0) = m ((c.tc : Thread Cert.ConfInIdeal.nD Cert.ConfInIdeal.τ).loc Cert.ConfInIdeal.main_arg0)
          ∧ r.2.mem ((c.tc : Thread Cert.ConfInIdeal.nD Cert.ConfInIdeal.τ).loc Cert.ConfInIdeal.main_arg1) = m ((c.tc : Thread Cert.ConfInIdeal.nD Cert.ConfInIdeal.τ).loc Cert.ConfInIdeal.main_arg1)
          ∧ r.2.mem ((c.tc : Thread Cert.ConfInIdeal.nD Cert.ConfInIdeal.τ).loc Cert.ConfInIdeal.main_arg2) = m ((c.tc : Thread Cert.ConfInIdeal.nD Cert.ConfInIdeal.τ).loc Cert.ConfInIdeal.main_arg2)
          ∧ r.2.mem ((c.tc : Thread Cert.ConfInIdeal.nD Cert.ConfInIdeal.τ).loc Cert.ConfInIdeal.main_arg3) = m ((c.tc : Thread Cert.ConfInIdeal.nD Cert.ConfInIdeal.τ).loc Cert.ConfInIdeal.main_arg3))
      ∧ θ_run (Cert.ConfInRefIdeal.defs (F := Ideal)) (onTc (τ := Cert.ConfInRefIdeal.τ) (Cert.ConfInRefIdeal.main (F := Ideal))) ⟨m', fun _ => 0, g'⟩ (fun r => ∀ c : Dev Cert.ConfInRefIdeal.nD,
          r.2.mem ((c.tc : Thread Cert.ConfInRefIdeal.nD Cert.ConfInRefIdeal.τ).loc Cert.ConfInRefIdeal.main_v21) = v0 c
          ∧ r.2.mem ((c.tc : Thread Cert.ConfInRefIdeal.nD Cert.ConfInRefIdeal.τ).loc Cert.ConfInRefIdeal.main_arg0) = m' ((c.tc : Thread Cert.ConfInRefIdeal.nD Cert.ConfInRefIdeal.τ).loc Cert.ConfInRefIdeal.main_arg0)
          ∧ r.2.mem ((c.tc : Thread Cert.ConfInRefIdeal.nD Cert.ConfInRefIdeal.τ).loc Cert.ConfInRefIdeal.main_arg1) = m' ((c.tc : Thread Cert.ConfInRefIdeal.nD Cert.ConfInRefIdeal.τ).loc Cert.ConfInRefIdeal.main_arg1)
          ∧ r.2.mem ((c.tc : Thread Cert.ConfInRefIdeal.nD Cert.ConfInRefIdeal.τ).loc Cert.ConfInRefIdeal.main_arg2) = m' ((c.tc : Thread Cert.ConfInRefIdeal.nD Cert.ConfInRefIdeal.τ).loc Cert.ConfInRefIdeal.main_arg2)
          ∧ r.2.mem ((c.tc : Thread Cert.ConfInRefIdeal.nD Cert.ConfInRefIdeal.τ).loc Cert.ConfInRefIdeal.main_arg3) = m' ((c.tc : Thread Cert.ConfInRefIdeal.nD Cert.ConfInRefIdeal.τ).loc Cert.ConfInRefIdeal.main_arg3))

def preserves_FtOut_FtOutIdeal : Prop :=
  True

def algebraic_FtOutIdeal_FtOutRefIdeal [hFtOutIdeal : Cert.FtOutIdeal.Facts] [hFtOutRefIdeal : Cert.FtOutRefIdeal.Facts] : Prop :=
  ∀ (m : (ℓ : Loc Cert.FtOutIdeal.nD Cert.FtOutIdeal.τ Cert.FtOutIdeal.sig) → Buf (Elt Ideal) ℓ) (g : Dev Cert.FtOutIdeal.nD → PrngReg)
    (m' : (ℓ : Loc Cert.FtOutRefIdeal.nD Cert.FtOutRefIdeal.τ Cert.FtOutRefIdeal.sig) → Buf (Elt Ideal) ℓ) (g' : Dev Cert.FtOutRefIdeal.nD → PrngReg), Pre_FtOutIdeal m →
    (∀ c : Dev Cert.FtOutIdeal.nD,
      m' ((c.tc : Thread Cert.FtOutRefIdeal.nD Cert.FtOutRefIdeal.τ).loc Cert.FtOutRefIdeal.main_arg0) = m ((c.tc : Thread Cert.FtOutIdeal.nD Cert.FtOutIdeal.τ).loc Cert.FtOutIdeal.main_arg0)
      ∧ m' ((c.tc : Thread Cert.FtOutRefIdeal.nD Cert.FtOutRefIdeal.τ).loc Cert.FtOutRefIdeal.main_arg1) = m ((c.tc : Thread Cert.FtOutIdeal.nD Cert.FtOutIdeal.τ).loc Cert.FtOutIdeal.main_arg1)
      ∧ m' ((c.tc : Thread Cert.FtOutRefIdeal.nD Cert.FtOutRefIdeal.τ).loc Cert.FtOutRefIdeal.main_arg2) = m ((c.tc : Thread Cert.FtOutIdeal.nD Cert.FtOutIdeal.τ).loc Cert.FtOutIdeal.main_arg2)
      ∧ m' ((c.tc : Thread Cert.FtOutRefIdeal.nD Cert.FtOutRefIdeal.τ).loc Cert.FtOutRefIdeal.main_arg3) = m ((c.tc : Thread Cert.FtOutIdeal.nD Cert.FtOutIdeal.τ).loc Cert.FtOutIdeal.main_arg3)
      ∧ m' ((c.tc : Thread Cert.FtOutRefIdeal.nD Cert.FtOutRefIdeal.τ).loc Cert.FtOutRefIdeal.main_arg4) = m ((c.tc : Thread Cert.FtOutIdeal.nD Cert.FtOutIdeal.τ).loc Cert.FtOutIdeal.main_arg4)
      ∧ m' ((c.tc : Thread Cert.FtOutRefIdeal.nD Cert.FtOutRefIdeal.τ).loc Cert.FtOutRefIdeal.main_arg5) = m ((c.tc : Thread Cert.FtOutIdeal.nD Cert.FtOutIdeal.τ).loc Cert.FtOutIdeal.main_arg5)
      ∧ m' ((c.tc : Thread Cert.FtOutRefIdeal.nD Cert.FtOutRefIdeal.τ).loc Cert.FtOutRefIdeal.main_arg6) = m ((c.tc : Thread Cert.FtOutIdeal.nD Cert.FtOutIdeal.τ).loc Cert.FtOutIdeal.main_arg6)) →
    ∃ (v0 : (c : Dev Cert.FtOutIdeal.nD) → Buf (Elt Ideal) ((c.tc : Thread Cert.FtOutIdeal.nD Cert.FtOutIdeal.τ).loc Cert.FtOutIdeal.main_v4)),
      θ_run (Cert.FtOutIdeal.defs (F := Ideal)) (onTc (τ := Cert.FtOutIdeal.τ) (Cert.FtOutIdeal.main (F := Ideal))) ⟨m, fun _ => 0, g⟩ (fun r => ∀ c : Dev Cert.FtOutIdeal.nD,
          r.2.mem ((c.tc : Thread Cert.FtOutIdeal.nD Cert.FtOutIdeal.τ).loc Cert.FtOutIdeal.main_v4) = v0 c
          ∧ r.2.mem ((c.tc : Thread Cert.FtOutIdeal.nD Cert.FtOutIdeal.τ).loc Cert.FtOutIdeal.main_arg0) = m ((c.tc : Thread Cert.FtOutIdeal.nD Cert.FtOutIdeal.τ).loc Cert.FtOutIdeal.main_arg0)
          ∧ r.2.mem ((c.tc : Thread Cert.FtOutIdeal.nD Cert.FtOutIdeal.τ).loc Cert.FtOutIdeal.main_arg1) = m ((c.tc : Thread Cert.FtOutIdeal.nD Cert.FtOutIdeal.τ).loc Cert.FtOutIdeal.main_arg1)
          ∧ r.2.mem ((c.tc : Thread Cert.FtOutIdeal.nD Cert.FtOutIdeal.τ).loc Cert.FtOutIdeal.main_arg2) = m ((c.tc : Thread Cert.FtOutIdeal.nD Cert.FtOutIdeal.τ).loc Cert.FtOutIdeal.main_arg2)
          ∧ r.2.mem ((c.tc : Thread Cert.FtOutIdeal.nD Cert.FtOutIdeal.τ).loc Cert.FtOutIdeal.main_arg3) = m ((c.tc : Thread Cert.FtOutIdeal.nD Cert.FtOutIdeal.τ).loc Cert.FtOutIdeal.main_arg3)
          ∧ r.2.mem ((c.tc : Thread Cert.FtOutIdeal.nD Cert.FtOutIdeal.τ).loc Cert.FtOutIdeal.main_arg4) = m ((c.tc : Thread Cert.FtOutIdeal.nD Cert.FtOutIdeal.τ).loc Cert.FtOutIdeal.main_arg4)
          ∧ r.2.mem ((c.tc : Thread Cert.FtOutIdeal.nD Cert.FtOutIdeal.τ).loc Cert.FtOutIdeal.main_arg5) = m ((c.tc : Thread Cert.FtOutIdeal.nD Cert.FtOutIdeal.τ).loc Cert.FtOutIdeal.main_arg5)
          ∧ r.2.mem ((c.tc : Thread Cert.FtOutIdeal.nD Cert.FtOutIdeal.τ).loc Cert.FtOutIdeal.main_arg6) = m ((c.tc : Thread Cert.FtOutIdeal.nD Cert.FtOutIdeal.τ).loc Cert.FtOutIdeal.main_arg6))
      ∧ θ_run (Cert.FtOutRefIdeal.defs (F := Ideal)) (onTc (τ := Cert.FtOutRefIdeal.τ) (Cert.FtOutRefIdeal.main (F := Ideal))) ⟨m', fun _ => 0, g'⟩ (fun r => ∀ c : Dev Cert.FtOutRefIdeal.nD,
          r.2.mem ((c.tc : Thread Cert.FtOutRefIdeal.nD Cert.FtOutRefIdeal.τ).loc Cert.FtOutRefIdeal.main_v31) = v0 c
          ∧ r.2.mem ((c.tc : Thread Cert.FtOutRefIdeal.nD Cert.FtOutRefIdeal.τ).loc Cert.FtOutRefIdeal.main_arg0) = m' ((c.tc : Thread Cert.FtOutRefIdeal.nD Cert.FtOutRefIdeal.τ).loc Cert.FtOutRefIdeal.main_arg0)
          ∧ r.2.mem ((c.tc : Thread Cert.FtOutRefIdeal.nD Cert.FtOutRefIdeal.τ).loc Cert.FtOutRefIdeal.main_arg1) = m' ((c.tc : Thread Cert.FtOutRefIdeal.nD Cert.FtOutRefIdeal.τ).loc Cert.FtOutRefIdeal.main_arg1)
          ∧ r.2.mem ((c.tc : Thread Cert.FtOutRefIdeal.nD Cert.FtOutRefIdeal.τ).loc Cert.FtOutRefIdeal.main_arg2) = m' ((c.tc : Thread Cert.FtOutRefIdeal.nD Cert.FtOutRefIdeal.τ).loc Cert.FtOutRefIdeal.main_arg2)
          ∧ r.2.mem ((c.tc : Thread Cert.FtOutRefIdeal.nD Cert.FtOutRefIdeal.τ).loc Cert.FtOutRefIdeal.main_arg3) = m' ((c.tc : Thread Cert.FtOutRefIdeal.nD Cert.FtOutRefIdeal.τ).loc Cert.FtOutRefIdeal.main_arg3)
          ∧ r.2.mem ((c.tc : Thread Cert.FtOutRefIdeal.nD Cert.FtOutRefIdeal.τ).loc Cert.FtOutRefIdeal.main_arg4) = m' ((c.tc : Thread Cert.FtOutRefIdeal.nD Cert.FtOutRefIdeal.τ).loc Cert.FtOutRefIdeal.main_arg4)
          ∧ r.2.mem ((c.tc : Thread Cert.FtOutRefIdeal.nD Cert.FtOutRefIdeal.τ).loc Cert.FtOutRefIdeal.main_arg5) = m' ((c.tc : Thread Cert.FtOutRefIdeal.nD Cert.FtOutRefIdeal.τ).loc Cert.FtOutRefIdeal.main_arg5)
          ∧ r.2.mem ((c.tc : Thread Cert.FtOutRefIdeal.nD Cert.FtOutRefIdeal.τ).loc Cert.FtOutRefIdeal.main_arg6) = m' ((c.tc : Thread Cert.FtOutRefIdeal.nD Cert.FtOutRefIdeal.τ).loc Cert.FtOutRefIdeal.main_arg6))

def preserves_RgOut_RgOutIdeal : Prop :=
  True

def algebraic_RgOutIdeal_RgOutRefIdeal [hRgOutIdeal : Cert.RgOutIdeal.Facts] [hRgOutRefIdeal : Cert.RgOutRefIdeal.Facts] : Prop :=
  ∀ (m : (ℓ : Loc Cert.RgOutIdeal.nD Cert.RgOutIdeal.τ Cert.RgOutIdeal.sig) → Buf (Elt Ideal) ℓ) (g : Dev Cert.RgOutIdeal.nD → PrngReg)
    (m' : (ℓ : Loc Cert.RgOutRefIdeal.nD Cert.RgOutRefIdeal.τ Cert.RgOutRefIdeal.sig) → Buf (Elt Ideal) ℓ) (g' : Dev Cert.RgOutRefIdeal.nD → PrngReg), Pre_RgOutIdeal m →
    (∀ c : Dev Cert.RgOutIdeal.nD,
      m' ((c.tc : Thread Cert.RgOutRefIdeal.nD Cert.RgOutRefIdeal.τ).loc Cert.RgOutRefIdeal.main_arg0) = m ((c.tc : Thread Cert.RgOutIdeal.nD Cert.RgOutIdeal.τ).loc Cert.RgOutIdeal.main_arg0)
      ∧ m' ((c.tc : Thread Cert.RgOutRefIdeal.nD Cert.RgOutRefIdeal.τ).loc Cert.RgOutRefIdeal.main_arg1) = m ((c.tc : Thread Cert.RgOutIdeal.nD Cert.RgOutIdeal.τ).loc Cert.RgOutIdeal.main_arg1)
      ∧ m' ((c.tc : Thread Cert.RgOutRefIdeal.nD Cert.RgOutRefIdeal.τ).loc Cert.RgOutRefIdeal.main_arg2) = m ((c.tc : Thread Cert.RgOutIdeal.nD Cert.RgOutIdeal.τ).loc Cert.RgOutIdeal.main_arg2)
      ∧ m' ((c.tc : Thread Cert.RgOutRefIdeal.nD Cert.RgOutRefIdeal.τ).loc Cert.RgOutRefIdeal.main_arg3) = m ((c.tc : Thread Cert.RgOutIdeal.nD Cert.RgOutIdeal.τ).loc Cert.RgOutIdeal.main_arg3)
      ∧ m' ((c.tc : Thread Cert.RgOutRefIdeal.nD Cert.RgOutRefIdeal.τ).loc Cert.RgOutRefIdeal.main_arg4) = m ((c.tc : Thread Cert.RgOutIdeal.nD Cert.RgOutIdeal.τ).loc Cert.RgOutIdeal.main_arg4)
      ∧ m' ((c.tc : Thread Cert.RgOutRefIdeal.nD Cert.RgOutRefIdeal.τ).loc Cert.RgOutRefIdeal.main_arg5) = m ((c.tc : Thread Cert.RgOutIdeal.nD Cert.RgOutIdeal.τ).loc Cert.RgOutIdeal.main_arg5)) →
    ∃ (v0 : (c : Dev Cert.RgOutIdeal.nD) → Buf (Elt Ideal) ((c.tc : Thread Cert.RgOutIdeal.nD Cert.RgOutIdeal.τ).loc Cert.RgOutIdeal.main_v7)),
      θ_run (Cert.RgOutIdeal.defs (F := Ideal)) (onTc (τ := Cert.RgOutIdeal.τ) (Cert.RgOutIdeal.main (F := Ideal))) ⟨m, fun _ => 0, g⟩ (fun r => ∀ c : Dev Cert.RgOutIdeal.nD,
          r.2.mem ((c.tc : Thread Cert.RgOutIdeal.nD Cert.RgOutIdeal.τ).loc Cert.RgOutIdeal.main_v7) = v0 c
          ∧ r.2.mem ((c.tc : Thread Cert.RgOutIdeal.nD Cert.RgOutIdeal.τ).loc Cert.RgOutIdeal.main_arg0) = m ((c.tc : Thread Cert.RgOutIdeal.nD Cert.RgOutIdeal.τ).loc Cert.RgOutIdeal.main_arg0)
          ∧ r.2.mem ((c.tc : Thread Cert.RgOutIdeal.nD Cert.RgOutIdeal.τ).loc Cert.RgOutIdeal.main_arg1) = m ((c.tc : Thread Cert.RgOutIdeal.nD Cert.RgOutIdeal.τ).loc Cert.RgOutIdeal.main_arg1)
          ∧ r.2.mem ((c.tc : Thread Cert.RgOutIdeal.nD Cert.RgOutIdeal.τ).loc Cert.RgOutIdeal.main_arg2) = m ((c.tc : Thread Cert.RgOutIdeal.nD Cert.RgOutIdeal.τ).loc Cert.RgOutIdeal.main_arg2)
          ∧ r.2.mem ((c.tc : Thread Cert.RgOutIdeal.nD Cert.RgOutIdeal.τ).loc Cert.RgOutIdeal.main_arg3) = m ((c.tc : Thread Cert.RgOutIdeal.nD Cert.RgOutIdeal.τ).loc Cert.RgOutIdeal.main_arg3)
          ∧ r.2.mem ((c.tc : Thread Cert.RgOutIdeal.nD Cert.RgOutIdeal.τ).loc Cert.RgOutIdeal.main_arg4) = m ((c.tc : Thread Cert.RgOutIdeal.nD Cert.RgOutIdeal.τ).loc Cert.RgOutIdeal.main_arg4)
          ∧ r.2.mem ((c.tc : Thread Cert.RgOutIdeal.nD Cert.RgOutIdeal.τ).loc Cert.RgOutIdeal.main_arg5) = m ((c.tc : Thread Cert.RgOutIdeal.nD Cert.RgOutIdeal.τ).loc Cert.RgOutIdeal.main_arg5))
      ∧ θ_run (Cert.RgOutRefIdeal.defs (F := Ideal)) (onTc (τ := Cert.RgOutRefIdeal.τ) (Cert.RgOutRefIdeal.main (F := Ideal))) ⟨m', fun _ => 0, g'⟩ (fun r => ∀ c : Dev Cert.RgOutRefIdeal.nD,
          r.2.mem ((c.tc : Thread Cert.RgOutRefIdeal.nD Cert.RgOutRefIdeal.τ).loc Cert.RgOutRefIdeal.main_v32) = v0 c
          ∧ r.2.mem ((c.tc : Thread Cert.RgOutRefIdeal.nD Cert.RgOutRefIdeal.τ).loc Cert.RgOutRefIdeal.main_arg0) = m' ((c.tc : Thread Cert.RgOutRefIdeal.nD Cert.RgOutRefIdeal.τ).loc Cert.RgOutRefIdeal.main_arg0)
          ∧ r.2.mem ((c.tc : Thread Cert.RgOutRefIdeal.nD Cert.RgOutRefIdeal.τ).loc Cert.RgOutRefIdeal.main_arg1) = m' ((c.tc : Thread Cert.RgOutRefIdeal.nD Cert.RgOutRefIdeal.τ).loc Cert.RgOutRefIdeal.main_arg1)
          ∧ r.2.mem ((c.tc : Thread Cert.RgOutRefIdeal.nD Cert.RgOutRefIdeal.τ).loc Cert.RgOutRefIdeal.main_arg2) = m' ((c.tc : Thread Cert.RgOutRefIdeal.nD Cert.RgOutRefIdeal.τ).loc Cert.RgOutRefIdeal.main_arg2)
          ∧ r.2.mem ((c.tc : Thread Cert.RgOutRefIdeal.nD Cert.RgOutRefIdeal.τ).loc Cert.RgOutRefIdeal.main_arg3) = m' ((c.tc : Thread Cert.RgOutRefIdeal.nD Cert.RgOutRefIdeal.τ).loc Cert.RgOutRefIdeal.main_arg3)
          ∧ r.2.mem ((c.tc : Thread Cert.RgOutRefIdeal.nD Cert.RgOutRefIdeal.τ).loc Cert.RgOutRefIdeal.main_arg4) = m' ((c.tc : Thread Cert.RgOutRefIdeal.nD Cert.RgOutRefIdeal.τ).loc Cert.RgOutRefIdeal.main_arg4)
          ∧ r.2.mem ((c.tc : Thread Cert.RgOutRefIdeal.nD Cert.RgOutRefIdeal.τ).loc Cert.RgOutRefIdeal.main_arg5) = m' ((c.tc : Thread Cert.RgOutRefIdeal.nD Cert.RgOutRefIdeal.τ).loc Cert.RgOutRefIdeal.main_arg5))

def preserves_RgIn_RgInIdeal : Prop :=
  True

def algebraic_RgInIdeal_RgInRefIdeal [hRgInIdeal : Cert.RgInIdeal.Facts] [hRgInRefIdeal : Cert.RgInRefIdeal.Facts] : Prop :=
  ∀ (m : (ℓ : Loc Cert.RgInIdeal.nD Cert.RgInIdeal.τ Cert.RgInIdeal.sig) → Buf (Elt Ideal) ℓ) (g : Dev Cert.RgInIdeal.nD → PrngReg)
    (m' : (ℓ : Loc Cert.RgInRefIdeal.nD Cert.RgInRefIdeal.τ Cert.RgInRefIdeal.sig) → Buf (Elt Ideal) ℓ) (g' : Dev Cert.RgInRefIdeal.nD → PrngReg), Pre_RgInIdeal m →
    (∀ c : Dev Cert.RgInIdeal.nD,
      m' ((c.tc : Thread Cert.RgInRefIdeal.nD Cert.RgInRefIdeal.τ).loc Cert.RgInRefIdeal.main_arg0) = m ((c.tc : Thread Cert.RgInIdeal.nD Cert.RgInIdeal.τ).loc Cert.RgInIdeal.main_arg0)
      ∧ m' ((c.tc : Thread Cert.RgInRefIdeal.nD Cert.RgInRefIdeal.τ).loc Cert.RgInRefIdeal.main_arg1) = m ((c.tc : Thread Cert.RgInIdeal.nD Cert.RgInIdeal.τ).loc Cert.RgInIdeal.main_arg1)
      ∧ m' ((c.tc : Thread Cert.RgInRefIdeal.nD Cert.RgInRefIdeal.τ).loc Cert.RgInRefIdeal.main_arg2) = m ((c.tc : Thread Cert.RgInIdeal.nD Cert.RgInIdeal.τ).loc Cert.RgInIdeal.main_arg2)
      ∧ m' ((c.tc : Thread Cert.RgInRefIdeal.nD Cert.RgInRefIdeal.τ).loc Cert.RgInRefIdeal.main_arg3) = m ((c.tc : Thread Cert.RgInIdeal.nD Cert.RgInIdeal.τ).loc Cert.RgInIdeal.main_arg3)) →
    ∃ (v0 : (c : Dev Cert.RgInIdeal.nD) → Buf (Elt Ideal) ((c.tc : Thread Cert.RgInIdeal.nD Cert.RgInIdeal.τ).loc Cert.RgInIdeal.main_v33_0)) (v1 : (c : Dev Cert.RgInIdeal.nD) → Buf (Elt Ideal) ((c.tc : Thread Cert.RgInIdeal.nD Cert.RgInIdeal.τ).loc Cert.RgInIdeal.main_v33_1)) (v2 : (c : Dev Cert.RgInIdeal.nD) → Buf (Elt Ideal) ((c.tc : Thread Cert.RgInIdeal.nD Cert.RgInIdeal.τ).loc Cert.RgInIdeal.main_v33_2)),
      θ_run (Cert.RgInIdeal.defs (F := Ideal)) (onTc (τ := Cert.RgInIdeal.τ) (Cert.RgInIdeal.main (F := Ideal))) ⟨m, fun _ => 0, g⟩ (fun r => ∀ c : Dev Cert.RgInIdeal.nD,
          r.2.mem ((c.tc : Thread Cert.RgInIdeal.nD Cert.RgInIdeal.τ).loc Cert.RgInIdeal.main_v33_0) = v0 c
          ∧ r.2.mem ((c.tc : Thread Cert.RgInIdeal.nD Cert.RgInIdeal.τ).loc Cert.RgInIdeal.main_v33_1) = v1 c
          ∧ r.2.mem ((c.tc : Thread Cert.RgInIdeal.nD Cert.RgInIdeal.τ).loc Cert.RgInIdeal.main_v33_2) = v2 c
          ∧ r.2.mem ((c.tc : Thread Cert.RgInIdeal.nD Cert.RgInIdeal.τ).loc Cert.RgInIdeal.main_arg0) = m ((c.tc : Thread Cert.RgInIdeal.nD Cert.RgInIdeal.τ).loc Cert.RgInIdeal.main_arg0)
          ∧ r.2.mem ((c.tc : Thread Cert.RgInIdeal.nD Cert.RgInIdeal.τ).loc Cert.RgInIdeal.main_arg1) = m ((c.tc : Thread Cert.RgInIdeal.nD Cert.RgInIdeal.τ).loc Cert.RgInIdeal.main_arg1)
          ∧ r.2.mem ((c.tc : Thread Cert.RgInIdeal.nD Cert.RgInIdeal.τ).loc Cert.RgInIdeal.main_arg2) = m ((c.tc : Thread Cert.RgInIdeal.nD Cert.RgInIdeal.τ).loc Cert.RgInIdeal.main_arg2)
          ∧ r.2.mem ((c.tc : Thread Cert.RgInIdeal.nD Cert.RgInIdeal.τ).loc Cert.RgInIdeal.main_arg3) = m ((c.tc : Thread Cert.RgInIdeal.nD Cert.RgInIdeal.τ).loc Cert.RgInIdeal.main_arg3))
      ∧ θ_run (Cert.RgInRefIdeal.defs (F := Ideal)) (onTc (τ := Cert.RgInRefIdeal.τ) (Cert.RgInRefIdeal.main (F := Ideal))) ⟨m', fun _ => 0, g'⟩ (fun r => ∀ c : Dev Cert.RgInRefIdeal.nD,
          r.2.mem ((c.tc : Thread Cert.RgInRefIdeal.nD Cert.RgInRefIdeal.τ).loc Cert.RgInRefIdeal.main_v33) = v0 c
          ∧ r.2.mem ((c.tc : Thread Cert.RgInRefIdeal.nD Cert.RgInRefIdeal.τ).loc Cert.RgInRefIdeal.main_v62) = v1 c
          ∧ r.2.mem ((c.tc : Thread Cert.RgInRefIdeal.nD Cert.RgInRefIdeal.τ).loc Cert.RgInRefIdeal.main_v64) = v2 c
          ∧ r.2.mem ((c.tc : Thread Cert.RgInRefIdeal.nD Cert.RgInRefIdeal.τ).loc Cert.RgInRefIdeal.main_arg0) = m' ((c.tc : Thread Cert.RgInRefIdeal.nD Cert.RgInRefIdeal.τ).loc Cert.RgInRefIdeal.main_arg0)
          ∧ r.2.mem ((c.tc : Thread Cert.RgInRefIdeal.nD Cert.RgInRefIdeal.τ).loc Cert.RgInRefIdeal.main_arg1) = m' ((c.tc : Thread Cert.RgInRefIdeal.nD Cert.RgInRefIdeal.τ).loc Cert.RgInRefIdeal.main_arg1)
          ∧ r.2.mem ((c.tc : Thread Cert.RgInRefIdeal.nD Cert.RgInRefIdeal.τ).loc Cert.RgInRefIdeal.main_arg2) = m' ((c.tc : Thread Cert.RgInRefIdeal.nD Cert.RgInRefIdeal.τ).loc Cert.RgInRefIdeal.main_arg2)
          ∧ r.2.mem ((c.tc : Thread Cert.RgInRefIdeal.nD Cert.RgInRefIdeal.τ).loc Cert.RgInRefIdeal.main_arg3) = m' ((c.tc : Thread Cert.RgInRefIdeal.nD Cert.RgInRefIdeal.τ).loc Cert.RgInRefIdeal.main_arg3))

def Claim : Prop :=
  ∃ (hFfn : Cert.Ffn.Facts) (hFfnIdeal : Cert.FfnIdeal.Facts) (hFfnRefIdeal : Cert.FfnRefIdeal.Facts) (hScan : Cert.Scan.Facts) (hScanIdeal : Cert.ScanIdeal.Facts) (hScanRefIdeal : Cert.ScanRefIdeal.Facts) (hConfIn : Cert.ConfIn.Facts) (hConfInIdeal : Cert.ConfInIdeal.Facts) (hConfInRefIdeal : Cert.ConfInRefIdeal.Facts) (hFtOut : Cert.FtOut.Facts) (hFtOutIdeal : Cert.FtOutIdeal.Facts) (hFtOutRefIdeal : Cert.FtOutRefIdeal.Facts) (hRgOut : Cert.RgOut.Facts) (hRgOutIdeal : Cert.RgOutIdeal.Facts) (hRgOutRefIdeal : Cert.RgOutRefIdeal.Facts) (hRgIn : Cert.RgIn.Facts) (hRgInIdeal : Cert.RgInIdeal.Facts) (hRgInRefIdeal : Cert.RgInRefIdeal.Facts) (hOn_block_lanes : Cert.On_block_lanes.Facts),
    quiescent_Ffn (hFfn := hFfn)
    ∧ quiescent_FfnIdeal (hFfnIdeal := hFfnIdeal)
    ∧ quiescent_FfnRefIdeal (hFfnRefIdeal := hFfnRefIdeal)
    ∧ quiescent_Scan (hScan := hScan)
    ∧ quiescent_ScanIdeal (hScanIdeal := hScanIdeal)
    ∧ quiescent_ScanRefIdeal (hScanRefIdeal := hScanRefIdeal)
    ∧ quiescent_ConfIn (hConfIn := hConfIn)
    ∧ quiescent_ConfInIdeal (hConfInIdeal := hConfInIdeal)
    ∧ quiescent_ConfInRefIdeal (hConfInRefIdeal := hConfInRefIdeal)
    ∧ quiescent_FtOut (hFtOut := hFtOut)
    ∧ quiescent_FtOutIdeal (hFtOutIdeal := hFtOutIdeal)
    ∧ quiescent_FtOutRefIdeal (hFtOutRefIdeal := hFtOutRefIdeal)
    ∧ quiescent_RgOut (hRgOut := hRgOut)
    ∧ quiescent_RgOutIdeal (hRgOutIdeal := hRgOutIdeal)
    ∧ quiescent_RgOutRefIdeal (hRgOutRefIdeal := hRgOutRefIdeal)
    ∧ quiescent_RgIn (hRgIn := hRgIn)
    ∧ quiescent_RgInIdeal (hRgInIdeal := hRgInIdeal)
    ∧ quiescent_RgInRefIdeal (hRgInRefIdeal := hRgInRefIdeal)
    ∧ preserves_Ffn_FfnIdeal
    ∧ algebraic_FfnIdeal_FfnRefIdeal (hFfnIdeal := hFfnIdeal) (hFfnRefIdeal := hFfnRefIdeal)
    ∧ preserves_Scan_ScanIdeal
    ∧ algebraic_ScanIdeal_ScanRefIdeal_on_block_lanes (hScanIdeal := hScanIdeal) (hScanRefIdeal := hScanRefIdeal) (hOn_block_lanes := hOn_block_lanes)
    ∧ preserves_ConfIn_ConfInIdeal
    ∧ algebraic_ConfInIdeal_ConfInRefIdeal (hConfInIdeal := hConfInIdeal) (hConfInRefIdeal := hConfInRefIdeal)
    ∧ preserves_FtOut_FtOutIdeal
    ∧ algebraic_FtOutIdeal_FtOutRefIdeal (hFtOutIdeal := hFtOutIdeal) (hFtOutRefIdeal := hFtOutRefIdeal)
    ∧ preserves_RgOut_RgOutIdeal
    ∧ algebraic_RgOutIdeal_RgOutRefIdeal (hRgOutIdeal := hRgOutIdeal) (hRgOutRefIdeal := hRgOutRefIdeal)
    ∧ preserves_RgIn_RgInIdeal
    ∧ algebraic_RgInIdeal_RgInRefIdeal (hRgInIdeal := hRgInIdeal) (hRgInRefIdeal := hRgInRefIdeal)
-- ==== On_block_lanes.lean ====
abbrev S2x8192x3072 : Shape := ⟨3, ![2, 8192, 3072]⟩
abbrev S4x2816 : Shape := ⟨2, ![4, 2816]⟩
abbrev S2816 : Shape := ⟨1, ![2816]⟩
abbrev S16x176x176 : Shape := ⟨3, ![16, 176, 176]⟩
abbrev S2x1x3072 : Shape := ⟨3, ![2, 1, 3072]⟩
abbrev S192 : Shape := ⟨1, ![192]⟩
abbrev S_ : Shape := ⟨0, ![]⟩
abbrev S2x8192x16x192 : Shape := ⟨4, ![2, 8192, 16, 192]⟩
abbrev S2x16x192 : Shape := ⟨3, ![2, 16, 192]⟩

class Facts : Prop where
  bcast_S_S192 : S_.BroadcastsInDim S192 (![] : Fin 0 → Fin S192.rank)
  bcast_S192_S2x8192x16x192_3 : S192.BroadcastsInDim S2x8192x16x192 (![3] : Fin 1 → Fin S2x8192x16x192.rank)
  shapeCasts_S2x8192x16x192_S2x8192x3072 : S2x8192x16x192.ShapeCasts S2x8192x3072
  bcast_S192_S2x16x192_2 : S192.BroadcastsInDim S2x16x192 (![2] : Fin 1 → Fin S2x16x192.rank)
  shapeCasts_S2x16x192_S2x1x3072 : S2x16x192.ShapeCasts S2x1x3072

variable [Facts]

def fn {F : FTy → Type} [FloatOps F] (main_arg0 : FVec F S2x8192x3072 .f32) (main_arg1 : FVec F S4x2816 .f32) (main_arg2 : FVec F S2816 .f32) (main_arg3 : FVec F S16x176x176 .f32) (main_arg4 : FVec F S2816 .f32) (main_arg5 : FVec F S16x176x176 .f32) (main_arg6 : FVec F S2816 .f32) (main_arg7 : FVec F S2816 .f32) (main_arg8 : FVec F S2x1x3072 .f32) : IVec S2x8192x3072 1 × IVec S2x1x3072 1 :=
  let main_v0 : IVec S192 32 := iotaInDim S192 32 0
  let main_c : IVec S_ 32 := constantI S_ 32 176#32
  let main_v1 : IVec S192 32 := broadcastInDim S192 ![] bcast_S_S192 main_c
  let main_v2 : IVec S192 1 := cmpi .slt main_v0 main_v1
  let main_v3 : IVec S2x8192x16x192 1 := broadcastInDim S2x8192x16x192 ![3] bcast_S192_S2x8192x16x192_3 main_v2
  let main_v4 : IVec S2x8192x3072 1 := shapeCast S2x8192x3072 main_v3 shapeCasts_S2x8192x16x192_S2x8192x3072
  let main_v5 : IVec S2x16x192 1 := broadcastInDim S2x16x192 ![2] bcast_S192_S2x16x192_2 main_v2
  let main_v6 : IVec S2x1x3072 1 := shapeCast S2x1x3072 main_v5 shapeCasts_S2x16x192_S2x1x3072
  (main_v4, main_v6)
-- ==== Ffn.lean ====
abbrev S2x8192x2048 : Shape := ⟨3, ![2, 8192, 2048]⟩
abbrev S8x6x2048 : Shape := ⟨3, ![8, 6, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1x512x2048 : Shape := ⟨3, ![1, 512, 2048]⟩
abbrev S1x6x2048 : Shape := ⟨3, ![1, 6, 2048]⟩
abbrev S2048x512 : Shape := ⟨2, ![2048, 512]⟩
abbrev S512x2048 : Shape := ⟨2, ![512, 2048]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S8x6x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1x512x2048, .f32⟩
  | .local _ .vmem, ⟨13, _⟩ => ⟨S1x512x2048, .f32⟩
  | .local _ .vmem, ⟨14, _⟩ => ⟨S512x2048, .bf16⟩
  | .local _ .vmem, ⟨15, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnRefIdeal.lean ====
abbrev S2x8192x2048 : Shape := ⟨3, ![2, 8192, 2048]⟩
abbrev S8x6x2048 : Shape := ⟨3, ![8, 6, 2048]⟩
abbrev S2048x5632 : Shape := ⟨2, ![2048, 5632]⟩
abbrev S5632x2048 : Shape := ⟨2, ![5632, 2048]⟩
abbrev S2048 : Shape := ⟨1, ![2048]⟩
abbrev S2x6x2048 : Shape := ⟨3, ![2, 6, 2048]⟩
abbrev S2x1x2048 : Shape := ⟨3, ![2, 1, 2048]⟩
abbrev S_ : Shape := ⟨0, ![]⟩
abbrev S2x8192x5632 : Shape := ⟨3, ![2, 8192, 5632]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x6x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2x6x2048, .f32⟩
  | .hbm, ⟨8, _⟩ => ⟨S2x1x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S2x8192x2048, .f32⟩
  | .hbm, ⟨13, _⟩ => ⟨S2x8192x2048, .f32⟩
  | .hbm, ⟨14, _⟩ => ⟨S2x1x2048, .f32⟩
  | .hbm, ⟨15, _⟩ => ⟨S2x8192x2048, .f32⟩
  | .hbm, ⟨16, _⟩ => ⟨S2x8192x2048, .f32⟩
  | .hbm, ⟨17, _⟩ => ⟨S2x8192x5632, .f32⟩
  | .hbm, ⟨18, _⟩ => ⟨S2x8192x5632, .f32⟩
  | .hbm, ⟨19, _⟩ => ⟨S2x8192x5632, .f32⟩
  | .hbm, ⟨20, _⟩ => ⟨S_, .f32⟩
  | .hbm, ⟨21, _⟩ => ⟨S2x8192x5632, .f32⟩
  | .hbm, ⟨22, _⟩ => ⟨S2x8192x5632, .f32⟩
  | .hbm, ⟨23, _⟩ => ⟨S_, .f32⟩
  | .hbm, ⟨24, _⟩ => ⟨S2x8192x5632, .f32⟩
  | .hbm, ⟨25, _⟩ => ⟨S2x8192x5632, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S2x8192x2048, .f32⟩
  | .hbm, ⟨30, _⟩ => ⟨S_, .f32⟩
  | .hbm, ⟨31, _⟩ => ⟨S2x8192x2048, .f32⟩
  | .hbm, ⟨32, _⟩ => ⟨S2x8192x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x2048, .f32⟩
  | .hbm, ⟨57, _⟩ => ⟨S2x8192x2048, .f32⟩
  | .hbm, ⟨58, _⟩ => ⟨S1x1x2048, .f32⟩
  | .hbm, ⟨59, _⟩ => ⟨S2x8192x2048, .f32⟩
  | .hbm, ⟨60, _⟩ => ⟨S2x8192x2048, .f32⟩
  | .hbm, ⟨61, _⟩ => ⟨S1x1x2048, .f32⟩
  | .hbm, ⟨62, _⟩ => ⟨S2x8192x2048, .f32⟩
  | .hbm, ⟨63, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Scan.lean ====
abbrev S2x8192x3072 : Shape := ⟨3, ![2, 8192, 3072]⟩
abbrev S4x2816 : Shape := ⟨2, ![4, 2816]⟩
abbrev S2816 : Shape := ⟨1, ![2816]⟩
abbrev S16x176x176 : Shape := ⟨3, ![16, 176, 176]⟩
abbrev S2x1x3072 : Shape := ⟨3, ![2, 1, 3072]⟩
abbrev S4x16x176 : Shape := ⟨3, ![4, 16, 176]⟩
abbrev S_ : Shape := ⟨0, ![]⟩
abbrev S4x16x192 : Shape := ⟨3, ![4, 16, 192]⟩
abbrev S4x3072 : Shape := ⟨2, ![4, 3072]⟩
abbrev S16x176 : Shape := ⟨2, ![16, 176]⟩
abbrev S16x192 : Shape := ⟨2, ![16, 192]⟩
abbrev S3072 : Shape := ⟨1, ![3072]⟩
abbrev S1x3072 : Shape := ⟨2, ![1, 3072]⟩
abbrev S16x192x192 : Shape := ⟨3, ![16, 192, 192]⟩
abbrev S8x2x192x192 : Shape := ⟨4, ![8, 2, 192, 192]⟩
abbrev S8x2x192x2x192 : Shape := ⟨5, ![8, 2, 192, 2, 192]⟩
abbrev S8x1x192x192 : Shape := ⟨4, ![8, 1, 192, 192]⟩
abbrev S8x192x192 : Shape := ⟨3, ![8, 192, 192]⟩
abbrev S1 : Shape := ⟨1, ![1]⟩
abbrev S2 : Shape := ⟨1, ![2]⟩
abbrev S8x384x384 : Shape := ⟨3, ![8, 384, 384]⟩
abbrev S8x384x768 : Shape := ⟨3, ![8, 384, 768]⟩
abbrev S8x1x384 : Shape := ⟨3, ![8, 1, 384]⟩
abbrev S8x1x768 : Shape := ⟨3, ![8, 1, 768]⟩
abbrev S1x512x384 : Shape := ⟨3, ![1, 512, 384]⟩
abbrev S1x8x384 : Shape := ⟨3, ![1, 8, 384]⟩
abbrev S4x384 : Shape := ⟨2, ![4, 384]⟩
abbrev S1x384 : Shape := ⟨2, ![1, 384]⟩
abbrev S1x384x768 : Shape := ⟨3, ![1, 384, 768]⟩
abbrev S1x1x768 : Shape := ⟨3, ![1, 1, 768]⟩
abbrev S1x1x384 : Shape := ⟨3, ![1, 1, 384]⟩
abbrev S528x384 : Shape := ⟨2, ![528, 384]⟩
abbrev S512x384 : Shape := ⟨2, ![512, 384]⟩
abbrev S8x384 : Shape := ⟨2, ![8, 384]⟩
abbrev S384x768 : Shape := ⟨2, ![384, 768]⟩
abbrev S512x768 : Shape := ⟨2, ![512, 768]⟩
abbrev S1x768 : Shape := ⟨2, ![1, 768]⟩

abbrev nBuf : Space → Nat
  | .hbm => 89
  | .vmem => 26
  | .smem => 0
  | _ => 0

abbrev bufTy : (tb : Table) → Fin (tcTables nBuf tb) → BufTy
  | .hbm, ⟨0, _⟩ => ⟨S2x8192x3072, .f32⟩
  | .hbm, ⟨1, _⟩ => ⟨S4x2816, .f32⟩
  | .hbm, ⟨2, _⟩ => ⟨S2816, .f32⟩
  | .hbm, ⟨3, _⟩ => ⟨S16x176x176, .f32⟩
  | .hbm, ⟨4, _⟩ => ⟨S2816, .f32⟩
  | .hbm, ⟨5, _⟩ => ⟨S16x176x176, .f32⟩
  | .hbm, ⟨6, _⟩ => ⟨S2816, .f32⟩
  | .hbm, ⟨7, _⟩ => ⟨S2816, .f32⟩
  | .hbm, ⟨8, _⟩ => ⟨S2x1x3072, .f32⟩
  | .hbm, ⟨9, _⟩ => ⟨S4x16x176, .f32⟩
  | .hbm, ⟨10, _⟩ => ⟨S_, .i32⟩
  | .hbm, ⟨11, _⟩ => ⟨S_, .f32⟩
  | .hbm, ⟨12, _⟩ => ⟨S4x16x192, .f32⟩
  | .hbm, ⟨13, _⟩ => ⟨S4x3072, .f32⟩
  | .hbm, ⟨14, _⟩ => ⟨S16x176, .f32⟩
  | .hbm, ⟨15, _⟩ => ⟨S_, .i32⟩
  | .hbm, ⟨16, _⟩ => ⟨S_, .f32⟩
  | .hbm, ⟨17, _⟩ => ⟨S16x192, .f32⟩
  | .hbm, ⟨18, _⟩ => ⟨S3072, .f32⟩
  | .hbm, ⟨19, _⟩ => ⟨S1x3072, .f32⟩
  | .hbm, ⟨20, _⟩ => ⟨S_, .i32⟩
  | .hbm, ⟨21, _⟩ => ⟨S_, .f32⟩
  | .hbm, ⟨22, _⟩ => ⟨S16x192x192, .f32⟩
  | .hbm, ⟨23, _⟩ => ⟨S8x2x192x192, .f32⟩
  | .hbm, ⟨24, _⟩ => ⟨S_, .f32⟩
  | .hbm, ⟨25, _⟩ => ⟨S8x2x192x2x192, .f32⟩
  | .hbm, ⟨26, _⟩ => ⟨S8x1x192x192, .f32⟩
  | .hbm, ⟨27, _⟩ => ⟨S8x192x192, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x2x192x2x192, .f32⟩
  | .hbm, ⟨34, _⟩ => ⟨S8x1x192x192, .f32⟩
  | .hbm, ⟨35, _⟩ => ⟨S8x192x192, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S8x2x192x2x192, .f32⟩
  | .hbm, ⟨42, _⟩ => ⟨S8x384x384, .f32⟩
  | .hbm, ⟨43, _⟩ => ⟨S_, .i32⟩
  | .hbm, ⟨44, _⟩ => ⟨S_, .f32⟩
  | .hbm, ⟨45, _⟩ => ⟨S16x192x192, .f32⟩
  | .hbm, ⟨46, _⟩ => ⟨S8x2x192x192, .f32⟩
  | .hbm, ⟨47, _⟩ => ⟨S_, .f32⟩
  | .hbm, ⟨48, _⟩ => ⟨S8x2x192x2x192, .f32⟩
  | .hbm, ⟨49, _⟩ => ⟨S8x1x192x192, .f32⟩
  | .hbm, ⟨50, _⟩ => ⟨S8x192x192, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S8x2x192x2x192, .f32⟩
  | .hbm, ⟨57, _⟩ => ⟨S8x1x192x192, .f32⟩
  | .hbm, ⟨58, _⟩ => ⟨S8x192x192, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S8x2x192x2x192, .f32⟩
  | .hbm, ⟨65, _⟩ => ⟨S8x384x384, .f32⟩
  | .hbm, ⟨66, _⟩ => ⟨S8x384x768, .f32⟩
  | .hbm, ⟨67, _⟩ => ⟨S8x384x768, .bf16⟩
  | .hbm, ⟨68, _⟩ => ⟨S16x176, .f32⟩
  | .hbm, ⟨69, _⟩ => ⟨S_, .i32⟩
  | .hbm, ⟨70, _⟩ => ⟨S_, .f32⟩
  | .hbm, ⟨71, _⟩ => ⟨S16x192, .f32⟩
  | .hbm, ⟨72, _⟩ => ⟨S3072, .f32⟩
  | .hbm, ⟨73, _⟩ => ⟨S8x1x384, .f32⟩
  | .hbm, ⟨74, _⟩ => ⟨S16x176, .f32⟩
  | .hbm, ⟨75, _⟩ => ⟨S_, .i32⟩
  | .hbm, ⟨76, _⟩ => ⟨S_, .f32⟩
  | .hbm, ⟨77, _⟩ => ⟨S16x192, .f32⟩
  | .hbm, ⟨78, _⟩ => ⟨S3072, .f32⟩
  | .hbm, ⟨79, _⟩ => ⟨S8x1x384, .f32⟩
  | .hbm, ⟨80, _⟩ => ⟨S8x1x768, .f32⟩
  | .hbm, ⟨81, _⟩ => ⟨S16x176, .f32⟩
  | .hbm, ⟨82, _⟩ => ⟨S_, .i32⟩
  | .hbm, ⟨83, _⟩ => ⟨S_, .f32⟩
  | .hbm, ⟨84, _⟩ => ⟨S16x192, .f32⟩
  | .hbm, ⟨85, _⟩ => ⟨S3072, .f32⟩
  | .hbm, ⟨86, _⟩ => ⟨S1x3072, .f32⟩
  | .hbm, ⟨87, _⟩ => ⟨S2x8192x3072, .f32⟩
  | .hbm, ⟨88, _⟩ => ⟨S2x1x3072, .f32⟩
  | .local _ .vmem, ⟨0, _⟩ => ⟨S1x512x384, .f32⟩
  | .local _ .vmem, ⟨1, _⟩ => ⟨S1x512x384, .f32⟩
  | .local _ .vmem, ⟨2, _⟩ => ⟨S1x8x384, .f32⟩
  | .local _ .vmem, ⟨3, _⟩ => ⟨S1x8x384, .f32⟩
  | .local _ .vmem, ⟨4, _⟩ => ⟨S1x8x384, .f32⟩
  | .local _ .vmem, ⟨5, _⟩ => ⟨S1x8x384, .f32⟩
  | .local _ .vmem, ⟨6, _⟩ => ⟨S4x384, .f32⟩
  | .local _ .vmem, ⟨7, _⟩ => ⟨S4x384, .f32⟩
  | .local _ .vmem, ⟨8, _⟩ => ⟨S1x384, .f32⟩
  | .local _ .vmem, ⟨9, _⟩ => ⟨S1x384, .f32⟩
  | .local _ .vmem, ⟨10, _⟩ => ⟨S1x384x768, .bf16⟩
  | .local _ .vmem, ⟨11, _⟩ => ⟨S1x384x768, .bf16⟩
  | .local _ .vmem, ⟨12, _⟩ => ⟨S1x1x768, .f32⟩
  | .local _ .vmem, ⟨13, _⟩ => ⟨S1x1x768, .f32⟩
  | .local _ .vmem, ⟨14, _⟩ => ⟨S1x384, .f32⟩
  | .local _ .vmem, ⟨15, _⟩ => ⟨S1x384, .f32⟩
  | .local _ .vmem, ⟨16, _⟩ => ⟨S1x1x384, .f32⟩
  | .local _ .vmem, ⟨17, _⟩ => ⟨S1x1x384, .f32⟩
  | .local _ .vmem, ⟨18, _⟩ => ⟨S1x512x384, .f32⟩
  | .local _ .vmem, ⟨19, _⟩ => ⟨S1x512x384, .f32⟩
  | .local _ .vmem, ⟨20, _⟩ => ⟨S1x1x384, .f32⟩
  | .local _ .vmem, ⟨21, _⟩ => ⟨S1x1x384, .f32⟩
  | .local _ .vmem, ⟨22, _⟩ => ⟨S528x384, .f32⟩
  | .local _ .vmem, ⟨23, _⟩ => ⟨S512x384, .f32⟩
  | .local _ .vmem, ⟨24, _⟩ => ⟨S512x384, .f32⟩
  | .local _ .vmem, ⟨25, _⟩ => ⟨S1x384, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_c_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_call4_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_13 : Ref sig .tc := ⟨.hbm, 75, rfl⟩
abbrev main_call5_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_14 : Ref sig .tc := ⟨.hbm, 82, rfl⟩
abbrev main_call6_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54_0 : Ref sig .tc := ⟨.hbm, 87, rfl⟩
abbrev main_v54_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_48 : BitVec 32 := 0#32
  let c64_i32 : BitVec 32 := 64#32
  let v97 : BitVec 32 := Scalar.addi c0_i32_48 c64_i32
  let c1_i32 : BitVec 32 := 1#32
  ⟨c0_i32_48, v97, c1_i32⟩
def k0_mult1 (k0_t1 : Fin k0_t1_loop.trips) : BitVec 32 :=
  let c0_i32_48 : BitVec 32 := 0#32
  let c1_i32 : BitVec 32 := 1#32
  let arg18 : BitVec 32 := Scf.iv c0_i32_48 c1_i32 k0_t1
  let c8_i32 : BitVec 32 := 8#32
  let v105 : BitVec 32 := Scalar.muli arg18 c8_i32
  v105
def k0_off1 (k0_t1 : Fin k0_t1_loop.trips) (c0_i32_55 : BitVec 32) : Fin 2 → Nat :=
  let c0_i32_48 : BitVec 32 := 0#32
  let c1_i32 : BitVec 32 := 1#32
  let arg18 : BitVec 32 := Scf.iv c0_i32_48 c1_i32 k0_t1
  let c8_i32 : BitVec 32 := 8#32
  let v105 : BitVec 32 := Scalar.muli arg18 c8_i32
  let v106 : BitVec 32 := v105
  let v107 : BitVec 32 := Scalar.addi v106 c0_i32_55
  let v108 : Index := Scalar.indexCast v107
  let c0_56 : Index := 0#32
  ![v108.toNat, 0]
def k0_off2 (k0_t1 : Fin k0_t1_loop.trips) (c0_i32_59 : BitVec 32) : Fin 3 → Nat :=
  let c0_60 : Index := 0#32
  let c0_i32_48 : BitVec 32 := 0#32
  let c1_i32 : BitVec 32 := 1#32
  let arg18 : BitVec 32 := Scf.iv c0_i32_48 c1_i32 k0_t1
  let c8_i32 : BitVec 32 := 8#32
  let v105 : BitVec 32 := Scalar.muli arg18 c8_i32
  let v106 : BitVec 32 := v105
  let v115 : BitVec 32 := Scalar.addi v106 c0_i32_59
  let v116 : Index := Scalar.indexCast v115
  let c0_61 : Index := 0#32
  ![0, v116.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![arg0.toNat, v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x384x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ScanRefIdeal.lean ====
abbrev S2x8192x3072 : Shape := ⟨3, ![2, 8192, 3072]⟩
abbrev S4x2816 : Shape := ⟨2, ![4, 2816]⟩
abbrev S2816 : Shape := ⟨1, ![2816]⟩
abbrev S16x176x176 : Shape := ⟨3, ![16, 176, 176]⟩
abbrev S2x1x3072 : Shape := ⟨3, ![2, 1, 3072]⟩
abbrev S2x8192x16x192 : Shape := ⟨4, ![2, 8192, 16, 192]⟩
abbrev S2x8192x16x176 : Shape := ⟨4, ![2, 8192, 16, 176]⟩
abbrev S2x8192x2816 : Shape := ⟨3, ![2, 8192, 2816]⟩
abbrev S2x16x192 : Shape := ⟨3, ![2, 16, 192]⟩
abbrev S2x16x176 : Shape := ⟨3, ![2, 16, 176]⟩
abbrev S2x2816 : Shape := ⟨2, ![2, 2816]⟩
abbrev S_ : Shape := ⟨0, ![]⟩
abbrev S2x8195x2816 : Shape := ⟨3, ![2, 8195, 2816]⟩
abbrev S1x2816 : Shape := ⟨2, ![1, 2816]⟩
abbrev S1x1x2816 : Shape := ⟨3, ![1, 1, 2816]⟩
abbrev S16x176x2x8192 : Shape := ⟨4, ![16, 176, 2, 8192]⟩
abbrev S8192x2x2816 : Shape := ⟨3, ![8192, 2, 2816]⟩
abbrev S1x2x2816 : Shape := ⟨3, ![1, 2, 2816]⟩
abbrev S2x1x16x176 : Shape := ⟨4, ![2, 1, 16, 176]⟩
abbrev S2x1x16x192 : Shape := ⟨4, ![2, 1, 16, 192]⟩

abbrev nBuf : Space → Nat
  | .hbm => 144
  | .vmem => 0
  | .smem => 0
  | _ => 0

abbrev hbmTy0_0 (i : Nat) : BufTy := match i % 128 with
  | 0 => ⟨S2x8192x3072, .f32⟩
  | 1 => ⟨S4x2816, .f32⟩
  | 2 => ⟨S2816, .f32⟩
  | 3 => ⟨S16x176x176, .f32⟩
  | 4 => ⟨S2816, .f32⟩
  | 5 => ⟨S16x176x176, .f32⟩
  | 6 => ⟨S2816, .f32⟩
  | 7 => ⟨S2816, .f32⟩
  | 8 => ⟨S2x1x3072, .f32⟩
  | 9 => ⟨S2x8192x16x192, .f32⟩
  | 10 => ⟨S2x8192x16x176, .f32⟩
  | 11 => ⟨S2x8192x2816, .f32⟩
  | 12 => ⟨S2x16x192, .f32⟩
  | 13 => ⟨S2x16x176, .f32⟩
  | 14 => ⟨S2x2816, .f32⟩
  | 15 => ⟨S_, .i32⟩
  | 16 => ⟨S_, .f32⟩
  | 17 => ⟨S2x8195x2816, .f32⟩
  | 18 => ⟨S1x2816, .f32⟩
  | 19 => ⟨S2816, .f32⟩
  | 20 => ⟨S2x8192x2816, .f32⟩
  | 21 => ⟨S1x1x2816, .f32⟩
  | 22 => ⟨S2x8192x2816, .f32⟩
  | 23 => ⟨S2x8192x2816, .f32⟩
  | 24 => ⟨S1x1x2816, .f32⟩
  | 25 => ⟨S2x8192x2816, .f32⟩
  | 26 => ⟨S2x8192x2816, .f32⟩
  | 27 => ⟨S1x2816, .f32⟩
  | 28 => ⟨S2816, .f32⟩
  | 29 => ⟨S2x8192x2816, .f32⟩
  | 30 => ⟨S1x1x2816, .f32⟩
  | 31 => ⟨S2x8192x2816, .f32⟩
  | 32 => ⟨S2x8192x2816, .f32⟩
  | 33 => ⟨S2x8192x2816, .f32⟩
  | 34 => ⟨S1x2816, .f32⟩
  | 35 => ⟨S2816, .f32⟩
  | 36 => ⟨S2x8192x2816, .f32⟩
  | 37 => ⟨S1x1x2816, .f32⟩
  | 38 => ⟨S2x8192x2816, .f32⟩
  | 39 => ⟨S2x8192x2816, .f32⟩
  | 40 => ⟨S2x8192x2816, .f32⟩
  | 41 => ⟨S1x2816, .f32⟩
  | 42 => ⟨S2816, .f32⟩
  | 43 => ⟨S2x8192x2816, .f32⟩
  | 44 => ⟨S1x1x2816, .f32⟩
  | 45 => ⟨S2x8192x2816, .f32⟩
  | 46 => ⟨S2x8192x2816, .f32⟩
  | 47 => ⟨S2x8192x2816, .f32⟩
  | 48 => ⟨S2x8192x16x176, .f32⟩
  | 49 => ⟨S16x176x2x8192, .f32⟩
  | 50 => ⟨S2x8192x16x176, .f32⟩
  | 51 => ⟨S2x8192x2816, .f32⟩
  | 52 => ⟨S1x1x2816, .f32⟩
  | 53 => ⟨S2x8192x2816, .f32⟩
  | 54 => ⟨S2x8192x2816, .f32⟩
  | 55 => ⟨S2x8192x2816, .f32⟩
  | 56 => ⟨S2x8192x2816, .f32⟩
  | 57 => ⟨S_, .f32⟩
  | 58 => ⟨S2x8192x2816, .f32⟩
  | 59 => ⟨S2x8192x2816, .f32⟩
  | 60 => ⟨S_, .f32⟩
  | 61 => ⟨S2x8192x2816, .f32⟩
  | 62 => ⟨S2x8192x2816, .f32⟩
  | 63 => ⟨S16x176x2x8192, .f32⟩
  | 64 => ⟨S2x8192x16x176, .f32⟩
  | 65 => ⟨S2x8192x2816, .f32⟩
  | 66 => ⟨S1x1x2816, .f32⟩
  | 67 => ⟨S2x8192x2816, .f32⟩
  | 68 => ⟨S2x8192x2816, .f32⟩
  | 69 => ⟨S2x8192x2816, .f32⟩
  | 70 => ⟨S2x8192x2816, .f32⟩
  | 71 => ⟨S_, .f32⟩
  | 72 => ⟨S2x8192x2816, .f32⟩
  | 73 => ⟨S2x8192x2816, .f32⟩
  | 74 => ⟨S_, .f32⟩
  | 75 => ⟨S2x8192x2816, .f32⟩
  | 76 => ⟨S2x8192x2816, .f32⟩
  | 77 => ⟨S_, .f32⟩
  | 78 => ⟨S2x8192x2816, .f32⟩
  | 79 => ⟨S2x8192x2816, .f32⟩
  | 80 => ⟨S2816, .f32⟩
  | 81 => ⟨S_, .f32⟩
  | 82 => ⟨S2816, .f32⟩
  | 83 => ⟨S2816, .f32⟩
  | 84 => ⟨S2816, .f32⟩
  | 85 => ⟨S2816, .f32⟩
  | 86 => ⟨S2816, .i1⟩
  | 87 => ⟨S2816, .f32⟩
  | 88 => ⟨S2816, .f32⟩
  | 89 => ⟨S2816, .f32⟩
  | 90 => ⟨S2816, .f32⟩
  | 91 => ⟨S2816, .f32⟩
  | 92 => ⟨S2816, .f32⟩
  | 93 => ⟨S2816, .f32⟩
  | 94 => ⟨S2816, .f32⟩
  | 95 => ⟨S1x1x2816, .f32⟩
  | 96 => ⟨S2x8192x2816, .f32⟩
  | 97 => ⟨S2x8192x2816, .f32⟩
  | 98 => ⟨S2x8192x2816, .f32⟩
  | 99 => ⟨S_, .f32⟩
  | 100 => ⟨S2x8192x2816, .f32⟩
  | 101 => ⟨S2x8192x2816, .f32⟩
  | 102 => ⟨S2x8192x2816, .f32⟩
  | 103 => ⟨S2x8192x2816, .f32⟩
  | 104 => ⟨S2x8192x2816, .f32⟩
  | 105 => ⟨S2x8192x2816, .f32⟩
  | 106 => ⟨S2x8192x2816, .f32⟩
  | 107 => ⟨S8192x2x2816, .f32⟩
  | 108 => ⟨S8192x2x2816, .f32⟩
  | 109 => ⟨S_, .f32⟩
  | 110 => ⟨S8192x2x2816, .f32⟩
  | 111 => ⟨S_, .i32⟩
  | 112 => ⟨S8192x2x2816, .f32⟩
  | 113 => ⟨S8192x2x2816, .f32⟩
  | 114 => ⟨S_, .i32⟩
  | 115 => ⟨S2x2816, .f32⟩
  | 116 => ⟨S8192x2x2816, .f32⟩
  | 117 => ⟨S_, .i32⟩
  | 118 => ⟨S_, .i1⟩
  | 119 => ⟨S_, .i32⟩
  | 120 => ⟨S_, .i32⟩
  | 121 => ⟨S1x2x2816, .f32⟩
  | 122 => ⟨S2x2816, .f32⟩
  | 123 => ⟨S_, .i32⟩
  | 124 => ⟨S_, .i32⟩
  | 125 => ⟨S1x2x2816, .f32⟩
  | 126 => ⟨S2x2816, .f32⟩
  | 127 => ⟨S2x2816, .f32⟩
  | _ => ⟨S2x8192x3072, .f32⟩

abbrev hbmTy0_1 (i : Nat) : BufTy := match i % 128 with
  | 0 => ⟨S2x2816, .f32⟩
  | 1 => ⟨S1x2x2816, .f32⟩
  | 2 => ⟨S_, .i32⟩
  | 3 => ⟨S_, .i32⟩
  | 4 => ⟨S8192x2x2816, .f32⟩
  | 5 => ⟨S_, .i32⟩
  | 6 => ⟨S_, .i32⟩
  | 7 => ⟨S2x8192x2816, .f32⟩
  | 8 => ⟨S2x8192x16x176, .f32⟩
  | 9 => ⟨S_, .f32⟩
  | 10 => ⟨S2x8192x16x192, .f32⟩
  | 11 => ⟨S2x1x16x176, .f32⟩
  | 12 => ⟨S_, .f32⟩
  | 13 => ⟨S2x1x16x192, .f32⟩
  | 14 => ⟨S2x8192x3072, .f32⟩
  | 15 => ⟨S2x1x3072, .f32⟩
  | _ => ⟨S2x8192x3072, .f32⟩

abbrev hbmTy (i : Nat) : BufTy := match i / 128 with
  | 0 => hbmTy0_0 i
  | 1 => hbmTy0_1 i
  | _ => ⟨S2x8192x3072, .f32⟩

abbrev bufTy : (tb : Table) → Fin (tcTables nBuf tb) → BufTy
  | .hbm, ⟨i, _⟩ => hbmTy i
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_v47 : Ref sig .tc := ⟨.hbm, 59, rfl⟩
abbrev main_cst_0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_1 : Ref sig .tc := ⟨.hbm, 71, rfl⟩
abbrev main_v58 : Ref sig .tc := ⟨.hbm, 72, rfl⟩
abbrev main_v59 : Ref sig .tc := ⟨.hbm, 73, rfl⟩
abbrev main_cst_2 : Ref sig .tc := ⟨.hbm, 74, rfl⟩
abbrev main_v60 : Ref sig .tc := ⟨.hbm, 75, rfl⟩
abbrev main_v61 : Ref sig .tc := ⟨.hbm, 76, rfl⟩
abbrev main_cst_3 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_4 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_5 : Ref sig .tc := ⟨.hbm, 109, rfl⟩
abbrev main_v79 : Ref sig .tc := ⟨.hbm, 110, rfl⟩
abbrev main_c_6 : Ref sig .tc := ⟨.hbm, 111, rfl⟩
abbrev main_v80_0 : Ref sig .tc := ⟨.hbm, 112, rfl⟩
abbrev main_v80_1 : Ref sig .tc := ⟨.hbm, 113, rfl⟩
abbrev main_v80_2 : Ref sig .tc := ⟨.hbm, 114, rfl⟩
abbrev main_v80_3 : Ref sig .tc := ⟨.hbm, 115, rfl⟩
abbrev main_v80_4 : Ref sig .tc := ⟨.hbm, 116, rfl⟩
abbrev main_while0c_c_13 : Ref sig .tc := ⟨.hbm, 117, rfl⟩
abbrev main_while0c_v88 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_v0 : Ref sig .tc := ⟨.hbm, 121, rfl⟩
abbrev main_while0b_v88 : Ref sig .tc := ⟨.hbm, 122, rfl⟩
abbrev main_while0b_call3_c : Ref sig .tc := ⟨.hbm, 123, rfl⟩
abbrev main_while0b_call3_c_0 : Ref sig .tc := ⟨.hbm, 124, rfl⟩
abbrev main_while0b_call3_v0 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_v92 : Ref sig .tc := ⟨.hbm, 132, rfl⟩
abbrev main_while0b_c_13 : Ref sig .tc := ⟨.hbm, 133, rfl⟩
abbrev main_while0b_v93 : Ref sig .tc := ⟨.hbm, 134, rfl⟩
abbrev main_v81 : Ref sig .tc := ⟨.hbm, 135, rfl⟩
abbrev main_v82 : Ref sig .tc := ⟨.hbm, 136, rfl⟩
abbrev main_cst_7 : Ref sig .tc := ⟨.hbm, 137, rfl⟩
abbrev main_v83 : Ref sig .tc := ⟨.hbm, 138, rfl⟩
abbrev main_v84 : Ref sig .tc := ⟨.hbm, 139, rfl⟩
abbrev main_cst_8 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩

abbrev nD : Nat := 1
abbrev τ : Topo := Topo.v7x

variable {F : FTy → Type} [FloatOps F]

abbrev main_while0_count : Scf.Loop 32 := ⟨0#32, 8192#32, 1#32⟩
-- ==== ConfIn.lean ====
abbrev S2x8192x2048 : Shape := ⟨3, ![2, 8192, 2048]⟩
abbrev S8x6x2048 : Shape := ⟨3, ![8, 6, 2048]⟩
abbrev S2048x4096 : Shape := ⟨2, ![2048, 4096]⟩
abbrev S4096 : Shape := ⟨1, ![4096]⟩
abbrev S1x4096 : Shape := ⟨2, ![1, 4096]⟩
abbrev S1x512x2048 : Shape := ⟨3, ![1, 512, 2048]⟩
abbrev S1x6x2048 : Shape := ⟨3, ![1, 6, 2048]⟩
abbrev S2048x512 : Shape := ⟨2, ![2048, 512]⟩
abbrev S1x512 : Shape := ⟨2, ![1, 512]⟩
abbrev S1x512x512 : Shape := ⟨3, ![1, 512, 512]⟩
abbrev S512x2048 : Shape := ⟨2, ![512, 2048]⟩
abbrev S1x1x2048 : Shape := ⟨3, ![1, 1, 2048]⟩
abbrev S1x2048 : Shape := ⟨2, ![1, 2048]⟩
abbrev S512x512 : Shape := ⟨2, ![512, 512]⟩

abbrev nBuf : Space → Nat
  | .hbm => 7
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S8x6x2048, .f32⟩
  | .hbm, ⟨2, _⟩ => ⟨S2048x4096, .f32⟩
  | .hbm, ⟨3, _⟩ => ⟨S4096, .f32⟩
  | .hbm, ⟨4, _⟩ => ⟨S2048x4096, .bf16⟩
  | .hbm, ⟨5, _⟩ => ⟨S1x4096, .f32⟩
  | .hbm, ⟨6, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512x512, .f32⟩
  | .local _ .vmem, ⟨13, _⟩ => ⟨S1x512x512, .f32⟩
  | .local _ .vmem, ⟨14, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ConfInRefIdeal.lean ====
abbrev S2x8192x2048 : Shape := ⟨3, ![2, 8192, 2048]⟩
abbrev S8x6x2048 : Shape := ⟨3, ![8, 6, 2048]⟩
abbrev S2048x4096 : Shape := ⟨2, ![2048, 4096]⟩
abbrev S4096 : Shape := ⟨1, ![4096]⟩
abbrev S2x6x2048 : Shape := ⟨3, ![2, 6, 2048]⟩
abbrev S2x1x2048 : Shape := ⟨3, ![2, 1, 2048]⟩
abbrev S_ : Shape := ⟨0, ![]⟩
abbrev S2x8192x4096 : Shape := ⟨3, ![2, 8192, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x6x2048, .f32⟩
  | .hbm, ⟨2, _⟩ => ⟨S2048x4096, .f32⟩
  | .hbm, ⟨3, _⟩ => ⟨S4096, .f32⟩
  | .hbm, ⟨4, _⟩ => ⟨S2x6x2048, .f32⟩
  | .hbm, ⟨5, _⟩ => ⟨S2x1x2048, .f32⟩
  | .hbm, ⟨6, _⟩ => ⟨S_, .f32⟩
  | .hbm, ⟨7, _⟩ => ⟨S2x1x2048, .f32⟩
  | .hbm, ⟨8, _⟩ => ⟨S2x1x2048, .f32⟩
  | .hbm, ⟨9, _⟩ => ⟨S2x8192x2048, .f32⟩
  | .hbm, ⟨10, _⟩ => ⟨S2x8192x2048, .f32⟩
  | .hbm, ⟨11, _⟩ => ⟨S2x1x2048, .f32⟩
  | .hbm, ⟨12, _⟩ => ⟨S2x8192x2048, .f32⟩
  | .hbm, ⟨13, _⟩ => ⟨S2x8192x2048, .f32⟩
  | .hbm, ⟨14, _⟩ => ⟨S2x8192x4096, .f32⟩
  | .hbm, ⟨15, _⟩ => ⟨S1x1x4096, .f32⟩
  | .hbm, ⟨16, _⟩ => ⟨S2x8192x4096, .f32⟩
  | .hbm, ⟨17, _⟩ => ⟨S2x8192x4096, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FtOut.lean ====
abbrev S2x8192x2048 : Shape := ⟨3, ![2, 8192, 2048]⟩
abbrev S2048x2048 : Shape := ⟨2, ![2048, 2048]⟩
abbrev S2048 : Shape := ⟨1, ![2048]⟩
abbrev S8x6x2048 : Shape := ⟨3, ![8, 6, 2048]⟩
abbrev S1x2048 : Shape := ⟨2, ![1, 2048]⟩
abbrev S1x256x2048 : Shape := ⟨3, ![1, 256, 2048]⟩
abbrev S1x6x2048 : Shape := ⟨3, ![1, 6, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2048, .f32⟩
  | .hbm, ⟨3, _⟩ => ⟨S2x8192x2048, .f32⟩
  | .hbm, ⟨4, _⟩ => ⟨S8x6x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .bf16⟩
  | .local _ .vmem, ⟨3, _⟩ => ⟨S1x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S1x2048, .f32⟩
  | .local _ .vmem, ⟨10, _⟩ => ⟨S1x256x2048, .f32⟩
  | .local _ .vmem, ⟨11, _⟩ => ⟨S1x256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FtOutRefIdeal.lean ====
abbrev S2x8192x2048 : Shape := ⟨3, ![2, 8192, 2048]⟩
abbrev S2048x2048 : Shape := ⟨2, ![2048, 2048]⟩
abbrev S2048 : Shape := ⟨1, ![2048]⟩
abbrev S8x6x2048 : Shape := ⟨3, ![8, 6, 2048]⟩
abbrev S_ : Shape := ⟨0, ![]⟩
abbrev S2x1x2048 : Shape := ⟨3, ![2, 1, 2048]⟩
abbrev S1x1x2048 : Shape := ⟨3, ![1, 1, 2048]⟩
abbrev S2x8192 : Shape := ⟨2, ![2, 8192]⟩
abbrev S2x8192x1 : Shape := ⟨3, ![2, 8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2048, .f32⟩
  | .hbm, ⟨3, _⟩ => ⟨S2x8192x2048, .f32⟩
  | .hbm, ⟨4, _⟩ => ⟨S8x6x2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2x8192x2048, .f32⟩
  | .hbm, ⟨9, _⟩ => ⟨S2x8192x2048, .f32⟩
  | .hbm, ⟨10, _⟩ => ⟨S2x1x2048, .f32⟩
  | .hbm, ⟨11, _⟩ => ⟨S2x8192x2048, .f32⟩
  | .hbm, ⟨12, _⟩ => ⟨S1x1x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x2048, .f32⟩
  | .hbm, ⟨38, _⟩ => ⟨S2x8192x2048, .f32⟩
  | .hbm, ⟨39, _⟩ => ⟨S1x1x2048, .f32⟩
  | .hbm, ⟨40, _⟩ => ⟨S2x8192x2048, .f32⟩
  | .hbm, ⟨41, _⟩ => ⟨S2x8192x2048, .f32⟩
  | .hbm, ⟨42, _⟩ => ⟨S1x1x2048, .f32⟩
  | .hbm, ⟨43, _⟩ => ⟨S2x8192x2048, .f32⟩
  | .hbm, ⟨44, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== RgOut.lean ====
abbrev S2x8192x3072 : Shape := ⟨3, ![2, 8192, 3072]⟩
abbrev S2816x2048 : Shape := ⟨2, ![2816, 2048]⟩
abbrev S2x8192x2048 : Shape := ⟨3, ![2, 8192, 2048]⟩
abbrev S8x6x2048 : Shape := ⟨3, ![8, 6, 2048]⟩
abbrev S2048 : Shape := ⟨1, ![2048]⟩
abbrev S16x176x2048 : Shape := ⟨3, ![16, 176, 2048]⟩
abbrev S_ : Shape := ⟨0, ![]⟩
abbrev S16x192x2048 : Shape := ⟨3, ![16, 192, 2048]⟩
abbrev S3072x2048 : Shape := ⟨2, ![3072, 2048]⟩
abbrev S1x2048 : Shape := ⟨2, ![1, 2048]⟩
abbrev S1x256x3072 : Shape := ⟨3, ![1, 256, 3072]⟩
abbrev S1x256x2048 : Shape := ⟨3, ![1, 256, 2048]⟩
abbrev S1x6x2048 : Shape := ⟨3, ![1, 6, 2048]⟩
abbrev S256x3072 : Shape := ⟨2, ![256, 3072]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S2x8192x3072, .bf16⟩
  | .hbm, ⟨1, _⟩ => ⟨S2816x2048, .f32⟩
  | .hbm, ⟨2, _⟩ => ⟨S2x8192x2048, .f32⟩
  | .hbm, ⟨3, _⟩ => ⟨S8x6x2048, .f32⟩
  | .hbm, ⟨4, _⟩ => ⟨S2048, .f32⟩
  | .hbm, ⟨5, _⟩ => ⟨S2048, .f32⟩
  | .hbm, ⟨6, _⟩ => ⟨S16x176x2048, .f32⟩
  | .hbm, ⟨7, _⟩ => ⟨S_, .i32⟩
  | .hbm, ⟨8, _⟩ => ⟨S_, .f32⟩
  | .hbm, ⟨9, _⟩ => ⟨S16x192x2048, .f32⟩
  | .hbm, ⟨10, _⟩ => ⟨S3072x2048, .f32⟩
  | .hbm, ⟨11, _⟩ => ⟨S3072x2048, .bf16⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2x8192x2048, .f32⟩
  | .local _ .vmem, ⟨0, _⟩ => ⟨S1x256x3072, .bf16⟩
  | .local _ .vmem, ⟨1, _⟩ => ⟨S1x256x3072, .bf16⟩
  | .local _ .vmem, ⟨2, _⟩ => ⟨S3072x2048, .bf16⟩
  | .local _ .vmem, ⟨3, _⟩ => ⟨S1x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S1x2048, .f32⟩
  | .local _ .vmem, ⟨10, _⟩ => ⟨S1x256x2048, .f32⟩
  | .local _ .vmem, ⟨11, _⟩ => ⟨S1x256x2048, .f32⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RgOutRefIdeal.lean ====
abbrev S2x8192x3072 : Shape := ⟨3, ![2, 8192, 3072]⟩
abbrev S2816x2048 : Shape := ⟨2, ![2816, 2048]⟩
abbrev S2x8192x2048 : Shape := ⟨3, ![2, 8192, 2048]⟩
abbrev S8x6x2048 : Shape := ⟨3, ![8, 6, 2048]⟩
abbrev S2048 : Shape := ⟨1, ![2048]⟩
abbrev S2x8192x16x192 : Shape := ⟨4, ![2, 8192, 16, 192]⟩
abbrev S2x8192x16x176 : Shape := ⟨4, ![2, 8192, 16, 176]⟩
abbrev S2x8192x2816 : Shape := ⟨3, ![2, 8192, 2816]⟩
abbrev S_ : Shape := ⟨0, ![]⟩
abbrev S2x1x2048 : Shape := ⟨3, ![2, 1, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2816x2048, .f32⟩
  | .hbm, ⟨2, _⟩ => ⟨S2x8192x2048, .f32⟩
  | .hbm, ⟨3, _⟩ => ⟨S8x6x2048, .f32⟩
  | .hbm, ⟨4, _⟩ => ⟨S2048, .f32⟩
  | .hbm, ⟨5, _⟩ => ⟨S2048, .f32⟩
  | .hbm, ⟨6, _⟩ => ⟨S2x8192x3072, .f32⟩
  | .hbm, ⟨7, _⟩ => ⟨S2x8192x16x192, .f32⟩
  | .hbm, ⟨8, _⟩ => ⟨S2x8192x16x176, .f32⟩
  | .hbm, ⟨9, _⟩ => ⟨S2x8192x2816, .f32⟩
  | .hbm, ⟨10, _⟩ => ⟨S_, .f32⟩
  | .hbm, ⟨11, _⟩ => ⟨S2x8192x2048, .f32⟩
  | .hbm, ⟨12, _⟩ => ⟨S2x8192x2048, .f32⟩
  | .hbm, ⟨13, _⟩ => ⟨S2x1x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x2048, .f32⟩
  | .hbm, ⟨38, _⟩ => ⟨S2x8192x2048, .f32⟩
  | .hbm, ⟨39, _⟩ => ⟨S1x1x2048, .f32⟩
  | .hbm, ⟨40, _⟩ => ⟨S2x8192x2048, .f32⟩
  | .hbm, ⟨41, _⟩ => ⟨S2x8192x2048, .f32⟩
  | .hbm, ⟨42, _⟩ => ⟨S1x1x2048, .f32⟩
  | .hbm, ⟨43, _⟩ => ⟨S2x8192x2048, .f32⟩
  | .hbm, ⟨44, _⟩ => ⟨S2x8192x2048, .f32⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== RgIn.lean ====
abbrev S2x8192x2048 : Shape := ⟨3, ![2, 8192, 2048]⟩
abbrev S8x6x2048 : Shape := ⟨3, ![8, 6, 2048]⟩
abbrev S2048x2816 : Shape := ⟨2, ![2048, 2816]⟩
abbrev S2048x16x176 : Shape := ⟨3, ![2048, 16, 176]⟩
abbrev S_ : Shape := ⟨0, ![]⟩
abbrev S2048x16x192 : Shape := ⟨3, ![2048, 16, 192]⟩
abbrev S2048x3072 : Shape := ⟨2, ![2048, 3072]⟩
abbrev S512 : Shape := ⟨1, ![512]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S64 : Shape := ⟨1, ![64]⟩
abbrev S64x1 : Shape := ⟨2, ![64, 1]⟩
abbrev S64x512 : Shape := ⟨2, ![64, 512]⟩
abbrev S128x1024 : Shape := ⟨2, ![128, 1024]⟩
abbrev S64x1024 : Shape := ⟨2, ![64, 1024]⟩
abbrev S2x8192x3072 : Shape := ⟨3, ![2, 8192, 3072]⟩
abbrev S1x512x2048 : Shape := ⟨3, ![1, 512, 2048]⟩
abbrev S8x1024 : Shape := ⟨2, ![8, 1024]⟩
abbrev S1x6x2048 : Shape := ⟨3, ![1, 6, 2048]⟩
abbrev S2048x512 : Shape := ⟨2, ![2048, 512]⟩
abbrev S1x512x512 : Shape := ⟨3, ![1, 512, 512]⟩
abbrev S512x2048 : Shape := ⟨2, ![512, 2048]⟩
abbrev S1x64x1024 : Shape := ⟨3, ![1, 64, 1024]⟩
abbrev S1x1024 : Shape := ⟨2, ![1, 1024]⟩
abbrev S1x1x2048 : Shape := ⟨3, ![1, 1, 2048]⟩
abbrev S1x2048 : Shape := ⟨2, ![1, 2048]⟩
abbrev S512x512 : Shape := ⟨2, ![512, 512]⟩

abbrev nBuf : Space → Nat
  | .hbm => 47
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S8x6x2048, .f32⟩
  | .hbm, ⟨2, _⟩ => ⟨S2048x2816, .f32⟩
  | .hbm, ⟨3, _⟩ => ⟨S2048x2816, .f32⟩
  | .hbm, ⟨4, _⟩ => ⟨S2048x16x176, .f32⟩
  | .hbm, ⟨5, _⟩ => ⟨S_, .i32⟩
  | .hbm, ⟨6, _⟩ => ⟨S_, .f32⟩
  | .hbm, ⟨7, _⟩ => ⟨S2048x16x192, .f32⟩
  | .hbm, ⟨8, _⟩ => ⟨S2048x3072, .f32⟩
  | .hbm, ⟨9, _⟩ => ⟨S2048x3072, .bf16⟩
  | .hbm, ⟨10, _⟩ => ⟨S2048x16x176, .f32⟩
  | .hbm, ⟨11, _⟩ => ⟨S_, .i32⟩
  | .hbm, ⟨12, _⟩ => ⟨S_, .f32⟩
  | .hbm, ⟨13, _⟩ => ⟨S2048x16x192, .f32⟩
  | .hbm, ⟨14, _⟩ => ⟨S2048x3072, .f32⟩
  | .hbm, ⟨15, _⟩ => ⟨S2048x3072, .bf16⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S128, .f32⟩
  | .hbm, ⟨27, _⟩ => ⟨S128x1, .f32⟩
  | .hbm, ⟨28, _⟩ => ⟨S1x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S64, .f32⟩
  | .hbm, ⟨33, _⟩ => ⟨S64x1, .f32⟩
  | .hbm, ⟨34, _⟩ => ⟨S1x512, .f32⟩
  | .hbm, ⟨35, _⟩ => ⟨S64x512, .f32⟩
  | .hbm, ⟨36, _⟩ => ⟨S64x512, .f32⟩
  | .hbm, ⟨37, _⟩ => ⟨S64x512, .f32⟩
  | .hbm, ⟨38, _⟩ => ⟨S128x512, .f32⟩
  | .hbm, ⟨39, _⟩ => ⟨S128x512, .f32⟩
  | .hbm, ⟨40, _⟩ => ⟨S128x1024, .f32⟩
  | .hbm, ⟨41, _⟩ => ⟨S64x512, .f32⟩
  | .hbm, ⟨42, _⟩ => ⟨S64x512, .f32⟩
  | .hbm, ⟨43, _⟩ => ⟨S64x1024, .f32⟩
  | .hbm, ⟨44, _⟩ => ⟨S2x8192x2048, .f32⟩
  | .hbm, ⟨45, _⟩ => ⟨S2x8192x3072, .f32⟩
  | .hbm, ⟨46, _⟩ => ⟨S2x8192x3072, .bf16⟩
  | .local _ .vmem, ⟨0, _⟩ => ⟨S1x512x2048, .f32⟩
  | .local _ .vmem, ⟨1, _⟩ => ⟨S1x512x2048, .f32⟩
  | .local _ .vmem, ⟨2, _⟩ => ⟨S8x1024, .f32⟩
  | .local _ .vmem, ⟨3, _⟩ => ⟨S8x1024, .f32⟩
  | .local _ .vmem, ⟨4, _⟩ => ⟨S64x1024, .f32⟩
  | .local _ .vmem, ⟨5, _⟩ => ⟨S1x6x2048, .f32⟩
  | .local _ .vmem, ⟨6, _⟩ => ⟨S1x6x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S1x512x2048, .f32⟩
  | .local _ .vmem, ⟨12, _⟩ => ⟨S1x512x2048, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .bf16⟩
  | .local _ .vmem, ⟨16, _⟩ => ⟨S1x512x512, .bf16⟩
  | .local _ .vmem, ⟨17, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 16, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== RgInRefIdeal.lean ====
abbrev S2x8192x2048 : Shape := ⟨3, ![2, 8192, 2048]⟩
abbrev S8x6x2048 : Shape := ⟨3, ![8, 6, 2048]⟩
abbrev S2048x2816 : Shape := ⟨2, ![2048, 2816]⟩
abbrev S512 : Shape := ⟨1, ![512]⟩
abbrev S_ : Shape := ⟨0, ![]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S64 : Shape := ⟨1, ![64]⟩
abbrev S64x1 : Shape := ⟨2, ![64, 1]⟩
abbrev S64x512 : Shape := ⟨2, ![64, 512]⟩
abbrev S128x1024 : Shape := ⟨2, ![128, 1024]⟩
abbrev S64x1024 : Shape := ⟨2, ![64, 1024]⟩
abbrev S128x1x1024 : Shape := ⟨3, ![128, 1, 1024]⟩
abbrev S128x64x1024 : Shape := ⟨3, ![128, 64, 1024]⟩
abbrev S1x64x1024 : Shape := ⟨3, ![1, 64, 1024]⟩
abbrev S128x64x2048 : Shape := ⟨3, ![128, 64, 2048]⟩
abbrev S8192x2048 : Shape := ⟨2, ![8192, 2048]⟩
abbrev S1x8192x2048 : Shape := ⟨3, ![1, 8192, 2048]⟩
abbrev S2x6x2048 : Shape := ⟨3, ![2, 6, 2048]⟩
abbrev S2x1x2048 : Shape := ⟨3, ![2, 1, 2048]⟩
abbrev S2x8192x2816 : Shape := ⟨3, ![2, 8192, 2816]⟩
abbrev S2x8192x16x176 : Shape := ⟨4, ![2, 8192, 16, 176]⟩
abbrev S2x8192x16x192 : Shape := ⟨4, ![2, 8192, 16, 192]⟩
abbrev S2x8192x3072 : Shape := ⟨3, ![2, 8192, 3072]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x6x2048, .f32⟩
  | .hbm, ⟨2, _⟩ => ⟨S2048x2816, .f32⟩
  | .hbm, ⟨3, _⟩ => ⟨S2048x2816, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S128, .f32⟩
  | .hbm, ⟨15, _⟩ => ⟨S128x1, .f32⟩
  | .hbm, ⟨16, _⟩ => ⟨S1x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S64, .f32⟩
  | .hbm, ⟨21, _⟩ => ⟨S64x1, .f32⟩
  | .hbm, ⟨22, _⟩ => ⟨S1x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S128x512, .f32⟩
  | .hbm, ⟨27, _⟩ => ⟨S128x512, .f32⟩
  | .hbm, ⟨28, _⟩ => ⟨S128x1024, .f32⟩
  | .hbm, ⟨29, _⟩ => ⟨S64x512, .f32⟩
  | .hbm, ⟨30, _⟩ => ⟨S64x512, .f32⟩
  | .hbm, ⟨31, _⟩ => ⟨S64x1024, .f32⟩
  | .hbm, ⟨32, _⟩ => ⟨S128x1x1024, .f32⟩
  | .hbm, ⟨33, _⟩ => ⟨S128x64x1024, .f32⟩
  | .hbm, ⟨34, _⟩ => ⟨S1x64x1024, .f32⟩
  | .hbm, ⟨35, _⟩ => ⟨S128x64x1024, .f32⟩
  | .hbm, ⟨36, _⟩ => ⟨S128x64x2048, .f32⟩
  | .hbm, ⟨37, _⟩ => ⟨S8192x2048, .f32⟩
  | .hbm, ⟨38, _⟩ => ⟨S1x8192x2048, .f32⟩
  | .hbm, ⟨39, _⟩ => ⟨S2x8192x2048, .f32⟩
  | .hbm, ⟨40, _⟩ => ⟨S2x8192x2048, .f32⟩
  | .hbm, ⟨41, _⟩ => ⟨S2x6x2048, .f32⟩
  | .hbm, ⟨42, _⟩ => ⟨S2x1x2048, .f32⟩
  | .hbm, ⟨43, _⟩ => ⟨S_, .f32⟩
  | .hbm, ⟨44, _⟩ => ⟨S2x1x2048, .f32⟩
  | .hbm, ⟨45, _⟩ => ⟨S2x1x2048, .f32⟩
  | .hbm, ⟨46, _⟩ => ⟨S2x8192x2048, .f32⟩
  | .hbm, ⟨47, _⟩ => ⟨S2x8192x2048, .f32⟩
  | .hbm, ⟨48, _⟩ => ⟨S2x1x2048, .f32⟩
  | .hbm, ⟨49, _⟩ => ⟨S2x8192x2048, .f32⟩
  | .hbm, ⟨50, _⟩ => ⟨S2x8192x2048, .f32⟩
  | .hbm, ⟨51, _⟩ => ⟨S2x8192x2816, .f32⟩
  | .hbm, ⟨52, _⟩ => ⟨S2x8192x16x176, .f32⟩
  | .hbm, ⟨53, _⟩ => ⟨S_, .f32⟩
  | .hbm, ⟨54, _⟩ => ⟨S2x8192x16x192, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S_, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S2x8192x16x176, .f32⟩
  | .hbm, ⟨74, _⟩ => ⟨S_, .f32⟩
  | .hbm, ⟨75, _⟩ => ⟨S2x8192x16x192, .f32⟩
  | .hbm, ⟨76, _⟩ => ⟨S2x8192x3072, .f32⟩
  | .hbm, ⟨77, _⟩ => ⟨S2x8192x3072, .f32⟩
  | .hbm, ⟨78, _⟩ => ⟨S2x8192x3072, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.FfnPay.lean ====
module

public import proofs.«01_k».proof.Proof.Gen.FfnIdeal.Skeleton
public import proofs.«01_k».proof.Proof.Gen.FfnRefIdeal.Read
public import Idealize.ShloMosaic.Lib.Pointwise

@[expose] public section

set_option maxRecDepth 16384

noncomputable section

/-! ## The layer written with sums over the extended reals -/

namespace Cert.Ffn.Spec
open Idealize.ShloMosaic

/-- The gated unit: `p · σ(p) · q`. -/
def gated (p q : EReal) : EReal := p * Ideal.logistic p * q

/-- The residRow scale, `8^(1/4)` as the program's literal. -/
def alpha : EReal := Ideal.ofBits FTy.f32 0x3FD744FD#32

/-- Layer normalisation of the row `v` at lane `d`, with gain `g` and shift `s`. -/
def normed (v : Fin 2048 → EReal) (g s : EReal) (d : Fin 2048) : EReal :=
  (v d - Ideal.div (∑ k : Fin 2048, v k) (Ideal.ofBits FTy.f32 0x45000000#32))
    * Ideal.rsqrt (Ideal.div (∑ k : Fin 2048, (v k - Ideal.div (∑ l : Fin 2048, v l) (Ideal.ofBits FTy.f32 0x45000000#32))
        * (v k - Ideal.div (∑ l : Fin 2048, v l) (Ideal.ofBits FTy.f32 0x45000000#32))) (Ideal.ofBits FTy.f32 0x45000000#32)
        + Ideal.ofBits FTy.f32 0x3727C5AC#32) * g + s

variable (X : (⟨3, ![2, 8192, 2048]⟩ : Shape).Idx → EReal) (M : (⟨3, ![8, 6, 2048]⟩ : Shape).Idx → EReal)
  (W1 W3 : (⟨2, ![2048, 5632]⟩ : Shape).Idx → EReal) (W2 : (⟨2, ![5632, 2048]⟩ : Shape).Idx → EReal)

/-- The modulated input: `x · (1 + scale) + shift`. -/
def modulated (b : Fin 2) (n : Fin 8192) (k : Fin 2048) : EReal :=
  X (ix3 b n k) * (1 + M (ix3 (⟨b.val, by omega⟩ : Fin 8) (4 : Fin 6) k)) + M (ix3 (⟨b.val, by omega⟩ : Fin 8) (3 : Fin 6) k)

/-- the hidden unit `j` of row `(b, n)`. -/
def hiddenUnit (b : Fin 2) (n : Fin 8192) (j : Fin 5632) : EReal :=
  gated (∑ k : Fin 2048, modulated X M b n k * W1 (ix2 k j)) (∑ k : Fin 2048, modulated X M b n k * W3 (ix2 k j))

/-- The row the normalisation is applied to: `α·x + gate·(hidden · w2)`. -/
def residRow (b : Fin 2) (n : Fin 8192) (d : Fin 2048) : EReal :=
  alpha * X (ix3 b n d) + M (ix3 (⟨b.val, by omega⟩ : Fin 8) (5 : Fin 6) d) * ∑ j : Fin 5632, hiddenUnit X M W1 W3 b n j * W2 (ix2 j d)

end Cert.Ffn.Spec

/-! ## The kernel's stored values at an index -/

namespace Cert.FfnIdeal.Pay
open Cert.Ffn.Spec
open Cert.FfnIdeal Cert.FfnIdeal.Gen Idealize.ShloMosaic Idealize.ShloMosaic.TcCoe Idealize.SL.Sem

theorem pay1_at (x : FVec Ideal S1x512x2048 .f32) (s u : FVec Ideal S1x1x2048 .f32) (r : Fin 512) (k : Fin 2048) :
    k0_pay1 (F := Ideal) x s u (ix2 r k) = x (ix3 0 r k) * (1 + s (ix3 0 0 k)) + u (ix3 0 0 k) := by
  pointwise [k0_pay1]

theorem pay2_at (r : Fin 512) (k : Fin 2048) : k0_pay2 (F := Ideal) (ix2 r k) = 0 := by pointwise [k0_pay2]

theorem pay3_at (h : FVec Ideal S512x2048 .bf16) (a b : FVec Ideal S2048x512 .bf16) (acc : FVec Ideal S512x2048 .f32) (w : FVec Ideal S512x2048 .bf16) (r : Fin 512) (d : Fin 2048) :
    k0_pay3 (F := Ideal) h a b acc w (ix2 r d)
      = acc (ix2 r d) + ∑ j : Fin 512, gated (∑ k : Fin 2048, h (ix2 r k) * a (ix2 k j)) (∑ k : Fin 2048, h (ix2 r k) * b (ix2 k j)) * w (ix2 j d) := by
  pointwise [k0_pay3, gated]

theorem pay4_at (x : FVec Ideal S1x512x2048 .f32) (g : FVec Ideal S1x1x2048 .f32) (y : FVec Ideal S512x2048 .f32) (ga be : FVec Ideal S1x2048 .f32) (r : Fin 512) (d : Fin 2048) :
    k0_pay4 (F := Ideal) x g y ga be (ix3 0 r d)
      = normed (fun k => alpha * x (ix3 0 r k) + g (ix3 0 0 k) * y (ix2 r k)) (ga (ix2 0 d)) (be (ix2 0 d)) d := by
  pointwise [k0_pay4, normed, alpha]
end Cert.FfnIdeal.Pay

namespace Cert.FfnRefIdeal.Pay
open Cert.FfnRefIdeal Cert.FfnRefIdeal.Gen Cert.FfnRefIdeal.Read Idealize.ShloMosaic Idealize.ShloMosaic.TcCoe Idealize.SL.Sem
open Cert.Ffn.Spec

variable (X : FVec Ideal S2x8192x2048 .f32) (M : FVec Ideal S8x6x2048 .f32) (W1 W3 : FVec Ideal S2048x5632 .f32)
  (W2 : FVec Ideal S5632x2048 .f32) (G B : FVec Ideal S2048 .f32)

theorem ref_h (b : Fin 2) (n : Fin 8192) (k : Fin 2048) : val_main_v8 (F := Ideal) X M (ix3 b n k) = modulated X M b n k := by
  pointwise [val_main_v8, val_main_v7, val_main_v6, val_main_v5, val_main_v4, val_main_v3, val_main_v2, val_main_v1, val_main_v0, val_main_cst, modulated]

theorem ref_up (b : Fin 2) (n : Fin 8192) (j : Fin 5632) : val_main_v12 (F := Ideal) X M W1 W3 (ix3 b n j) = hiddenUnit X M W1 W3 b n j := by
  pointwise [val_main_v12, val_main_v11, val_main_v10, val_main_v9, val_main_call0_v5, val_main_call0_v4, val_main_call0_v3, val_main_call0_v2, val_main_call0_v1, val_main_call0_v0,
    val_main_call0_cst, val_main_call0_cst_0, ref_h, hiddenUnit, gated, Ideal.logistic]

theorem ref_v (b : Fin 2) (n : Fin 8192) (d : Fin 2048) : val_main_v19 (F := Ideal) X M W1 W3 W2 (ix3 b n d) = residRow X M W1 W3 W2 b n d := by
  pointwise [val_main_v19, val_main_v18, val_main_v17, val_main_v16, val_main_v15, val_main_v14, val_main_v13, val_main_v1, val_main_v0, val_main_cst_0, ref_up, residRow, alpha]

theorem ref_out (b : Fin 2) (n : Fin 8192) (d : Fin 2048) : val_main_v41 (F := Ideal) X M W1 W3 W2 G B (ix3 b n d) = normed (residRow X M W1 W3 W2 b n) (G (ix1 d)) (B (ix1 d)) d := by
  pointwise [val_main_v41, val_main_v40, val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_cst_1, val_main_cst_2, val_main_cst_3, val_main_cst_4, val_main_cst_5, ref_v, normed]

end Cert.FfnRefIdeal.Pay
-- ==== Proof.FfnBody.lean ====
module

public import proofs.«01_k».proof.Proof.Gen.FfnIdeal.Value
public import proofs.«01_k».proof.Proof.FfnPay
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Body

open Cert.FfnIdeal Cert.FfnIdeal.Gen Cert.FfnIdeal.Pay Cert.Ffn.Spec Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 176, t.val / 11 % 16, 0] ∧ win0_1.index t = ![t.val / 176, 0, 0]
    ∧ win0_2.index t = ![0, t.val % 11] ∧ win0_3.index t = ![0, t.val % 11] ∧ win0_4.index t = ![t.val % 11, 0]
    ∧ win0_5.index t = ![0, 0] ∧ win0_6.index t = ![0, 0] ∧ win0_7.index t = ![t.val / 176, t.val / 11 % 16, 0] :=
  (by decide +kernel : ∀ t : Fin grid0.N, _)

/-- The argument arrays. -/
abbrev aX (c : Dev nD) : FVec Ideal S2x8192x2048 .f32 := m ((c : Thread nD τ).loc main_arg0)
abbrev aM (c : Dev nD) : FVec Ideal S8x6x2048 .f32 := m ((c : Thread nD τ).loc main_arg1)
abbrev aW1 (c : Dev nD) : FVec Ideal S2048x5632 .f32 := m ((c : Thread nD τ).loc main_arg2)
abbrev aW3 (c : Dev nD) : FVec Ideal S2048x5632 .f32 := m ((c : Thread nD τ).loc main_arg3)
abbrev aW2 (c : Dev nD) : FVec Ideal S5632x2048 .f32 := m ((c : Thread nD τ).loc main_arg4)
abbrev aG (c : Dev nD) : FVec Ideal S2048 .f32 := m ((c : Thread nD τ).loc main_arg5)
abbrev aB (c : Dev nD) : FVec Ideal S2048 .f32 := m ((c : Thread nD τ).loc main_arg6)

/-- The batch of point `n`, and the row of the array its block's row `r` is. -/
def bOf (n : ℕ) (h : n < cfg0.N) : Fin 2 := ⟨n / 176, by have hN : cfg0.N = 352 := N_0; omega⟩
def rowOf (n : ℕ) (h : n < cfg0.N) (r : Fin 512) : Fin 8192 := ⟨n / 11 % 16 * 512 + r.val, by omega⟩

theorem x_at (c : Dev nD) (t : Fin cfg0.N) (r : Fin 512) (k : Fin 2048) :
    (iblk m c 0 t : FVec Ideal S1x512x2048 .f32) (ix3 0 r k) = aX m c (ix3 (bOf t.val t.isLt) (rowOf t.val t.isLt r) k) := by
  have hN : cfg0.N = 352 := N_0
  unfold bOf rowOf
  blk_ext [iblk, V, idx t]

theorem mods_at (c : Dev nD) (t : Fin cfg0.N) (q : Fin 6) (k : Fin 2048) :
    (iblk m c 1 t : FVec Ideal S1x6x2048 .f32) (ix3 0 q k) = aM m c (ix3 (⟨(bOf t.val t.isLt).val, by omega⟩ : Fin 8) q k) := by
  have hN : cfg0.N = 352 := N_0
  unfold bOf
  blk_ext [iblk, V, idx t]

theorem w1_at (c : Dev nD) (t : Fin cfg0.N) (k : Fin 2048) (j : Fin 512) :
    (iblk m c 2 t : FVec Ideal S2048x512 .bf16) (ix2 k j) = aW1 m c (ix2 k (⟨t.val % 11 * 512 + j.val, by omega⟩ : Fin 5632)) := by
  blk_simp [iblk]
  entry_read
  pointwise
  blk_ext [idx t]

theorem w3_at (c : Dev nD) (t : Fin cfg0.N) (k : Fin 2048) (j : Fin 512) :
    (iblk m c 3 t : FVec Ideal S2048x512 .bf16) (ix2 k j) = aW3 m c (ix2 k (⟨t.val % 11 * 512 + j.val, by omega⟩ : Fin 5632)) := by
  blk_simp [iblk]
  entry_read
  pointwise
  blk_ext [idx t]

theorem w2_at (c : Dev nD) (t : Fin cfg0.N) (j : Fin 512) (d : Fin 2048) :
    (iblk m c 4 t : FVec Ideal S512x2048 .bf16) (ix2 j d) = aW2 m c (ix2 (⟨t.val % 11 * 512 + j.val, by omega⟩ : Fin 5632) d) := by
  blk_simp [iblk]
  entry_read
  pointwise
  blk_ext [idx t]

theorem g_at (c : Dev nD) (t : Fin cfg0.N) (d : Fin 2048) :
    (iblk m c 5 t : FVec Ideal S1x2048 .f32) (ix2 0 d) = aG m c (ix1 d) := by
  blk_simp [iblk]
  entry_read
  pointwise
  blk_ext [idx t]

theorem b_at (c : Dev nD) (t : Fin cfg0.N) (d : Fin 2048) :
    (iblk m c 6 t : FVec Ideal S1x2048 .f32) (ix2 0 d) = aB m c (ix1 d) := by
  blk_simp [iblk]
  entry_read
  pointwise
  blk_ext [idx t]
end Cert.FfnIdeal.Body
-- ==== Proof.FfnFold.lean ====
module

public import proofs.«01_k».proof.Proof.Gen.FfnIdeal.Value
public import proofs.«01_k».proof.Proof.FfnBody
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Body

open Cert.FfnIdeal Cert.FfnIdeal.Gen Cert.FfnIdeal.Pay Cert.Ffn.Spec Idealize.ShloMosaic Idealize.ShloMosaic.TcCoe Idealize.SL.Sem
open Idealize.ShloMosaic.Pipeline (Dat)

variable (m : (ℓ : Loc nD τ sig) → Buf (Elt Ideal) ℓ)

/-- At the first point of a run of eleven the body stores the modulated rows of its block. -/
theorem h_first (c : Dev nD) (t : Fin cfg0.N) (h0 : t.val % 11 = 0) (r : Fin 512) (k : Fin 2048) :
    (outsAt0 m c t.val t.isLt).2.1 (ix2 r k) = modulated (aX m c) (aM m c) (bOf t.val t.isLt) (rowOf t.val t.isLt r) k := by
  rw [outsAt0_A m c t h0 (by omega)]; frame_out
  rw [pay1_at]
  pointwise
  rw [x_at, mods_at, mods_at]; rfl

/-- What the input scratch holds after every point: the modulated rows of the point's block (stored at the first
    point of a run of eleven, kept by the others). -/
theorem h_at (c : Dev nD) : ∀ (n : ℕ) (h : n < cfg0.N) (r : Fin 512) (k : Fin 2048),
    (outsAt0 m c n h).2.1 (ix2 r k) = modulated (aX m c) (aM m c) (bOf n h) (rowOf n h r) k := by
  intro n
  induction n with
  | zero => exact fun h r k => h_first m c ⟨0, h⟩ rfl r k
  | succ n ih =>
    intro h r k
    by_cases h0 : (n + 1) % 11 = 0
    · exact h_first m c ⟨n + 1, h⟩ h0 r k
    · have e : (outsAt0 m c (n + 1) h).2.1 (ix2 r k) = (outsAt0 m c n (by omega)).2.1 (ix2 r k) := by
        by_cases h1 : (n + 1) % 11 = 10
        · rw [outsAt0_C m c ⟨n + 1, h⟩ h0 h1]
          dsimp only
          unfold sout0_C_0
          rfl
        · rw [outsAt0_B m c ⟨n + 1, h⟩ h0 h1]
          dsimp only
          unfold sout0_B_0
          rfl
      have hN : cfg0.N = 352 := N_0
      rw [e, ih, show bOf n (by omega) = bOf (n + 1) h from Fin.ext (by simp only [bOf]; omega),
        show rowOf n (by omega) r = rowOf (n + 1) h r from Fin.ext (by simp only [rowOf]; omega)]

/-- What point `t` adds at `(r, d)` of the accumulator: its 512 hidden units' share of the last product. -/
def part (c : Dev nD) (t : Fin cfg0.N) (r : Fin 512) (d : Fin 2048) : EReal :=
  ∑ j : Fin 512, hiddenUnit (aX m c) (aM m c) (aW1 m c) (aW3 m c) (bOf t.val t.isLt) (rowOf t.val t.isLt r) (⟨t.val % 11 * 512 + j.val, by omega⟩ : Fin 5632)
    * aW2 m c (ix2 (⟨t.val % 11 * 512 + j.val, by omega⟩ : Fin 5632) d)

/-- The accumulating store, over a scratch that holds the modulated rows, adds the point's part. -/
theorem step_at (c : Dev nD) (t : Fin cfg0.N) (h : FVec Ideal S512x2048 .bf16) (acc : FVec Ideal S512x2048 .f32)
    (hh : ∀ r k, h (ix2 r k) = modulated (aX m c) (aM m c) (bOf t.val t.isLt) (rowOf t.val t.isLt r) k) (r : Fin 512) (d : Fin 2048) :
    k0_pay3 (F := Ideal) h (iblk m c 2 t) (iblk m c 3 t) acc (iblk m c 4 t) (ix2 r d) = acc (ix2 r d) + part m c t r d := by
  rw [pay3_at]
  unfold part hiddenUnit
  simp only [hh]
  refine congrArg _ (Finset.sum_congr rfl fun j _ => ?_)
  rw [w2_at]
  simp only [w1_at, w3_at]

/-- At the last point of a run of eleven the accumulator holds the whole product with `w2`: eleven blocks of 512 hidden
    units are all 5632. -/
theorem acc_at (c : Dev nD) (t : Fin cfg0.N) (ht : t.val % 11 = 10) (r : Fin 512) (d : Fin 2048) :
    (outsAt0 m c t.val t.isLt).2.2 (ix2 r d)
      = ∑ j : Fin 5632, hiddenUnit (aX m c) (aM m c) (aW1 m c) (aW3 m c) (bOf t.val t.isLt) (rowOf t.val t.isLt r) j * aW2 m c (ix2 j d) := by
  rw [Pipeline.eq_sum_fin_of_reset_step_apply_of_flush (fun n h => (outsAt0 m c n h).2.2) 11 (fun _ => 0) (fun t i => part m c t (i 0) (i 1))
    (fun t h0 j => by
      idx_vars j
      rw [outsAt0_A m c t h0 (by omega)]; frame_out
      refine (step_at m c t _ _ (fun r k => ?_) _ _).trans (by rw [pay2_at])
      refine Eq.trans (Eq.symm ?_) (h_at m c t.val t.isLt r k)
      rw [outsAt0_A m c t h0 (by omega)]; frame_out)
    (fun t h0 j => by
      idx_vars j
      have hs : ∀ r k, (outsAt0 m c (t.val - 1) (by omega)).2.1 (ix2 r k) = modulated (aX m c) (aM m c) (bOf t.val t.isLt) (rowOf t.val t.isLt r) k := by
        intro r k
        rw [h_at, show bOf (t.val - 1) (by omega) = bOf t.val t.isLt from Fin.ext (by simp only [bOf]; omega),
          show rowOf (t.val - 1) (by omega) r = rowOf t.val t.isLt r from Fin.ext (by simp only [rowOf]; omega)]
      by_cases h1 : t.val % 11 = 10
      · rw [outsAt0_C m c t h0 h1]; frame_out
        exact (step_at m c t _ _ (fun r k => (congrFun (Memref.IsWhole.read_unread _ _) _).trans (hs r k)) _ _).trans
          (congrArg (· + part m c t j0 j1) (congrFun (Memref.IsWhole.read_unread _ _) _))
      · rw [outsAt0_B m c t h0 h1]; frame_out
        exact (step_at m c t _ _ (fun r k => (congrFun (Memref.IsWhole.read_unread _ _) _).trans (hs r k)) _ _).trans
          (congrArg (· + part m c t j0 j1) (congrFun (Memref.IsWhole.read_unread _ _) _)))
    t ht _, zero_add]
  unfold part
  refine Fin.sum_mul_add_congr fun s k hl => ?_
  have hN : cfg0.N = 352 := N_0
  have hp : 11 * (t.val / 11) + s.val < cfg0.N := Pipeline.run_point_lt_of_flush t ht s
  have e1 : bOf (11 * (t.val / 11) + s.val) hp = bOf t.val t.isLt := Fin.ext (by simp only [bOf]; omega)
  have e2 : rowOf (11 * (t.val / 11) + s.val) hp r = rowOf t.val t.isLt r := Fin.ext (by simp only [rowOf]; omega)
  have e3 : ∀ h, (⟨(11 * (t.val / 11) + s.val) % 11 * 512 + k.val, h⟩ : Fin 5632) = ⟨s.val * 512 + k.val, hl⟩ := fun h => Fin.ext (by simp only; omega)
  show hiddenUnit _ _ _ _ (bOf (11 * (t.val / 11) + s.val) hp) (rowOf (11 * (t.val / 11) + s.val) hp r) _ * aW2 m c (ix2 _ d) = _
  rw [e1, e2, e3]

/-- What the last point of a run leaves in the output block: the layer's value at the rows of the block. -/
theorem out_at (c : Dev nD) (t : Fin cfg0.N) (ht : t.val % 11 = 10) (r : Fin 512) (d : Fin 2048) :
    (outsAt0 m c t.val t.isLt).1 (ix3 0 r d)
      = normed (residRow (aX m c) (aM m c) (aW1 m c) (aW3 m c) (aW2 m c) (bOf t.val t.isLt) (rowOf t.val t.isLt r)) (aG m c (ix1 d)) (aB m c (ix1 d)) d := by
  have hacc : ∀ k : Fin 2048, (outsAt0 m c t.val t.isLt).2.2 (ix2 r k) = _ := acc_at m c t ht r
  rw [outsAt0_C m c t (by omega) ht] at hacc ⊢
  revert hacc
  frame_out
  intro hacc
  rw [pay4_at, g_at, b_at]
  congr 1
  funext k
  rw [hacc, x_at]
  pointwise
  rw [mods_at]
  rfl

end Cert.FfnIdeal.Body
-- ==== Proof.FfnClaim.lean ====
module

public import proofs.«01_k».proof.Proof.Gen.FfnIdeal.Value
public import proofs.«01_k».proof.Defs
public import proofs.«01_k».proof.Proof.FfnFold
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Body

open Cert.FfnIdeal Cert.FfnIdeal.Gen Cert.FfnIdeal.Pay Cert.Ffn.Spec Idealize.ShloMosaic Idealize.ShloMosaic.TcCoe Idealize.SL.Sem
open Idealize.ShloMosaic.Pipeline (Dat)

variable (m : (ℓ : Loc nD τ sig) → Buf (Elt Ideal) ℓ)

/-- The result array is the reference's composed term over the argument arrays. -/
theorem final (c : Dev nD) : (dats m 0 c).arrAt 7 (cfgs 0).N
    = Cert.FfnRefIdeal.Read.val_main_v41 (F := Ideal) (aX m c) (aM m c) (aW1 m c) (aW3 m c) (aW2 m c) (aG m c) (aB m c) := by
  refine (dats m 0 c).arrAt_eq_of_covers 7 _ (by decide +kernel) fun t hf y => ?_
  blk_simp
  rw [after0_7]
  have ht := (flush0_7 t).mp hf
  idx_vars y
  obtain rfl : y0 = 0 := Subsingleton.elim _ _
  refine (out_at m c t ht y1 y2).trans ?_
  rw [← Cert.FfnRefIdeal.Pay.ref_out]
  refine congrArg _ ?_
  have hN : cfg0.N = 352 := N_0
  unfold bOf rowOf
  blk_ext [idx t]

end Cert.FfnIdeal.Body

namespace Cert.Proof
open Idealize.ShloMosaic Idealize.SL.Sem

/-- The feed-forward call's result is the reference's: both end at the one composed term. -/
theorem ffn_algebraic : Cert.algebraic_FfnIdeal_FfnRefIdeal := by
  pair_intro
  · run_from Cert.FfnIdeal.Gen.run_main m g
  · run_from Cert.FfnRefIdeal.Value.run m' g'
    rw [Cert.FfnRefIdeal.Read.val_main_v41_eq]
    obtain ⟨h0, h1, h2, h3, h4, h5, h6⟩ := hagree c
    rw [h0, h1, h2, h3, h4, h5, h6]
    exact (Cert.FfnIdeal.Body.final m c).symm

end Cert.Proof
-- ==== Proof.ScanLoop.lean ====
module

public import proofs.«01_k».proof.Proof.Gen.ScanIdeal.Frame
public import proofs.«01_k».proof.Proof.Gen.ScanIdeal.Loops
public import Idealize.ShloMosaic.Lib.Pointwise

@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ScanIdeal.Gen

variable {F : FTy → Type} [FloatOps F]

/-- Row `n` of a block of 512 rows, as one row. -/
def rowOf (A : Vec F S512x384 .f32) (n : ℕ) : Vec F S1x384 .f32 :=
  fun x => A (ix2 (n0 := 512) (n1 := 384) ⟨n % 512, Nat.mod_lt _ (by decide)⟩ (x 1))

/-- The state after `n` rows of the recurrence `h ↦ a · h + b`, started from `h0`. -/
def hrow (A B : Vec F S512x384 .f32) (h0 : Vec F S1x384 .f32) : ℕ → Vec F S1x384 .f32
  | 0 => h0
  | n + 1 => addf (mulf (rowOf A n) (hrow A B h0 n)) (rowOf B n)

theorem hrow_succ (A B : Vec F S512x384 .f32) (h0 : Vec F S1x384 .f32) (n : ℕ) :
    hrow A B h0 (n + 1) = addf (mulf (rowOf A n) (hrow A B h0 n)) (rowOf B n) := rfl

/-- The block of outputs: row `n` is the state after row `n`. -/
def Out9 (A B : Vec F S512x384 .f32) (h0 : Vec F S1x384 .f32) : Vec F S1x512x384 .f32 :=
  fun y => hrow A B h0 ((y 1).val + 1) (ix2 (n0 := 1) (n1 := 384) 0 (y 2))

theorem trips_eq : k0_t1_loop.trips = 64 := by decide +kernel

theorem off1_eq : ∀ (k : Fin k0_t1_loop.trips) (r : Fin 8), k0_off1 k (BitVec.ofNat 32 r.val) = ![8 * k.val + r.val, 0] := by
  decide +kernel

theorem off2_eq : ∀ (k : Fin k0_t1_loop.trips) (r : Fin 8), k0_off2 k (BitVec.ofNat 32 r.val) = ![0, 8 * k.val + r.val, 0] := by
  decide +kernel

/-- A load of one row of a scratch is that row of what the scratch holds. -/
theorem load_row (v : View sig .tc .vmem S512x384 .f32) (X : BufTy.Contents (Elt F) v.ty) (k : Fin k0_t1_loop.trips) (r : Fin 8)
    (inb : ∀ a, k0_off1 k (BitVec.ofNat 32 r.val) a + S1x384.size a ≤ S512x384.size a) :
    v.readAt (Elt F) (Rect.unit (s := S512x384) (k0_off1 k (BitVec.ofNat 32 r.val)) S1x384.size inb).toLoadRect X
      = rowOf (v.read (Elt F) X) (8 * k.val + r.val) := by
  have hk : k.val < 64 := lt_of_lt_of_eq k.isLt trips_eq
  have hr := r.isLt
  funext y
  refine congrArg (v.read (Elt F) X) (funext fun a => Fin.ext ?_)
  have hy : (y 0).val < 1 := (y 0).isLt
  have h0 := congrFun (off1_eq k r)
  match a with
  | 0 =>
    show k0_off1 k (BitVec.ofNat 32 r.val) 0 + 1 * (y 0).val = (8 * k.val + r.val) % 512
    rw [h0]; show 8 * k.val + r.val + 1 * (y 0).val = _; omega
  | 1 =>
    show k0_off1 k (BitVec.ofNat 32 r.val) 1 + 1 * (y 1).val = (y 1).val
    rw [h0]; show 0 + 1 * (y 1).val = _; omega

/-- A row stored at its place of the output block agrees with the block of outputs. -/
theorem piece_agree (A B : Vec F S512x384 .f32) (h0 : Vec F S1x384 .f32) (k : Fin k0_t1_loop.trips) (r : Fin 8)
    (inb : ∀ a, k0_off2 k (BitVec.ofNat 32 r.val) a + S1x1x384.size a ≤ S1x512x384.size a)
    (w : Vec F S1x384 .f32) (hw : w = hrow A B h0 (8 * k.val + r.val + 1)) (x : S1x1x384.Idx) :
    shapeCast S1x1x384 w shapeCasts_S1x384_S1x1x384 x
      = Out9 A B h0 ((Rect.unit (s := S1x512x384) (k0_off2 k (BitVec.ofNat 32 r.val)) S1x1x384.size inb).emb x) := by
  subst hw
  have hk : k.val < 64 := lt_of_lt_of_eq k.isLt trips_eq
  have hoff := congrFun (off2_eq k r)
  have hx1 : (x 1).val < 1 := (x 1).isLt
  have e1 : (((Rect.unit (s := S1x512x384) (k0_off2 k (BitVec.ofNat 32 r.val)) S1x1x384.size inb).emb x) 1).val = 8 * k.val + r.val := by
    show k0_off2 k (BitVec.ofNat 32 r.val) 1 + 1 * (x 1).val = _
    rw [hoff]; show 8 * k.val + r.val + 1 * (x 1).val = _; omega
  have e2 : (((Rect.unit (s := S1x512x384) (k0_off2 k (BitVec.ofNat 32 r.val)) S1x1x384.size inb).emb x) 2) = (x 2) := by
    apply Fin.ext
    show k0_off2 k (BitVec.ofNat 32 r.val) 2 + 1 * (x 2).val = _
    rw [hoff]; show 0 + 1 * (x 2).val = _; omega
  unfold Out9
  rw [e1, e2]
  idx_vars x
  pointwise

/-- The rectangle of one row holds the indices of that row. -/
theorem piece_mem (k : Fin k0_t1_loop.trips) (r : Fin 8)
    (inb : ∀ a, k0_off2 k (BitVec.ofNat 32 r.val) a + S1x1x384.size a ≤ S1x512x384.size a) (y : S1x512x384.Idx)
    (hy : (y 1).val = 8 * k.val + r.val) :
    y ∈ (Rect.unit (s := S1x512x384) (k0_off2 k (BitVec.ofNat 32 r.val)) S1x1x384.size inb).set := by
  rw [Rect.mem_set_unit]
  intro a
  rw [off2_eq k r]
  match a with
  | 0 => exact ⟨Nat.zero_le _, (y 0).isLt⟩
  | 1 => exact ⟨hy.ge, by show (y 1).val < 8 * k.val + r.val + 1; omega⟩
  | 2 => exact ⟨Nat.zero_le _, by show (y 2).val < 0 + 384; have h : (y 2).val < 384 := (y 2).isLt; omega⟩

/-- One step of the recurrence, at any spelling of its row operands and of the state before it. -/
theorem step_eq {A B : Vec F S512x384 .f32} {h0 : Vec F S1x384 .f32} {n : ℕ} {a b h : Vec F S1x384 .f32}
    (ha : a = rowOf A n) (hb : b = rowOf B n) (hh : h = hrow A B h0 n) : addf (mulf a h) b = hrow A B h0 (n + 1) := by
  rw [hrow_succ, ha, hb, hh]

variable (arg3 : Memref sig .tc .vmem S1x512x384 .f32) (harg3 : arg3.IsWhole)
  (arg4 : Memref sig .tc .vmem S1x8x384 .f32) (harg4 : arg4.IsWhole)
  (arg5 : Memref sig .tc .vmem S1x8x384 .f32) (harg5 : arg5.IsWhole)
  (arg6 : Memref sig .tc .vmem S4x384 .f32) (harg6 : arg6.IsWhole)
  (arg7 : Memref sig .tc .vmem S1x384 .f32) (harg7 : arg7.IsWhole)
  (arg8 : Memref sig .tc .vmem S1x384x768 .bf16) (harg8 : arg8.IsWhole)
  (arg9 : Memref sig .tc .vmem S1x1x768 .f32) (harg9 : arg9.IsWhole)
  (arg10 : Memref sig .tc .vmem S1x384 .f32) (harg10 : arg10.IsWhole)
  (arg11 : Memref sig .tc .vmem S1x1x384 .f32) (harg11 : arg11.IsWhole)
  (arg12 : Memref sig .tc .vmem S1x512x384 .f32) (harg12 : arg12.IsWhole)
  (arg13 : Memref sig .tc .vmem S1x1x384 .f32) (harg13 : arg13.IsWhole)
  (arg14 : Memref sig .tc .vmem S528x384 .f32) (harg14 : arg14.IsWhole)
  (arg15 : Memref sig .tc .vmem S512x384 .f32) (harg15 : arg15.IsWhole)
  (arg16 : Memref sig .tc .vmem S512x384 .f32) (harg16 : arg16.IsWhole)
  (arg17 : Memref sig .tc .vmem S1x384 .f32) (harg17 : arg17.IsWhole)

/-- One trip of the loop takes the state eight rows on. -/
theorem tripR_eq (c : Dev nD) (i : grid0.Coords)
    (v50 v60 v62 : FVec F S512x384 .f32) (v64 : FVec F S1x384 .f32)
    (X15 : BufTy.Contents (Elt F) arg15.view.ty) (X16 : BufTy.Contents (Elt F) arg16.view.ty)
    (h0 : Vec F S1x384 .f32) (k : Fin k0_t1_loop.trips) (acc : Vec F S1x384 .f32)
    (hacc : acc = hrow (arg15.view.read (Elt F) X15) (arg16.view.read (Elt F) X16) h0 (8 * k.val)) :
    tripR_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 k acc = hrow (arg15.view.read (Elt F) X15) (arg16.view.read (Elt F) X16) h0 (8 * k.val + 7 + 1) := by
  have a0 := load_row arg15.view X15 k 0 (k0_off1_inb k 0)
  have b0 := load_row arg16.view X16 k 0 (k0_off1_inb k 0)
  have a1 := load_row arg15.view X15 k 1 (k0_off1_inb k 1)
  have b1 := load_row arg16.view X16 k 1 (k0_off1_inb k 1)
  have a2 := load_row arg15.view X15 k 2 (k0_off1_inb k 2)
  have b2 := load_row arg16.view X16 k 2 (k0_off1_inb k 2)
  have a3 := load_row arg15.view X15 k 3 (k0_off1_inb k 3)
  have b3 := load_row arg16.view X16 k 3 (k0_off1_inb k 3)
  have a4 := load_row arg15.view X15 k 4 (k0_off1_inb k 4)
  have b4 := load_row arg16.view X16 k 4 (k0_off1_inb k 4)
  have a5 := load_row arg15.view X15 k 5 (k0_off1_inb k 5)
  have b5 := load_row arg16.view X16 k 5 (k0_off1_inb k 5)
  have a6 := load_row arg15.view X15 k 6 (k0_off1_inb k 6)
  have b6 := load_row arg16.view X16 k 6 (k0_off1_inb k 6)
  have a7 := load_row arg15.view X15 k 7 (k0_off1_inb k 7)
  have b7 := load_row arg16.view X16 k 7 (k0_off1_inb k 7)
  have s0 : _ = hrow (arg15.view.read (Elt F) X15) (arg16.view.read (Elt F) X16) h0 (8 * k.val + 0 + 1) := step_eq (n := 8 * k.val + 0) a0 b0 hacc
  have s1 : _ = hrow (arg15.view.read (Elt F) X15) (arg16.view.read (Elt F) X16) h0 (8 * k.val + 1 + 1) := step_eq (n := 8 * k.val + 1) a1 b1 s0
  have s2 : _ = hrow (arg15.view.read (Elt F) X15) (arg16.view.read (Elt F) X16) h0 (8 * k.val + 2 + 1) := step_eq (n := 8 * k.val + 2) a2 b2 s1
  have s3 : _ = hrow (arg15.view.read (Elt F) X15) (arg16.view.read (Elt F) X16) h0 (8 * k.val + 3 + 1) := step_eq (n := 8 * k.val + 3) a3 b3 s2
  have s4 : _ = hrow (arg15.view.read (Elt F) X15) (arg16.view.read (Elt F) X16) h0 (8 * k.val + 4 + 1) := step_eq (n := 8 * k.val + 4) a4 b4 s3
  have s5 : _ = hrow (arg15.view.read (Elt F) X15) (arg16.view.read (Elt F) X16) h0 (8 * k.val + 5 + 1) := step_eq (n := 8 * k.val + 5) a5 b5 s4
  have s6 : _ = hrow (arg15.view.read (Elt F) X15) (arg16.view.read (Elt F) X16) h0 (8 * k.val + 6 + 1) := step_eq (n := 8 * k.val + 6) a6 b6 s5
  have s7 : _ = hrow (arg15.view.read (Elt F) X15) (arg16.view.read (Elt F) X16) h0 (8 * k.val + 7 + 1) := step_eq (n := 8 * k.val + 7) a7 b7 s6
  unfold tripR_k0_t1 trip_k0_t1
  exact s7

/-- What one trip of the loop stores agrees with the block of outputs. -/
theorem tripL_agree (c : Dev nD) (i : grid0.Coords)
    (v50 v60 v62 : FVec F S512x384 .f32) (v64 : FVec F S1x384 .f32)
    (X15 : BufTy.Contents (Elt F) arg15.view.ty) (X16 : BufTy.Contents (Elt F) arg16.view.ty)
    (h0 : Vec F S1x384 .f32) (k : Fin k0_t1_loop.trips) (acc : Vec F S1x384 .f32)
    (hacc : acc = hrow (arg15.view.read (Elt F) X15) (arg16.view.read (Elt F) X16) h0 (8 * k.val)) :
    ∀ p ∈ tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 k acc, ∀ x : p.1.shape.Idx, p.2 x = Out9 (arg15.view.read (Elt F) X15) (arg16.view.read (Elt F) X16) h0 (p.1.emb x) := by
  have a0 := load_row arg15.view X15 k 0 (k0_off1_inb k 0)
  have b0 := load_row arg16.view X16 k 0 (k0_off1_inb k 0)
  have a1 := load_row arg15.view X15 k 1 (k0_off1_inb k 1)
  have b1 := load_row arg16.view X16 k 1 (k0_off1_inb k 1)
  have a2 := load_row arg15.view X15 k 2 (k0_off1_inb k 2)
  have b2 := load_row arg16.view X16 k 2 (k0_off1_inb k 2)
  have a3 := load_row arg15.view X15 k 3 (k0_off1_inb k 3)
  have b3 := load_row arg16.view X16 k 3 (k0_off1_inb k 3)
  have a4 := load_row arg15.view X15 k 4 (k0_off1_inb k 4)
  have b4 := load_row arg16.view X16 k 4 (k0_off1_inb k 4)
  have a5 := load_row arg15.view X15 k 5 (k0_off1_inb k 5)
  have b5 := load_row arg16.view X16 k 5 (k0_off1_inb k 5)
  have a6 := load_row arg15.view X15 k 6 (k0_off1_inb k 6)
  have b6 := load_row arg16.view X16 k 6 (k0_off1_inb k 6)
  have a7 := load_row arg15.view X15 k 7 (k0_off1_inb k 7)
  have b7 := load_row arg16.view X16 k 7 (k0_off1_inb k 7)
  have s0 : _ = hrow (arg15.view.read (Elt F) X15) (arg16.view.read (Elt F) X16) h0 (8 * k.val + 0 + 1) := step_eq (n := 8 * k.val + 0) a0 b0 hacc
  have s1 : _ = hrow (arg15.view.read (Elt F) X15) (arg16.view.read (Elt F) X16) h0 (8 * k.val + 1 + 1) := step_eq (n := 8 * k.val + 1) a1 b1 s0
  have s2 : _ = hrow (arg15.view.read (Elt F) X15) (arg16.view.read (Elt F) X16) h0 (8 * k.val + 2 + 1) := step_eq (n := 8 * k.val + 2) a2 b2 s1
  have s3 : _ = hrow (arg15.view.read (Elt F) X15) (arg16.view.read (Elt F) X16) h0 (8 * k.val + 3 + 1) := step_eq (n := 8 * k.val + 3) a3 b3 s2
  have s4 : _ = hrow (arg15.view.read (Elt F) X15) (arg16.view.read (Elt F) X16) h0 (8 * k.val + 4 + 1) := step_eq (n := 8 * k.val + 4) a4 b4 s3
  have s5 : _ = hrow (arg15.view.read (Elt F) X15) (arg16.view.read (Elt F) X16) h0 (8 * k.val + 5 + 1) := step_eq (n := 8 * k.val + 5) a5 b5 s4
  have s6 : _ = hrow (arg15.view.read (Elt F) X15) (arg16.view.read (Elt F) X16) h0 (8 * k.val + 6 + 1) := step_eq (n := 8 * k.val + 6) a6 b6 s5
  have s7 : _ = hrow (arg15.view.read (Elt F) X15) (arg16.view.read (Elt F) X16) h0 (8 * k.val + 7 + 1) := step_eq (n := 8 * k.val + 7) a7 b7 s6
  unfold tripL_k0_t1 trip_k0_t1
  dsimp only
  rw [List.forall_mem_cons]
  refine ⟨fun x => piece_agree (arg15.view.read (Elt F) X15) (arg16.view.read (Elt F) X16) h0 k 7 (k0_off2_inb k 7) _ s7 x, ?_⟩
  rw [List.forall_mem_cons]
  refine ⟨fun x => piece_agree (arg15.view.read (Elt F) X15) (arg16.view.read (Elt F) X16) h0 k 6 (k0_off2_inb k 6) _ s6 x, ?_⟩
  rw [List.forall_mem_cons]
  refine ⟨fun x => piece_agree (arg15.view.read (Elt F) X15) (arg16.view.read (Elt F) X16) h0 k 5 (k0_off2_inb k 5) _ s5 x, ?_⟩
  rw [List.forall_mem_cons]
  refine ⟨fun x => piece_agree (arg15.view.read (Elt F) X15) (arg16.view.read (Elt F) X16) h0 k 4 (k0_off2_inb k 4) _ s4 x, ?_⟩
  rw [List.forall_mem_cons]
  refine ⟨fun x => piece_agree (arg15.view.read (Elt F) X15) (arg16.view.read (Elt F) X16) h0 k 3 (k0_off2_inb k 3) _ s3 x, ?_⟩
  rw [List.forall_mem_cons]
  refine ⟨fun x => piece_agree (arg15.view.read (Elt F) X15) (arg16.view.read (Elt F) X16) h0 k 2 (k0_off2_inb k 2) _ s2 x, ?_⟩
  rw [List.forall_mem_cons]
  refine ⟨fun x => piece_agree (arg15.view.read (Elt F) X15) (arg16.view.read (Elt F) X16) h0 k 1 (k0_off2_inb k 1) _ s1 x, ?_⟩
  rw [List.forall_mem_cons]
  refine ⟨fun x => piece_agree (arg15.view.read (Elt F) X15) (arg16.view.read (Elt F) X16) h0 k 0 (k0_off2_inb k 0) _ s0 x, ?_⟩
  intro p hp
  exact absurd hp List.not_mem_nil

/-- One trip of the loop stores its eight rows. -/
theorem tripL_cover (c : Dev nD) (i : grid0.Coords)
    (v50 v60 v62 : FVec F S512x384 .f32) (v64 : FVec F S1x384 .f32)
    (X15 : BufTy.Contents (Elt F) arg15.view.ty) (X16 : BufTy.Contents (Elt F) arg16.view.ty)
    (k : Fin k0_t1_loop.trips) (acc : Vec F S1x384 .f32) (y : S1x512x384.Idx)
    (h1 : 8 * k.val ≤ (y 1).val) (h2 : (y 1).val < 8 * (k.val + 1)) :
    ∃ p ∈ tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 k acc, y ∈ p.1.set := by
  unfold tripL_k0_t1 trip_k0_t1
  dsimp only
  obtain ⟨r, hr⟩ : ∃ r : Fin 8, (y 1).val = 8 * k.val + r.val := ⟨⟨(y 1).val - 8 * k.val, by omega⟩, by dsimp only; omega⟩
  by_cases e0 : r = 0
  · subst e0
    exact ⟨_, List.mem_cons_of_mem _ <| List.mem_cons_of_mem _ <| List.mem_cons_of_mem _ <| List.mem_cons_of_mem _ <| List.mem_cons_of_mem _ <| List.mem_cons_of_mem _ <| List.mem_cons_of_mem _ <| List.mem_cons_self, piece_mem k 0 (k0_off2_inb k 0) y hr⟩
  by_cases e1 : r = 1
  · subst e1
    exact ⟨_, List.mem_cons_of_mem _ <| List.mem_cons_of_mem _ <| List.mem_cons_of_mem _ <| List.mem_cons_of_mem _ <| List.mem_cons_of_mem _ <| List.mem_cons_of_mem _ <| List.mem_cons_self, piece_mem k 1 (k0_off2_inb k 1) y hr⟩
  by_cases e2 : r = 2
  · subst e2
    exact ⟨_, List.mem_cons_of_mem _ <| List.mem_cons_of_mem _ <| List.mem_cons_of_mem _ <| List.mem_cons_of_mem _ <| List.mem_cons_of_mem _ <| List.mem_cons_self, piece_mem k 2 (k0_off2_inb k 2) y hr⟩
  by_cases e3 : r = 3
  · subst e3
    exact ⟨_, List.mem_cons_of_mem _ <| List.mem_cons_of_mem _ <| List.mem_cons_of_mem _ <| List.mem_cons_of_mem _ <| List.mem_cons_self, piece_mem k 3 (k0_off2_inb k 3) y hr⟩
  by_cases e4 : r = 4
  · subst e4
    exact ⟨_, List.mem_cons_of_mem _ <| List.mem_cons_of_mem _ <| List.mem_cons_of_mem _ <| List.mem_cons_self, piece_mem k 4 (k0_off2_inb k 4) y hr⟩
  by_cases e5 : r = 5
  · subst e5
    exact ⟨_, List.mem_cons_of_mem _ <| List.mem_cons_of_mem _ <| List.mem_cons_self, piece_mem k 5 (k0_off2_inb k 5) y hr⟩
  by_cases e6 : r = 6
  · subst e6
    exact ⟨_, List.mem_cons_of_mem _ <| List.mem_cons_self, piece_mem k 6 (k0_off2_inb k 6) y hr⟩
  by_cases e7 : r = 7
  · subst e7
    exact ⟨_, List.mem_cons_self, piece_mem k 7 (k0_off2_inb k 7) y hr⟩
  have hall : ∀ r : Fin 8, ¬ r = 0 → ¬ r = 1 → ¬ r = 2 → ¬ r = 3 → ¬ r = 4 → ¬ r = 5 → ¬ r = 6 → ¬ r = 7 → False := by
    rintro ⟨r, hr⟩ e0 e1 e2 e3 e4 e5 e6 e7
    simp only [Fin.ext_iff, Fin.isValue, Fin.val_zero, Fin.val_one, Fin.val_ofNat, Nat.reduceMod] at e0 e1 e2 e3 e4 e5 e6 e7
    omega
  exact (hall r e0 e1 e2 e3 e4 e5 e6 e7).elim

/-- The state after `k` trips of the loop, and what those trips have stored. -/
theorem st_spec (c : Dev nD) (i : grid0.Coords)
    (v50 v60 v62 : FVec F S512x384 .f32) (v64 : FVec F S1x384 .f32)
    (X15 : BufTy.Contents (Elt F) arg15.view.ty) (X16 : BufTy.Contents (Elt F) arg16.view.ty)
    (h0 : Vec F S1x384 .f32) :
    ∀ k : ℕ, k ≤ 64 →
      (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 h0 k).1 = hrow (arg15.view.read (Elt F) X15) (arg16.view.read (Elt F) X16) h0 (8 * k) ∧
      (∀ p ∈ (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 h0 k).2, ∀ x : p.1.shape.Idx, p.2 x = Out9 (arg15.view.read (Elt F) X15) (arg16.view.read (Elt F) X16) h0 (p.1.emb x)) ∧
      (∀ y : S1x512x384.Idx, (y 1).val < 8 * k → ∃ p ∈ (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 h0 k).2, y ∈ p.1.set)
  | 0, _ => ⟨rfl, fun p hp => absurd hp List.not_mem_nil, fun y hy => absurd hy (by omega)⟩
  | k + 1, hk => by
    obtain ⟨i1, i2, i3⟩ := st_spec c i v50 v60 v62 v64 X15 X16 h0 k (by omega)
    have hkt : k < k0_t1_loop.trips := by rw [trips_eq]; omega
    have e := st_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 h0 ⟨k, hkt⟩
    dsimp only at e
    rw [e]
    refine ⟨tripR_eq arg3 harg3 arg4 harg4 arg5 harg5 arg6 harg6 arg7 harg7 arg8 harg8 arg9 harg9 arg10 harg10 arg11 harg11 arg12 harg12 arg13 harg13 arg14 harg14 arg15 harg15 arg16 harg16 arg17 harg17 c i v50 v60 v62 v64 X15 X16 h0 ⟨k, hkt⟩ _ i1, ?_, ?_⟩
    · intro p hp
      rcases List.mem_append.mp hp with hp | hp
      · exact tripL_agree arg3 harg3 arg4 harg4 arg5 harg5 arg6 harg6 arg7 harg7 arg8 harg8 arg9 harg9 arg10 harg10 arg11 harg11 arg12 harg12 arg13 harg13 arg14 harg14 arg15 harg15 arg16 harg16 arg17 harg17 c i v50 v60 v62 v64 X15 X16 h0 ⟨k, hkt⟩ _ i1 p hp
      · exact i2 p hp
    · intro y hy
      by_cases hy' : (y 1).val < 8 * k
      · obtain ⟨p, hp, hy''⟩ := i3 y hy'
        exact ⟨p, List.mem_append_right _ hp, hy''⟩
      · obtain ⟨p, hp, hy''⟩ := tripL_cover arg3 harg3 arg4 harg4 arg5 harg5 arg6 harg6 arg7 harg7 arg8 harg8 arg9 harg9 arg10 harg10 arg11 harg11 arg12 harg12 arg13 harg13 arg14 harg14 arg15 harg15 arg16 harg16 arg17 harg17 c i v50 v60 v62 v64 X15 X16 ⟨k, hkt⟩ _ y (by dsimp only; omega) hy
        exact ⟨p, List.mem_append_left _ hp, hy''⟩

/-- After the loop the carried value is the state after all the rows. -/
theorem st_fst (c : Dev nD) (i : grid0.Coords)
    (v50 v60 v62 : FVec F S512x384 .f32) (v64 : FVec F S1x384 .f32)
    (X15 : BufTy.Contents (Elt F) arg15.view.ty) (X16 : BufTy.Contents (Elt F) arg16.view.ty)
    (h0 : Vec F S1x384 .f32) :
    (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 h0 k0_t1_loop.trips).1 = hrow (arg15.view.read (Elt F) X15) (arg16.view.read (Elt F) X16) h0 512 := by
  rw [trips_eq]
  exact (st_spec arg3 harg3 arg4 harg4 arg5 harg5 arg6 harg6 arg7 harg7 arg8 harg8 arg9 harg9 arg10 harg10 arg11 harg11 arg12 harg12 arg13 harg13 arg14 harg14 arg15 harg15 arg16 harg16 arg17 harg17 c i v50 v60 v62 v64 X15 X16 h0 64 (by omega)).1

/-- After the loop the output window reads as the block of outputs. -/
theorem st_read (c : Dev nD) (i : grid0.Coords)
    (v50 v60 v62 : FVec F S512x384 .f32) (v64 : FVec F S1x384 .f32)
    (X15 : BufTy.Contents (Elt F) arg15.view.ty) (X16 : BufTy.Contents (Elt F) arg16.view.ty)
    (h0 : Vec F S1x384 .f32)
    (G : BufTy.Contents (Elt F) arg12.view.ty) :
    arg12.view.read (Elt F) (arg12.view.writes (Elt F) G (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v50 v60 v62 v64 X15 X16 h0 k0_t1_loop.trips).2) = Out9 (arg15.view.read (Elt F) X15) (arg16.view.read (Elt F) X16) h0 := by
  rw [trips_eq]
  funext y
  have hy : (y 1).val < 512 := (y 1).isLt
  obtain ⟨_, i2, i3⟩ := st_spec arg3 harg3 arg4 harg4 arg5 harg5 arg6 harg6 arg7 harg7 arg8 harg8 arg9 harg9 arg10 harg10 arg11 harg11 arg12 harg12 arg13 harg13 arg14 harg14 arg15 harg15 arg16 harg16 arg17 harg17 c i v50 v60 v62 v64 X15 X16 h0 64 (by omega)
  exact View.read_writes_apply_of_pieces _ _ _ _ i2 y (i3 y (by omega))

end Cert.ScanIdeal.Body

end

end
-- ==== Proof.ScanVal.lean ====
module

public import proofs.«01_k».proof.Proof.Gen.ScanIdeal.Frame
public import proofs.«01_k».proof.Proof.Gen.ScanIdeal.Loops
public import Idealize.ShloMosaic.Lib.Pointwise
public import proofs.«01_k».proof.Proof.ScanLoop
public import Idealize.ShloMosaic.Lib.VecWindow
@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ScanIdeal.Gen

variable {F : FTy → Type} [FloatOps F]

/-- The condition under which the body takes the state from its own input: the first chunk. -/
abbrev cond0_0 (i : grid0.Coords) : Prop := (Scalar.cmpi .ne (Scalar.extui (Scalar.cmpi .eq (BitVec.ofNat 32 (i 2).val) 0#32)) 0#32) = 1#1

/-- The chunk with the eight rows before it and the eight rows after it. -/
def UX (i : grid0.Coords) (x0 : Vec F S1x512x384 .f32) (x1 x2 : Vec F S1x8x384 .f32) : Vec F S528x384 .f32 :=
  fun y =>
    if h : (y 0).val < 8 then k0_pay14 i x1 (ix2 (n0 := 8) (n1 := 384) ⟨(y 0).val, h⟩ (y 1))
    else if h' : (y 0).val - 8 < 512 then k0_pay15 x0 (ix2 (n0 := 512) (n1 := 384) ⟨(y 0).val - 8, h'⟩ (y 1))
    else k0_pay16 i x2 (ix2 (n0 := 8) (n1 := 384) ⟨((y 0).val - 520) % 8, Nat.mod_lt _ (by decide)⟩ (y 1))

/-- The 512 rows from row `o` on. -/
def UW (o : Fin 17) (A : Vec F S528x384 .f32) : Vec F S512x384 .f32 :=
  fun y => A (ix2 (n0 := 528) (n1 := 384) ⟨o.val + (y 0).val, by have h : (y 0).val < 512 := (y 0).isLt; omega⟩ (y 1))

/-- Row `k` of the convolution's taps. -/
def CR (x3 : Vec F S4x384 .f32) (k : Fin 4) : Vec F S1x384 .f32 :=
  fun y => x3 (ix2 (n0 := 4) (n1 := 384) k (y 1))

/-- The convolved chunk. -/
def XB (i : grid0.Coords) (x0 : Vec F S1x512x384 .f32) (x1 x2 : Vec F S1x8x384 .f32) (x3 : Vec F S4x384 .f32) (x4 : Vec F S1x384 .f32) :
    FVec F S512x384 .f32 :=
  k0_pay19 (k0_pay17 x4) (k0_pay18 (CR x3 0)) (UW 7 (UX i x0 x1 x2)) (CR x3 1) (UW 8 (UX i x0 x1 x2)) (CR x3 2)
    (UW 9 (UX i x0 x1 x2)) (CR x3 3) (UW 10 (UX i x0 x1 x2))

/-- The recurrence gate. -/
def RG (i : grid0.Coords) (x0 : Vec F S1x512x384 .f32) (x1 x2 : Vec F S1x8x384 .f32) (x3 : Vec F S4x384 .f32) (x4 : Vec F S1x384 .f32)
    (x5 : Vec F S1x384x768 .bf16) (x6 : Vec F S1x1x768 .f32) : FVec F S512x384 .f32 :=
  k0_pay21 (k0_pay17 x4) (k0_pay18 (CR x3 0)) (UW 7 (UX i x0 x1 x2)) (CR x3 1) (UW 8 (UX i x0 x1 x2)) (CR x3 2)
    (UW 9 (UX i x0 x1 x2)) (CR x3 3) (UW 10 (UX i x0 x1 x2)) x5 x6

/-- The input gate. -/
def IG (i : grid0.Coords) (x0 : Vec F S1x512x384 .f32) (x1 x2 : Vec F S1x8x384 .f32) (x3 : Vec F S4x384 .f32) (x4 : Vec F S1x384 .f32)
    (x5 : Vec F S1x384x768 .bf16) (x6 : Vec F S1x1x768 .f32) : FVec F S512x384 .f32 :=
  k0_pay22 (k0_pay17 x4) (k0_pay18 (CR x3 0)) (UW 7 (UX i x0 x1 x2)) (CR x3 1) (UW 8 (UX i x0 x1 x2)) (CR x3 2)
    (UW 9 (UX i x0 x1 x2)) (CR x3 3) (UW 10 (UX i x0 x1 x2)) x5 x6

/-- The recurrence's coefficients. -/
def AA (i : grid0.Coords) (x0 : Vec F S1x512x384 .f32) (x1 x2 : Vec F S1x8x384 .f32) (x3 : Vec F S4x384 .f32) (x4 : Vec F S1x384 .f32)
    (x5 : Vec F S1x384x768 .bf16) (x6 : Vec F S1x1x768 .f32) (x7 : Vec F S1x384 .f32) : FVec F S512x384 .f32 :=
  k0_pay26 (RG i x0 x1 x2 x3 x4 x5 x6) (k0_pay23 x7)

/-- The recurrence's inputs. -/
def BB (i : grid0.Coords) (x0 : Vec F S1x512x384 .f32) (x1 x2 : Vec F S1x8x384 .f32) (x3 : Vec F S4x384 .f32) (x4 : Vec F S1x384 .f32)
    (x5 : Vec F S1x384x768 .bf16) (x6 : Vec F S1x1x768 .f32) (x7 : Vec F S1x384 .f32) : FVec F S512x384 .f32 :=
  k0_pay27 (XB i x0 x1 x2 x3 x4) (RG i x0 x1 x2 x3 x4 x5 x6) (IG i x0 x1 x2 x3 x4 x5 x6) (k0_pay23 x7)

/-- A row of the taps, loaded. -/
theorem load_tap (m : Memref sig .tc .vmem S4x384 .f32) (hm : m.IsWhole) (x3 : Vec F S4x384 .f32) (k : Fin 4)
    (inb : ∀ a, (![k.val, 0] : Fin 2 → ℕ) a + S1x384.size a ≤ S4x384.size a) :
    m.view.readAt (Elt F) (Rect.unit (s := S4x384) ![k.val, 0] S1x384.size inb).toLoadRect (hm.unread x3) = CR x3 k := by
  funext y
  have hy : (y 0).val < 1 := (y 0).isLt
  refine (congrFun (hm.read_unread x3) _).trans (congrArg x3 (funext fun a => Fin.ext ?_))
  match a with
  | 0 => show k.val + 1 * (y 0).val = k.val; omega
  | 1 => show 0 + 1 * (y 1).val = (y 1).val; omega

/-- A whole block, loaded. -/
theorem load_full {S : Shape} {e : EltTy} (m : Memref sig .tc .vmem S e) (hm : m.IsWhole) (x : Vec F S e) {off : Fin S.rank → ℕ}
    (inb : ∀ a, off a + S.size a ≤ S.size a) :
    m.view.readAt (Elt F) (Rect.unit (s := S) off S.size inb).toLoadRect (hm.unread x) = x :=
  (View.readAt_full _ _ inb).trans (hm.read_unread x)

/-- The three stores that lay out the chunk with its neighbours. -/
abbrev UL (i : grid0.Coords) (x0 : Vec F S1x512x384 .f32) (x1 x2 : Vec F S1x8x384 .f32) : List (View.Piece (Elt F) S528x384 .f32) :=
  [⟨Rect.unit ![520, 0] S8x384.size inb_S528x384_S8x384_520_0, k0_pay16 i x2⟩,
   ⟨Rect.unit ![8, 0] S512x384.size inb_S528x384_S512x384_8_0, k0_pay15 x0⟩,
   ⟨Rect.unit ![0, 0] S8x384.size inb_S528x384_S8x384_0_0, k0_pay14 i x1⟩]

theorem UL_agree (i : grid0.Coords) (x0 : Vec F S1x512x384 .f32) (x1 x2 : Vec F S1x8x384 .f32) :
    ∀ p ∈ UL i x0 x1 x2, ∀ x : p.1.shape.Idx, p.2 x = UX i x0 x1 x2 (p.1.emb x) := by
  unfold UL
  rw [List.forall_mem_cons]
  refine ⟨fun (x : S8x384.Idx) => ?_, ?_⟩
  · have h0 : (x 0).val < 8 := (x 0).isLt
    have e0 : (((Rect.unit (s := S528x384) ![520, 0] S8x384.size inb_S528x384_S8x384_520_0).emb x) 0).val = 520 + 1 * (x 0).val := rfl
    have e1 : (((Rect.unit (s := S528x384) ![520, 0] S8x384.size inb_S528x384_S8x384_520_0).emb x) 1) = x 1 := Fin.ext (by show 0 + 1 * (x 1).val = _; omega)
    unfold UX
    rw [dif_neg (by rw [e0]; omega), dif_neg (by rw [e0]; omega), e1]
    refine congrArg (k0_pay16 i x2) (funext fun a => Fin.ext ?_)
    match a with
    | 0 => show (x 0).val = _ % 8; rw [e0]; omega
    | 1 => rfl
  rw [List.forall_mem_cons]
  refine ⟨fun (x : S512x384.Idx) => ?_, ?_⟩
  · have h0 : (x 0).val < 512 := (x 0).isLt
    have e0 : (((Rect.unit (s := S528x384) ![8, 0] S512x384.size inb_S528x384_S512x384_8_0).emb x) 0).val = 8 + 1 * (x 0).val := rfl
    have e1 : (((Rect.unit (s := S528x384) ![8, 0] S512x384.size inb_S528x384_S512x384_8_0).emb x) 1) = x 1 := Fin.ext (by show 0 + 1 * (x 1).val = _; omega)
    unfold UX
    rw [dif_neg (by rw [e0]; omega), dif_pos (by rw [e0]; omega), e1]
    refine congrArg (k0_pay15 x0) (funext fun a => Fin.ext ?_)
    match a with
    | 0 => show (x 0).val = _ - 8; rw [e0]; omega
    | 1 => rfl
  rw [List.forall_mem_cons]
  refine ⟨fun (x : S8x384.Idx) => ?_, fun p hp => absurd hp List.not_mem_nil⟩
  have h0 : (x 0).val < 8 := (x 0).isLt
  have e0 : (((Rect.unit (s := S528x384) ![0, 0] S8x384.size inb_S528x384_S8x384_0_0).emb x) 0).val = 0 + 1 * (x 0).val := rfl
  have e1 : (((Rect.unit (s := S528x384) ![0, 0] S8x384.size inb_S528x384_S8x384_0_0).emb x) 1) = x 1 := Fin.ext (by show 0 + 1 * (x 1).val = _; omega)
  unfold UX
  rw [dif_pos (by rw [e0]; omega), e1]
  refine congrArg (k0_pay14 i x1) (funext fun a => Fin.ext ?_)
  match a with
  | 0 => show (x 0).val = 0 + 1 * (x 0).val; omega
  | 1 => rfl

theorem UL_cover (i : grid0.Coords) (x0 : Vec F S1x512x384 .f32) (x1 x2 : Vec F S1x8x384 .f32) (y : S528x384.Idx) :
    ∃ p ∈ UL i x0 x1 x2, y ∈ p.1.set := by
  have h0 : (y 0).val < 528 := (y 0).isLt
  have h1 : (y 1).val < 384 := (y 1).isLt
  by_cases ha : (y 0).val < 8
  · refine ⟨_, List.mem_cons_of_mem _ (List.mem_cons_of_mem _ List.mem_cons_self), ?_⟩
    rw [Rect.mem_set_unit]
    intro a
    match a with
    | 0 => exact ⟨Nat.zero_le _, by show (y 0).val < 0 + 8; omega⟩
    | 1 => exact ⟨Nat.zero_le _, by show (y 1).val < 0 + 384; omega⟩
  by_cases hb : (y 0).val < 520
  · refine ⟨_, List.mem_cons_of_mem _ List.mem_cons_self, ?_⟩
    rw [Rect.mem_set_unit]
    intro a
    match a with
    | 0 => exact ⟨by show 8 ≤ (y 0).val; omega, by show (y 0).val < 8 + 512; omega⟩
    | 1 => exact ⟨Nat.zero_le _, by show (y 1).val < 0 + 384; omega⟩
  · refine ⟨_, List.mem_cons_self, ?_⟩
    rw [Rect.mem_set_unit]
    intro a
    match a with
    | 0 => exact ⟨by show 520 ≤ (y 0).val; omega, by show (y 0).val < 520 + 8; omega⟩
    | 1 => exact ⟨Nat.zero_le _, by show (y 1).val < 0 + 384; omega⟩

/-- The chunk's rows from row `o` on, loaded after the three stores. -/
theorem load_UW (v : View sig .tc .vmem S528x384 .f32) (i : grid0.Coords) (x0 : Vec F S1x512x384 .f32) (x1 x2 : Vec F S1x8x384 .f32) (o : Fin 17)
    (inb : ∀ a, (![o.val, 0] : Fin 2 → ℕ) a + S512x384.size a ≤ S528x384.size a) :
    v.readCov (UL i x0 x1 x2) (Rect.unit (s := S528x384) ![o.val, 0] S512x384.size inb).toLoadRect = UW o (UX i x0 x1 x2) := by
  funext y
  refine (View.read_writes_apply_of_pieces v v.junk (UX i x0 x1 x2) _ (UL_agree i x0 x1 x2) _ (UL_cover i x0 x1 x2 _)).trans ?_
  unfold UW
  refine congrArg (UX i x0 x1 x2) (funext fun a => Fin.ext ?_)
  match a with
  | 0 => show o.val + 1 * (y 0).val = o.val + (y 0).val; omega
  | 1 => show 0 + 1 * (y 1).val = (y 1).val; omega

end Cert.ScanIdeal.Body

end

end
-- ==== Proof.ScanRunA.lean ====
module

public import proofs.«01_k».proof.Proof.Gen.ScanIdeal.Frame
public import proofs.«01_k».proof.Proof.Gen.ScanIdeal.Loops
public import Idealize.ShloMosaic.Lib.Pointwise
public import proofs.«01_k».proof.Proof.ScanVal
@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (arg3 : Memref sig .tc .vmem S1x512x384 .f32) (harg3 : arg3.IsWhole)
  (arg4 : Memref sig .tc .vmem S1x8x384 .f32) (harg4 : arg4.IsWhole)
  (arg5 : Memref sig .tc .vmem S1x8x384 .f32) (harg5 : arg5.IsWhole)
  (arg6 : Memref sig .tc .vmem S4x384 .f32) (harg6 : arg6.IsWhole)
  (arg7 : Memref sig .tc .vmem S1x384 .f32) (harg7 : arg7.IsWhole)
  (arg8 : Memref sig .tc .vmem S1x384x768 .bf16) (harg8 : arg8.IsWhole)
  (arg9 : Memref sig .tc .vmem S1x1x768 .f32) (harg9 : arg9.IsWhole)
  (arg10 : Memref sig .tc .vmem S1x384 .f32) (harg10 : arg10.IsWhole)
  (arg11 : Memref sig .tc .vmem S1x1x384 .f32) (harg11 : arg11.IsWhole)
  (arg12 : Memref sig .tc .vmem S1x512x384 .f32) (harg12 : arg12.IsWhole)
  (arg13 : Memref sig .tc .vmem S1x1x384 .f32) (harg13 : arg13.IsWhole)
  (arg14 : Memref sig .tc .vmem S528x384 .f32) (harg14 : arg14.IsWhole)
  (arg15 : Memref sig .tc .vmem S512x384 .f32) (harg15 : arg15.IsWhole)
  (arg16 : Memref sig .tc .vmem S512x384 .f32) (harg16 : arg16.IsWhole)
  (arg17 : Memref sig .tc .vmem S1x384 .f32) (harg17 : arg17.IsWhole)

set_option maxHeartbeats 2000000 in
/-- The body at a first chunk: the state starts from the call's own input row. It leaves the chunk's outputs, its last
    state as a result, and the same state in the carried scratch. -/
theorem runA (c : Dev nD) (i : grid0.Coords) (hc0 : cond0_0 i)
    (x0 : Vec F S1x512x384 .f32) (x1 : Vec F S1x8x384 .f32) (x2 : Vec F S1x8x384 .f32) (x3 : Vec F S4x384 .f32) (x4 : Vec F S1x384 .f32) (x5 : Vec F S1x384x768 .bf16) (x6 : Vec F S1x1x768 .f32) (x7 : Vec F S1x384 .f32) (x8 : Vec F S1x1x384 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (Out9 (AA i x0 x1 x2 x3 x4 x5 x6 x7) (BB i x0 x1 x2 x3 x4 x5 x6 x7) (k0_pay13 x8)) ∗ owns (c : Thread nD τ) arg13 fullShare (k0_pay1 (hrow (AA i x0 x1 x2 x3 x4 x5 x6 x7) (BB i x0 x1 x2 x3 x4 x5 x6 x7) (k0_pay13 x8) 512)) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (k0_pay34 (hrow (AA i x0 x1 x2 x3 x4 x5 x6 x7) (BB i x0 x1 x2 x3 x4 x5 x6 x7) (k0_pay13 x8) 512))) -∗ K ⟨⟩))
    ⊢ wp frame (wpE (defs₀ (F := F)) Variants.none c none) E (cc0_rg_scan_fwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rg_scan_fwd_eq_skeleton]; unfold cc0_rg_scan_fwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact hc0)
  sl_step
  have t0 : arg6.view.readAt (Elt F) (Rect.unit (s := S4x384) ![0, 0] S1x384.size inb_S4x384_S1x384_0_0).toLoadRect (harg6.unread x3) = CR x3 0 := load_tap arg6 harg6 x3 0 _
  have t1 : arg6.view.readAt (Elt F) (Rect.unit (s := S4x384) ![1, 0] S1x384.size inb_S4x384_S1x384_1_0).toLoadRect (harg6.unread x3) = CR x3 1 := load_tap arg6 harg6 x3 1 _
  have t2 : arg6.view.readAt (Elt F) (Rect.unit (s := S4x384) ![2, 0] S1x384.size inb_S4x384_S1x384_2_0).toLoadRect (harg6.unread x3) = CR x3 2 := load_tap arg6 harg6 x3 2 _
  have t3 : arg6.view.readAt (Elt F) (Rect.unit (s := S4x384) ![3, 0] S1x384.size inb_S4x384_S1x384_3_0).toLoadRect (harg6.unread x3) = CR x3 3 := load_tap arg6 harg6 x3 3 _
  have u7 := load_UW arg14.view i x0 x1 x2 7 inb_S528x384_S512x384_7_0
  have u8 := load_UW arg14.view i x0 x1 x2 8 inb_S528x384_S512x384_8_0
  have u9 := load_UW arg14.view i x0 x1 x2 9 inb_S528x384_S512x384_9_0
  have u10 := load_UW arg14.view i x0 x1 x2 10 inb_S528x384_S512x384_10_0

  have lU : runA.sl.H11_3 arg3 harg3 arg4 harg4 arg5 harg5 c i x0 x1 x2 = UL i x0 x1 x2 := by
    unfold runA.sl.H11_3
    rw [load_full arg5 harg5, load_full arg3 harg3, load_full arg4 harg4]
  have v28 : runA.sl.v28 arg3 harg3 arg4 harg4 arg5 harg5 arg14 c i x0 x1 x2 = UW 7 (UX i x0 x1 x2) := by
    unfold runA.sl.v28; rw [lU]; exact u7
  have v35 : runA.sl.v35 arg3 harg3 arg4 harg4 arg5 harg5 arg14 c i x0 x1 x2 = UW 8 (UX i x0 x1 x2) := by
    unfold runA.sl.v35; rw [lU]; exact u8
  have v41 : runA.sl.v41 arg3 harg3 arg4 harg4 arg5 harg5 arg14 c i x0 x1 x2 = UW 9 (UX i x0 x1 x2) := by
    unfold runA.sl.v41; rw [lU]; exact u9
  have v47 : runA.sl.v47 arg3 harg3 arg4 harg4 arg5 harg5 arg14 c i x0 x1 x2 = UW 10 (UX i x0 x1 x2) := by
    unfold runA.sl.v47; rw [lU]; exact u10
  have hr : runA.sl.r arg7 harg7 c x4 = k0_pay17 x4 := congrArg k0_pay17 (load_full arg7 harg7 x4 _)
  have hr1 : runA.sl.r_1 arg6 harg6 c x3 = k0_pay18 (CR x3 0) := congrArg k0_pay18 t0
  have hr5 : runA.sl.r_5 arg10 harg10 c x7 = k0_pay23 x7 := congrArg k0_pay23 (load_full arg10 harg10 x7 _)
  have hr2 : runA.sl.r_2 arg3 harg3 arg4 harg4 arg5 harg5 arg6 harg6 arg7 harg7 arg14 c i x0 x1 x2 x3 x4 = XB i x0 x1 x2 x3 x4 := by
    unfold runA.sl.r_2 XB
    rw [v28, v35, v41, v47, hr, hr1]
    rw [t1, t2, t3]

  have hr3 : runA.sl.r_3 arg3 harg3 arg4 harg4 arg5 harg5 arg6 harg6 arg7 harg7 arg8 harg8 arg9 harg9 arg14 c i x0 x1 x2 x3 x4 x5 x6 = RG i x0 x1 x2 x3 x4 x5 x6 := by
    unfold runA.sl.r_3 RG
    rw [v28, v35, v41, v47, hr, hr1, t1, t2, t3, load_full arg8 harg8, load_full arg9 harg9]
  have hr4 : runA.sl.r_4 arg3 harg3 arg4 harg4 arg5 harg5 arg6 harg6 arg7 harg7 arg8 harg8 arg9 harg9 arg14 c i x0 x1 x2 x3 x4 x5 x6 = IG i x0 x1 x2 x3 x4 x5 x6 := by
    unfold runA.sl.r_4 IG
    rw [v28, v35, v41, v47, hr, hr1, t1, t2, t3, load_full arg8 harg8, load_full arg9 harg9]
  have hA : arg15.view.read (Elt F) (arg15.view.writes (Elt F) arg15.view.junk (runA.sl.H12_1 arg3 harg3 arg4 harg4 arg5 harg5 arg6 harg6 arg7 harg7 arg8 harg8 arg9 harg9 arg10 harg10 arg14 c i x0 x1 x2 x3 x4 x5 x6 x7)) = AA i x0 x1 x2 x3 x4 x5 x6 x7 := by
    unfold runA.sl.H12_1 AA
    rw [hr3, hr5]
    exact View.read_writes_full _ _ _ _ _
  have hB : arg16.view.read (Elt F) (arg16.view.writes (Elt F) arg16.view.junk (runA.sl.H13_1 arg3 harg3 arg4 harg4 arg5 harg5 arg6 harg6 arg7 harg7 arg8 harg8 arg9 harg9 arg10 harg10 arg14 c i x0 x1 x2 x3 x4 x5 x6 x7)) = BB i x0 x1 x2 x3 x4 x5 x6 x7 := by
    unfold runA.sl.H13_1 BB
    rw [hr2, hr3, hr4, hr5]
    exact View.read_writes_full _ _ _ _ _
  have hI : runA.sl.v96 arg11 harg11 arg17 c x8 = k0_pay13 x8 := by
    unfold runA.sl.v96 runA.sl.H14_1
    rw [load_full arg11 harg11]
    exact View.readCov_full _ _ _ _ _
  rw [hI, hr2, hr3, hr4, hr5]
  have hS := st_fst arg3 harg3 arg4 harg4 arg5 harg5 arg6 harg6 arg7 harg7 arg8 harg8 arg9 harg9 arg10 harg10 arg11 harg11 arg12 harg12 arg13 harg13 arg14 harg14 arg15 harg15 arg16 harg16 arg17 harg17 c i (XB i x0 x1 x2 x3 x4) (RG i x0 x1 x2 x3 x4 x5 x6) (IG i x0 x1 x2 x3 x4 x5 x6) (k0_pay23 x7) (arg15.view.writes (Elt F) arg15.view.junk (runA.sl.H12_1 arg3 harg3 arg4 harg4 arg5 harg5 arg6 harg6 arg7 harg7 arg8 harg8 arg9 harg9 arg10 harg10 arg14 c i x0 x1 x2 x3 x4 x5 x6 x7)) (arg16.view.writes (Elt F) arg16.view.junk (runA.sl.H13_1 arg3 harg3 arg4 harg4 arg5 harg5 arg6 harg6 arg7 harg7 arg8 harg8 arg9 harg9 arg10 harg10 arg14 c i x0 x1 x2 x3 x4 x5 x6 x7)) (k0_pay13 x8)
  have hW := st_read arg3 harg3 arg4 harg4 arg5 harg5 arg6 harg6 arg7 harg7 arg8 harg8 arg9 harg9 arg10 harg10 arg11 harg11 arg12 harg12 arg13 harg13 arg14 harg14 arg15 harg15 arg16 harg16 arg17 harg17 c i (XB i x0 x1 x2 x3 x4) (RG i x0 x1 x2 x3 x4 x5 x6) (IG i x0 x1 x2 x3 x4 x5 x6) (k0_pay23 x7) (arg15.view.writes (Elt F) arg15.view.junk (runA.sl.H12_1 arg3 harg3 arg4 harg4 arg5 harg5 arg6 harg6 arg7 harg7 arg8 harg8 arg9 harg9 arg10 harg10 arg14 c i x0 x1 x2 x3 x4 x5 x6 x7)) (arg16.view.writes (Elt F) arg16.view.junk (runA.sl.H13_1 arg3 harg3 arg4 harg4 arg5 harg5 arg6 harg6 arg7 harg7 arg8 harg8 arg9 harg9 arg10 harg10 arg14 c i x0 x1 x2 x3 x4 x5 x6 x7)) (k0_pay13 x8) f9
  rw [hA, hB] at hS hW
  have h6 : runA.sl.r_6 arg3 harg3 arg4 harg4 arg5 harg5 arg6 harg6 arg7 harg7 arg8 harg8 arg9 harg9 arg10 harg10 arg11 harg11 arg12 harg12 arg13 harg13 arg14 harg14 arg15 harg15 arg16 harg16 arg17 harg17 c i x0 x1 x2 x3 x4 x5 x6 x7 x8 = hrow (AA i x0 x1 x2 x3 x4 x5 x6 x7) (BB i x0 x1 x2 x3 x4 x5 x6 x7) (k0_pay13 x8) 512 := by
    unfold runA.sl.r_6
    rw [hI, hr2, hr3, hr4, hr5]
    exact hS
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; swap; · iexact H9
    ipureintro; exact hW
  isplitl [H10]
  · iexists _; isplitr; swap; · iexact H10
    ipureintro; exact (View.read_writes_full _ _ _ _ _).trans (congrArg k0_pay1 h6)
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _; isplitr; swap; · iexact H14
  ipureintro; exact (View.read_writes_full _ _ _ _ _).trans (congrArg k0_pay34 hS)

end Cert.ScanIdeal.Body

end

end
-- ==== Proof.ScanRunB.lean ====
module

public import proofs.«01_k».proof.Proof.Gen.ScanIdeal.Frame
public import proofs.«01_k».proof.Proof.Gen.ScanIdeal.Loops
public import Idealize.ShloMosaic.Lib.Pointwise
public import proofs.«01_k».proof.Proof.ScanVal
@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (arg3 : Memref sig .tc .vmem S1x512x384 .f32) (harg3 : arg3.IsWhole)
  (arg4 : Memref sig .tc .vmem S1x8x384 .f32) (harg4 : arg4.IsWhole)
  (arg5 : Memref sig .tc .vmem S1x8x384 .f32) (harg5 : arg5.IsWhole)
  (arg6 : Memref sig .tc .vmem S4x384 .f32) (harg6 : arg6.IsWhole)
  (arg7 : Memref sig .tc .vmem S1x384 .f32) (harg7 : arg7.IsWhole)
  (arg8 : Memref sig .tc .vmem S1x384x768 .bf16) (harg8 : arg8.IsWhole)
  (arg9 : Memref sig .tc .vmem S1x1x768 .f32) (harg9 : arg9.IsWhole)
  (arg10 : Memref sig .tc .vmem S1x384 .f32) (harg10 : arg10.IsWhole)
  (arg11 : Memref sig .tc .vmem S1x1x384 .f32) (harg11 : arg11.IsWhole)
  (arg12 : Memref sig .tc .vmem S1x512x384 .f32) (harg12 : arg12.IsWhole)
  (arg13 : Memref sig .tc .vmem S1x1x384 .f32) (harg13 : arg13.IsWhole)
  (arg14 : Memref sig .tc .vmem S528x384 .f32) (harg14 : arg14.IsWhole)
  (arg15 : Memref sig .tc .vmem S512x384 .f32) (harg15 : arg15.IsWhole)
  (arg16 : Memref sig .tc .vmem S512x384 .f32) (harg16 : arg16.IsWhole)
  (arg17 : Memref sig .tc .vmem S1x384 .f32) (harg17 : arg17.IsWhole)

set_option maxHeartbeats 2000000 in
/-- The body at a later chunk: the state starts from what the chunk before left. It leaves the chunk's outputs, its last
    state as a result, and the same state in the carried scratch. -/
theorem runB (c : Dev nD) (i : grid0.Coords) (hc0 : ¬ cond0_0 i)
    (x0 : Vec F S1x512x384 .f32) (x1 : Vec F S1x8x384 .f32) (x2 : Vec F S1x8x384 .f32) (x3 : Vec F S4x384 .f32) (x4 : Vec F S1x384 .f32) (x5 : Vec F S1x384x768 .bf16) (x6 : Vec F S1x1x768 .f32) (x7 : Vec F S1x384 .f32) (x8 : Vec F S1x1x384 .f32) (xs : Vec F S1x384 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (Out9 (AA i x0 x1 x2 x3 x4 x5 x6 x7) (BB i x0 x1 x2 x3 x4 x5 x6 x7) xs) ∗ owns (c : Thread nD τ) arg13 fullShare (k0_pay1 (hrow (AA i x0 x1 x2 x3 x4 x5 x6 x7) (BB i x0 x1 x2 x3 x4 x5 x6 x7) xs 512)) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (k0_pay34 (hrow (AA i x0 x1 x2 x3 x4 x5 x6 x7) (BB i x0 x1 x2 x3 x4 x5 x6 x7) xs 512))) -∗ K ⟨⟩))
    ⊢ wp frame (wpE (defs₀ (F := F)) Variants.none c none) E (cc0_rg_scan_fwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rg_scan_fwd_eq_skeleton]; unfold cc0_rg_scan_fwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg17.eq_unread hf14
  sl_exec (disch := first | sl_exact hc0)
  sl_step
  have t0 : arg6.view.readAt (Elt F) (Rect.unit (s := S4x384) ![0, 0] S1x384.size inb_S4x384_S1x384_0_0).toLoadRect (harg6.unread x3) = CR x3 0 := load_tap arg6 harg6 x3 0 _
  have t1 : arg6.view.readAt (Elt F) (Rect.unit (s := S4x384) ![1, 0] S1x384.size inb_S4x384_S1x384_1_0).toLoadRect (harg6.unread x3) = CR x3 1 := load_tap arg6 harg6 x3 1 _
  have t2 : arg6.view.readAt (Elt F) (Rect.unit (s := S4x384) ![2, 0] S1x384.size inb_S4x384_S1x384_2_0).toLoadRect (harg6.unread x3) = CR x3 2 := load_tap arg6 harg6 x3 2 _
  have t3 : arg6.view.readAt (Elt F) (Rect.unit (s := S4x384) ![3, 0] S1x384.size inb_S4x384_S1x384_3_0).toLoadRect (harg6.unread x3) = CR x3 3 := load_tap arg6 harg6 x3 3 _
  have u7 := load_UW arg14.view i x0 x1 x2 7 inb_S528x384_S512x384_7_0
  have u8 := load_UW arg14.view i x0 x1 x2 8 inb_S528x384_S512x384_8_0
  have u9 := load_UW arg14.view i x0 x1 x2 9 inb_S528x384_S512x384_9_0
  have u10 := load_UW arg14.view i x0 x1 x2 10 inb_S528x384_S512x384_10_0

  have lU : runB.sl.H11_3 arg3 harg3 arg4 harg4 arg5 harg5 c i x0 x1 x2 = UL i x0 x1 x2 := by
    unfold runB.sl.H11_3
    rw [load_full arg5 harg5, load_full arg3 harg3, load_full arg4 harg4]
  have v28 : runB.sl.v28 arg3 harg3 arg4 harg4 arg5 harg5 arg14 c i x0 x1 x2 = UW 7 (UX i x0 x1 x2) := by
    unfold runB.sl.v28; rw [lU]; exact u7
  have v35 : runB.sl.v35 arg3 harg3 arg4 harg4 arg5 harg5 arg14 c i x0 x1 x2 = UW 8 (UX i x0 x1 x2) := by
    unfold runB.sl.v35; rw [lU]; exact u8
  have v41 : runB.sl.v41 arg3 harg3 arg4 harg4 arg5 harg5 arg14 c i x0 x1 x2 = UW 9 (UX i x0 x1 x2) := by
    unfold runB.sl.v41; rw [lU]; exact u9
  have v47 : runB.sl.v47 arg3 harg3 arg4 harg4 arg5 harg5 arg14 c i x0 x1 x2 = UW 10 (UX i x0 x1 x2) := by
    unfold runB.sl.v47; rw [lU]; exact u10
  have hr : runB.sl.r arg7 harg7 c x4 = k0_pay17 x4 := congrArg k0_pay17 (load_full arg7 harg7 x4 _)
  have hr1 : runB.sl.r_1 arg6 harg6 c x3 = k0_pay18 (CR x3 0) := congrArg k0_pay18 t0
  have hr5 : runB.sl.r_5 arg10 harg10 c x7 = k0_pay23 x7 := congrArg k0_pay23 (load_full arg10 harg10 x7 _)
  have hr2 : runB.sl.r_2 arg3 harg3 arg4 harg4 arg5 harg5 arg6 harg6 arg7 harg7 arg14 c i x0 x1 x2 x3 x4 = XB i x0 x1 x2 x3 x4 := by
    unfold runB.sl.r_2 XB
    rw [v28, v35, v41, v47, hr, hr1]
    rw [t1, t2, t3]

  have hr3 : runB.sl.r_3 arg3 harg3 arg4 harg4 arg5 harg5 arg6 harg6 arg7 harg7 arg8 harg8 arg9 harg9 arg14 c i x0 x1 x2 x3 x4 x5 x6 = RG i x0 x1 x2 x3 x4 x5 x6 := by
    unfold runB.sl.r_3 RG
    rw [v28, v35, v41, v47, hr, hr1, t1, t2, t3, load_full arg8 harg8, load_full arg9 harg9]
  have hr4 : runB.sl.r_4 arg3 harg3 arg4 harg4 arg5 harg5 arg6 harg6 arg7 harg7 arg8 harg8 arg9 harg9 arg14 c i x0 x1 x2 x3 x4 x5 x6 = IG i x0 x1 x2 x3 x4 x5 x6 := by
    unfold runB.sl.r_4 IG
    rw [v28, v35, v41, v47, hr, hr1, t1, t2, t3, load_full arg8 harg8, load_full arg9 harg9]
  have hA : arg15.view.read (Elt F) (arg15.view.writes (Elt F) arg15.view.junk (runB.sl.H12_1 arg3 harg3 arg4 harg4 arg5 harg5 arg6 harg6 arg7 harg7 arg8 harg8 arg9 harg9 arg10 harg10 arg14 c i x0 x1 x2 x3 x4 x5 x6 x7)) = AA i x0 x1 x2 x3 x4 x5 x6 x7 := by
    unfold runB.sl.H12_1 AA
    rw [hr3, hr5]
    exact View.read_writes_full _ _ _ _ _
  have hB : arg16.view.read (Elt F) (arg16.view.writes (Elt F) arg16.view.junk (runB.sl.H13_1 arg3 harg3 arg4 harg4 arg5 harg5 arg6 harg6 arg7 harg7 arg8 harg8 arg9 harg9 arg10 harg10 arg14 c i x0 x1 x2 x3 x4 x5 x6 x7)) = BB i x0 x1 x2 x3 x4 x5 x6 x7 := by
    unfold runB.sl.H13_1 BB
    rw [hr2, hr3, hr4, hr5]
    exact View.read_writes_full _ _ _ _ _
  have hI : arg17.view.readAt (Elt F) (Rect.unit (s := S1x384) ![0, 0] S1x384.size inb_S1x384_S1x384_0_0).toLoadRect (harg17.unread xs) = xs := load_full arg17 harg17 xs _
  rw [hI, hr2, hr3, hr4, hr5]
  have hS := st_fst arg3 harg3 arg4 harg4 arg5 harg5 arg6 harg6 arg7 harg7 arg8 harg8 arg9 harg9 arg10 harg10 arg11 harg11 arg12 harg12 arg13 harg13 arg14 harg14 arg15 harg15 arg16 harg16 arg17 harg17 c i (XB i x0 x1 x2 x3 x4) (RG i x0 x1 x2 x3 x4 x5 x6) (IG i x0 x1 x2 x3 x4 x5 x6) (k0_pay23 x7) (arg15.view.writes (Elt F) arg15.view.junk (runB.sl.H12_1 arg3 harg3 arg4 harg4 arg5 harg5 arg6 harg6 arg7 harg7 arg8 harg8 arg9 harg9 arg10 harg10 arg14 c i x0 x1 x2 x3 x4 x5 x6 x7)) (arg16.view.writes (Elt F) arg16.view.junk (runB.sl.H13_1 arg3 harg3 arg4 harg4 arg5 harg5 arg6 harg6 arg7 harg7 arg8 harg8 arg9 harg9 arg10 harg10 arg14 c i x0 x1 x2 x3 x4 x5 x6 x7)) xs
  have hW := st_read arg3 harg3 arg4 harg4 arg5 harg5 arg6 harg6 arg7 harg7 arg8 harg8 arg9 harg9 arg10 harg10 arg11 harg11 arg12 harg12 arg13 harg13 arg14 harg14 arg15 harg15 arg16 harg16 arg17 harg17 c i (XB i x0 x1 x2 x3 x4) (RG i x0 x1 x2 x3 x4 x5 x6) (IG i x0 x1 x2 x3 x4 x5 x6) (k0_pay23 x7) (arg15.view.writes (Elt F) arg15.view.junk (runB.sl.H12_1 arg3 harg3 arg4 harg4 arg5 harg5 arg6 harg6 arg7 harg7 arg8 harg8 arg9 harg9 arg10 harg10 arg14 c i x0 x1 x2 x3 x4 x5 x6 x7)) (arg16.view.writes (Elt F) arg16.view.junk (runB.sl.H13_1 arg3 harg3 arg4 harg4 arg5 harg5 arg6 harg6 arg7 harg7 arg8 harg8 arg9 harg9 arg10 harg10 arg14 c i x0 x1 x2 x3 x4 x5 x6 x7)) xs f9
  rw [hA, hB] at hS hW
  have h6 : runB.sl.r_6 arg3 harg3 arg4 harg4 arg5 harg5 arg6 harg6 arg7 harg7 arg8 harg8 arg9 harg9 arg10 harg10 arg11 harg11 arg12 harg12 arg13 harg13 arg14 harg14 arg15 harg15 arg16 harg16 arg17 harg17 c i x0 x1 x2 x3 x4 x5 x6 x7 xs = hrow (AA i x0 x1 x2 x3 x4 x5 x6 x7) (BB i x0 x1 x2 x3 x4 x5 x6 x7) xs 512 := by
    unfold runB.sl.r_6
    rw [hI, hr2, hr3, hr4, hr5]
    exact hS
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; swap; · iexact H9
    ipureintro; exact hW
  isplitl [H10]
  · iexists _; isplitr; swap; · iexact H10
    ipureintro; exact (View.read_writes_full _ _ _ _ _).trans (congrArg k0_pay1 h6)
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _; isplitr; swap; · iexact H14
  ipureintro; exact (View.read_writes_full _ _ _ _ _).trans (congrArg k0_pay34 hS)

end Cert.ScanIdeal.Body

end

end
-- ==== Proof.ScanFrame.lean ====
module

public import proofs.«01_k».proof.Proof.Gen.ScanIdeal.Frame
public import proofs.«01_k».proof.Proof.Gen.ScanIdeal.Loops
public import Idealize.ShloMosaic.Lib.Pointwise
public import proofs.«01_k».proof.Proof.ScanRunA
public import proofs.«01_k».proof.Proof.ScanRunB
public import Idealize.ShloMosaic.Lib.Claim
@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-chunk condition at a point: the points that are multiples of 16. -/
theorem hcond0_0 : ∀ t : Fin cfg0.N, cond0_0 (grid0.coords t) ↔ t.val % 16 = 0 :=
  (fun t => by
    have ht : t.val < 256 := Nat.lt_of_lt_of_eq t.isLt N_0
    have e2 : (grid0.coords t 2).val = t.val / 1 % 16 := Pipeline.Grid.coords_val t 2 (by decide) rfl
    simp only [cond0_0, e2]
    word_cmp
   : ∀ t : Fin grid0.N, cond0_0 (grid0.coords t) ↔ t.val % 16 = 0)

/-- The recurrence's coefficients at a point. -/
def AT (c : Dev nD) (t : Fin cfg0.N) : FVec F S512x384 .f32 := AA (grid0.coords t) (iblk m c 0 t) (iblk m c 1 t) (iblk m c 2 t) (iblk m c 3 t) (iblk m c 4 t) (iblk m c 5 t) (iblk m c 6 t) (iblk m c 7 t)

/-- The recurrence's inputs at a point. -/
def BT (c : Dev nD) (t : Fin cfg0.N) : FVec F S512x384 .f32 := BB (grid0.coords t) (iblk m c 0 t) (iblk m c 1 t) (iblk m c 2 t) (iblk m c 3 t) (iblk m c 4 t) (iblk m c 5 t) (iblk m c 6 t) (iblk m c 7 t)

/-- The state a point starts from: the call's input row at a first chunk, what is carried otherwise. -/
def hStart (c : Dev nD) (t : Fin cfg0.N) (h : Vec F S1x384 .f32) : Vec F S1x384 .f32 :=
  if t.val % 16 = 0 then k0_pay13 (iblk m c 8 t) else h

/-- The state a point leaves. -/
def hEnd (c : Dev nD) (t : Fin cfg0.N) (h : Vec F S1x384 .f32) : Vec F S1x384 .f32 :=
  hrow (AT m c t) (BT m c t) (hStart m c t h) 512

/-- What the carried scratch holds before a point that is not a first chunk. -/
def hAt (c : Dev nD) : ℕ → Vec F S1x384 .f32
  | 0 => k0_pay13 (iblk m c 8 ⟨0, by have h : cfg0.N = 256 := N_0; omega⟩)
  | n + 1 => if h : n < cfg0.N then k0_pay34 (hEnd m c ⟨n, h⟩ (hAt c n)) else hAt c n

theorem hAt_succ (c : Dev nD) (t : Fin cfg0.N) : hAt m c (t.val + 1) = k0_pay34 (hEnd m c t (hAt m c t.val)) := dif_pos t.isLt

abbrev scM0_0 : Memref sig .tc .vmem S528x384 .f32 := Memref.whole cc0_scratch0
abbrev scM0_1 : Memref sig .tc .vmem S512x384 .f32 := Memref.whole cc0_scratch1
abbrev scM0_2 : Memref sig .tc .vmem S512x384 .f32 := Memref.whole cc0_scratch2
abbrev scM0_3 : Memref sig .tc .vmem S1x384 .f32 := Memref.whole cc0_scratch3

/-- The launch's invariant, the four scratch buffers spelt out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant before point `n`: the carried scratch holds the state, unless the next point is a first chunk. -/
def PhiS (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d ∗ ⌜n % 16 ≠ 0 → d = hAt m c n⌝)) ∗ (∃ r, prngReg c r))

/-- The proof data: each input window's buffer keeps its block, and each output window's holds what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Out9 (AT m c t) (BT m c t) (hStart m c t (hAt m c t.val))
    | ⟨10, _⟩ => k0_pay1 (hEnd m c t (hAt m c t.val))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- What the body leaves in the sequence output's window. -/
theorem after0_9 (c : Dev nD) (t : Fin cfg0.N) :
    (dats m 0 c).after 9 t = Out9 (AT m c t) (BT m c t) (hStart m c t (hAt m c t.val)) := by dsimp only [dats]

/-- What the body leaves in the last state's window. -/
theorem after0_10 (c : Dev nD) (t : Fin cfg0.N) :
    (dats m 0 c).after 10 t = k0_pay1 (hEnd m c t (hAt m c t.val)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point keeps the invariant and leaves the named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) from rfl, show (dats m 0 c).Φ t.castSucc = PhiS m c t.val from rfl]
  unfold PhiS
  by_cases h0 : t.val % 16 = 0
  · have hs : hStart m c t (hAt m c t.val) = k0_pay13 (iblk m c 8 t) := if_pos h0
    iintro ⟨⟨⟨HS0, HS1, HS2, ⟨%ds3, HS3, %hd⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA _ _ _ _ _ _ _ _ _ _ _ _ _ _ _ _ _ _ _ _ _ _ _ _ _ _ _ _ _ _ c (grid0.coords t) ((hcond0_0 t).mpr h0) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    isplitl [HS3]; · iexists _; iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexists _
        isplitl [HS3]; · iexact HS3
        ipureintro; intro _; rw [hAt_succ]; unfold hEnd; rw [hs]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold hEnd
    rw [hs]
    isplitl [H9]; · iexact H9
    iexact H10
  · have hs : hStart m c t (hAt m c t.val) = hAt m c t.val := if_neg h0
    iintro ⟨⟨⟨HS0, HS1, HS2, ⟨%ds3, HS3, %hd⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := hd h0
    iapply (runB _ _ _ _ _ _ _ _ _ _ _ _ _ _ _ _ _ _ _ _ _ _ _ _ _ _ _ _ _ _ c (grid0.coords t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (hAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexists _
        isplitl [HS3]; · iexact HS3
        ipureintro; intro _; rw [hAt_succ]; unfold hEnd; rw [hs]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold hEnd
    rw [hs]
    isplitl [H9]; · iexact H9
    iexact H10

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, HS1, HS2, ⟨%d, HS3⟩⟩, Hg⟩
  isplitl [HS0 HS1 HS2 HS3]
  · isplitl [HS0]; · iexact HS0
    isplitl [HS1]; · iexact HS1
    isplitl [HS2]; · iexact HS2
    iexists _
    isplitl [HS3]; · iexact HS3
    ipureintro; intro h; exact absurd rfl h
  iexact Hg

/-- The invariant after the last point gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, HS1, HS2, ⟨%d, HS3, -⟩⟩, Hg⟩
  isplitl [HS0 HS1 HS2 HS3]
  · isplitl [HS0]; · iexact HS0
    isplitl [HS1]; · iexact HS1
    isplitl [HS2]; · iexact HS2
    iexists _; iexact HS3
  iexact Hg

set_option backward.isDefEq.respectTransparency.types false in
/-- The program runs to the end with every array at its final contents and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run's final contents. -/
theorem run_main : θ_run defs (onTc (τ := τ) (main (F := F))) (s₀ m ρ) (Pipeline.FramePost cfgs (dats m) 0 (V m)) :=
  (θ_run defs _ _).mono (fun _ h => h.1) (run_main_quiescent m ρ)

/-- The program terminates, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.ScanIdeal.Body

end

end
-- ==== Proof.ScanSpec.lean ====
module

public import Idealize.ShloMosaic.Lib.Pipeline.ValueKit
public import Idealize.ShloMosaic.Lib.Pointwise

@[expose] public section

set_option maxRecDepth 16384

/-
  The gated linear recurrence, element by element, over the extended reals: a convolution of four taps along the
  sequence, two gates that are products with one 176 × 176 matrix per block of lanes, the coefficients made from them, and
  the recurrence itself. Both programs are proved to compute these functions.
-/

noncomputable section

namespace Cert.ScanSpec

open Idealize.ShloMosaic

variable (X : (⟨3, ![2, 8192, 3072]⟩ : Shape).Idx → EReal) (CW : (⟨2, ![4, 2816]⟩ : Shape).Idx → EReal)
  (CB : (⟨1, ![2816]⟩ : Shape).Idx → EReal) (WR : (⟨3, ![16, 176, 176]⟩ : Shape).Idx → EReal)
  (BR : (⟨1, ![2816]⟩ : Shape).Idx → EReal) (WI : (⟨3, ![16, 176, 176]⟩ : Shape).Idx → EReal)
  (BI : (⟨1, ![2816]⟩ : Shape).Idx → EReal) (LAM : (⟨1, ![2816]⟩ : Shape).Idx → EReal)
  (H0 : (⟨3, ![2, 1, 3072]⟩ : Shape).Idx → EReal)

/-- Where lane `l` of 16 blocks of 176 lies among 16 blocks of 192. -/
def wide (l : Fin 2816) : Fin 3072 := ⟨l.val / 176 * 192 + l.val % 176, by omega⟩

/-- Block `n`'s lane `k` of the unpadded lanes, for lane `j` of the padded ones. -/
def narrow (j : Fin 3072) (h : j.val % 192 < 176) : Fin 2816 := ⟨j.val / 192 * 176 + j.val % 192, by omega⟩

theorem wide_narrow (j : Fin 3072) (h : j.val % 192 < 176) : wide (narrow j h) = j :=
  Fin.ext (by show (j.val / 192 * 176 + j.val % 192) / 176 * 192 + (j.val / 192 * 176 + j.val % 192) % 176 = j.val; omega)

/-- The sequence with one zero before it: position `p` of the padded sequence, zero past its end. -/
def tapAt (b : Fin 2) (p : ℕ) (l : Fin 2816) : EReal :=
  if h : 1 ≤ p ∧ p < 8193 then X (ix3 b (⟨p - 1, by omega⟩ : Fin 8192) (wide l)) else 0

/-- The convolution of four taps at position `s`. -/
def conv (b : Fin 2) (s : ℕ) (l : Fin 2816) : EReal :=
  CB (ix1 l) + CW (ix2 0 l) * tapAt X b s l + CW (ix2 1 l) * tapAt X b (s + 1) l + CW (ix2 2 l) * tapAt X b (s + 2) l
    + CW (ix2 3 l) * tapAt X b (s + 3) l

/-- A gate: the logistic function of the block's product and a bias. -/
def gate (W : (⟨3, ![16, 176, 176]⟩ : Shape).Idx → EReal) (B : (⟨1, ![2816]⟩ : Shape).Idx → EReal) (b : Fin 2) (s : ℕ) (l : Fin 2816) : EReal :=
  Ideal.logistic ((∑ k : Fin 176, conv X CW CB b s ⟨l.val / 176 * 176 + k.val, by omega⟩
    * W (ix3 (⟨l.val / 176, by omega⟩ : Fin 16) k (⟨l.val % 176, by omega⟩ : Fin 176))) + B (ix1 l))

/-- `log (1 + exp (-x))`, as both programs compute it. -/
def decay (x : EReal) : EReal := max (-x) 0 + Ideal.log1p (Ideal.exp (-(max x (-x))))

/-- The logarithm of the recurrence's coefficient. -/
def logA (b : Fin 2) (s : ℕ) (l : Fin 2816) : EReal :=
  Ideal.ofBits FTy.f32 0xC1000000#32 * gate X CW CB WR BR b s l * decay (LAM (ix1 l))

/-- The recurrence's coefficient. -/
def coefA (b : Fin 2) (s : ℕ) (l : Fin 2816) : EReal := Ideal.exp (logA X CW CB WR BR LAM b s l)

/-- The recurrence's input. -/
def coefB (b : Fin 2) (s : ℕ) (l : Fin 2816) : EReal :=
  Ideal.sqrt (-(Ideal.expm1 (Ideal.ofBits FTy.f32 0x40000000#32 * logA X CW CB WR BR LAM b s l)))
    * (gate X CW CB WI BI b s l * conv X CW CB b s l)

/-- The state before position `n`. -/
def state (b : Fin 2) (l : Fin 2816) : ℕ → EReal
  | 0 => H0 (ix3 b (0 : Fin 1) (wide l))
  | n + 1 => coefA X CW CB WR BR LAM b n l * state b l n + coefB X CW CB WR BR WI BI LAM b n l

/-! ## The two ways of writing `1 - exp (2 L)` -/

theorem exp_nonneg (x : EReal) : 0 ≤ Ideal.exp x := by
  induction x with
  | bot => exact le_refl _
  | top => exact le_top
  | coe r => exact EReal.coe_nonneg.2 (Real.exp_pos r).le

theorem log1p_nonneg {x : EReal} (h : 0 ≤ x) : 0 ≤ Ideal.log1p x := by
  unfold Ideal.log1p
  induction x with
  | bot => exact absurd h (by simp)
  | top => rw [EReal.add_top_of_ne_bot (by decide)]; exact le_top
  | coe r =>
    have hr : 0 ≤ r := EReal.coe_nonneg.1 h
    rw [show (1 : EReal) + (r : EReal) = ((1 + r : ℝ) : EReal) by norm_cast]
    show 0 ≤ (if (1 + r : ℝ) ≤ 0 then (⊥ : EReal) else ((Real.log (1 + r) : ℝ) : EReal))
    rw [if_neg (by linarith)]
    exact EReal.coe_nonneg.2 (Real.log_nonneg (by linarith))

theorem decay_nonneg (x : EReal) : 0 ≤ decay x :=
  add_nonneg (le_max_right _ _) (log1p_nonneg (exp_nonneg _))

theorem logistic_nonneg (x : EReal) : 0 ≤ Ideal.logistic x := by
  unfold Ideal.logistic
  have h : 0 ≤ 1 + Ideal.exp (-x) := add_nonneg zero_le_one (exp_nonneg _)
  unfold Ideal.div
  split
  · rw [if_pos zero_lt_one]; exact le_top
  · rw [one_mul]; exact EReal.inv_nonneg_of_nonneg h

theorem mul_nonpos_of {x y : EReal} (hx : x ≤ 0) (hy : 0 ≤ y) : x * y ≤ 0 :=
  (mul_le_mul_of_nonneg_right hx hy).trans_eq (zero_mul _)

theorem logA_nonpos (b : Fin 2) (s : ℕ) (l : Fin 2816) : logA X CW CB WR BR LAM b s l ≤ 0 := by
  unfold logA
  have h8 : Ideal.ofBits FTy.f32 0xC1000000#32 = ((-8 : ℝ) : EReal) := by simp [Ideal.ofBits, Ideal.ieee, -EReal.coe_mul]; norm_num
  rw [h8]
  have h1 : ((-8 : ℝ) : EReal) * gate X CW CB WR BR b s l ≤ 0 :=
    mul_nonpos_of (EReal.coe_nonpos.2 (by norm_num)) (logistic_nonneg _)
  exact mul_nonpos_of h1 (decay_nonneg _)

/-- `tanh (-L) · (1 + exp L · exp L) = -(exp (2 L) - 1)`, for `L` at most zero. -/
theorem one_sub_exp {L : EReal} (h : L ≤ 0) :
    Ideal.tanh (0 - L) * (1 + Ideal.exp L * Ideal.exp L) = -(Ideal.expm1 (Ideal.ofBits FTy.f32 0x40000000#32 * L)) := by
  have h2 : Ideal.ofBits FTy.f32 0x40000000#32 = ((2 : ℝ) : EReal) := by simp [Ideal.ofBits, Ideal.ieee, -EReal.coe_mul]; norm_num
  rw [h2]
  unfold Ideal.expm1
  induction L with
  | bot =>
    rw [show (0 : EReal) - ⊥ = ⊤ by simp, EReal.coe_mul_bot_of_pos (by norm_num)]
    show (1 : EReal) * (1 + 0 * 0) = -(0 - 1)
    simp
  | top => exact absurd h (by simp)
  | coe r =>
    rw [show (0 : EReal) - (r : EReal) = ((-r : ℝ) : EReal) by norm_cast; simp, ← EReal.coe_mul]
    show ((Real.tanh (-r) : ℝ) : EReal) * (1 + ((Real.exp r : ℝ) : EReal) * ((Real.exp r : ℝ) : EReal)) = -(((Real.exp (2 * r) : ℝ) : EReal) - 1)
    have e : Real.tanh (-r) * (1 + Real.exp r * Real.exp r) = -(Real.exp (2 * r) - 1) := by
      rw [Real.tanh_eq_sinh_div_cosh, Real.sinh_eq, Real.cosh_eq, neg_neg, two_mul, Real.exp_add, Real.exp_neg]
      have hp := Real.exp_pos r
      field_simp
      ring
    have e' := congrArg (fun q : ℝ => (q : EReal)) e
    simpa only [EReal.coe_mul, EReal.coe_add, EReal.coe_neg, EReal.coe_sub, EReal.coe_one] using e'

end Cert.ScanSpec

end

end
-- ==== Proof.ScanPay.lean ====
module

public import proofs.«01_k».proof.Proof.ScanFrame
public import proofs.«01_k».proof.Proof.ScanSpec
public import Idealize.ShloMosaic.Lib.Pipeline.ValueKit
public import Idealize.ShloMosaic.Lib.Pointwise

@[expose] public section

set_option maxRecDepth 16384

/-! The values the kernel's body stores, element by element. -/

noncomputable section

namespace Cert.ScanIdeal.Body

open Cert.ScanIdeal Cert.ScanIdeal.Gen Cert.ScanSpec Idealize.ShloMosaic Idealize.ShloMosaic.TcCoe

theorem pay13_at (x : Vec Ideal S1x1x384 .f32) (k : Fin 384) : k0_pay13 x (ix2 0 k) = x (ix3 0 0 k) := by
  pointwise [k0_pay13]

theorem pay14_at (i : grid0.Coords) (x : Vec Ideal S1x8x384 .f32) (q : Fin 8) (k : Fin 384) :
    k0_pay14 i x (ix2 q k) = if (i 2).val = 0 then 0 else x (ix3 0 q k) := by
  have e : Scalar.cmpi .eq (BitVec.ofNat 32 (i 2).val) 0#32 = if (i 2).val = 0 then 1#1 else 0#1 :=
    (by decide : ∀ n : Fin 16, Scalar.cmpi .eq (BitVec.ofNat 32 n.val) 0#32 = if n.val = 0 then 1#1 else 0#1) (i 2)
  unfold k0_pay14
  rw [e]
  by_cases h : (i 2).val = 0
  · rw [if_pos h, if_pos h]
    pointwise [Scalar.select]
    rw [if_pos (by decide)]
    rfl
  · rw [if_neg h, if_neg h]
    pointwise [Scalar.select]
    rw [if_neg (by decide)]
    pointwise

theorem pay15_at (x : Vec Ideal S1x512x384 .f32) (r : Fin 512) (k : Fin 384) : k0_pay15 x (ix2 r k) = x (ix3 0 r k) := by
  pointwise [k0_pay15]

theorem pay16_at (i : grid0.Coords) (x : Vec Ideal S1x8x384 .f32) (q : Fin 8) (k : Fin 384) :
    k0_pay16 i x (ix2 q k) = if (i 2).val = 15 then 0 else x (ix3 0 q k) := by
  have e : Scalar.cmpi .eq (BitVec.ofNat 32 (i 2).val) 15#32 = if (i 2).val = 15 then 1#1 else 0#1 :=
    (by decide : ∀ n : Fin 16, Scalar.cmpi .eq (BitVec.ofNat 32 n.val) 15#32 = if n.val = 15 then 1#1 else 0#1) (i 2)
  unfold k0_pay16
  rw [e]
  by_cases h : (i 2).val = 15
  · rw [if_pos h, if_pos h]
    pointwise [Scalar.select]
    rw [if_pos (by decide)]
    rfl
  · rw [if_neg h, if_neg h]
    pointwise [Scalar.select]
    rw [if_neg (by decide)]
    pointwise

theorem pay19_at (cb w0 : FVec Ideal S1x384 .f32) (u0 u1 u2 u3 : Vec Ideal S512x384 .f32) (w1 w2 w3 : Vec Ideal S1x384 .f32) (r : Fin 512) (k : Fin 384) :
    k0_pay19 (F := Ideal) (k0_pay17 cb) (k0_pay18 w0) u0 w1 u1 w2 u2 w3 u3 (ix2 r k) = cb (ix2 0 k) + w0 (ix2 0 k) * u0 (ix2 r k) + w1 (ix2 0 k) * u1 (ix2 r k)
      + w2 (ix2 0 k) * u2 (ix2 r k) + w3 (ix2 0 k) * u3 (ix2 r k) := by
  pointwise [k0_pay19, k0_pay17, k0_pay18]

theorem pay20_at (cb w0 : FVec Ideal S1x384 .f32) (u0 u1 u2 u3 : Vec Ideal S512x384 .f32) (w1 w2 w3 : Vec Ideal S1x384 .f32)
    (w : Vec Ideal S1x384x768 .bf16) (g : Vec Ideal S1x1x768 .f32) (r : Fin 512) (q : Fin 768) :
    k0_pay20 (F := Ideal) cb w0 u0 w1 u1 w2 u2 w3 u3 w g (ix2 r q) = (∑ x : Fin 384, k0_pay19 (F := Ideal) cb w0 u0 w1 u1 w2 u2 w3 u3 (ix2 r x) * w (ix3 0 x q)) + g (ix3 0 0 q) := by
  pointwise [k0_pay20]

theorem pay21_at (cb w0 : FVec Ideal S1x384 .f32) (u0 u1 u2 u3 : Vec Ideal S512x384 .f32) (w1 w2 w3 : Vec Ideal S1x384 .f32)
    (w : Vec Ideal S1x384x768 .bf16) (g : Vec Ideal S1x1x768 .f32) (r : Fin 512) (k : Fin 384) :
    k0_pay21 (F := Ideal) cb w0 u0 w1 u1 w2 u2 w3 u3 w g (ix2 r k) = Ideal.logistic (k0_pay20 (F := Ideal) cb w0 u0 w1 u1 w2 u2 w3 u3 w g (ix2 r (⟨k.val, by omega⟩ : Fin 768))) := by
  pointwise [k0_pay21]

theorem pay22_at (cb w0 : FVec Ideal S1x384 .f32) (u0 u1 u2 u3 : Vec Ideal S512x384 .f32) (w1 w2 w3 : Vec Ideal S1x384 .f32)
    (w : Vec Ideal S1x384x768 .bf16) (g : Vec Ideal S1x1x768 .f32) (r : Fin 512) (k : Fin 384) :
    k0_pay22 (F := Ideal) cb w0 u0 w1 u1 w2 u2 w3 u3 w g (ix2 r k) = Ideal.logistic (k0_pay20 (F := Ideal) cb w0 u0 w1 u1 w2 u2 w3 u3 w g (ix2 r (⟨384 + k.val, by omega⟩ : Fin 768))) := by
  pointwise [k0_pay22]

theorem pay24_at (g : FVec Ideal S512x384 .f32) (x : Vec Ideal S1x384 .f32) (r : Fin 512) (k : Fin 384) :
    k0_pay24 (F := Ideal) g (k0_pay23 x) (ix2 r k) = Ideal.ofBits FTy.f32 0xC1000000#32 * g (ix2 r k) * decay (x (ix2 0 k)) := by
  pointwise [k0_pay24, k0_pay23, decay]
  rw [zero_sub, zero_sub]
  rfl

theorem pay26_at (g : FVec Ideal S512x384 .f32) (x : Vec Ideal S1x384 .f32) (r : Fin 512) (k : Fin 384) :
    k0_pay26 (F := Ideal) g (k0_pay23 x) (ix2 r k) = Ideal.exp (k0_pay24 (F := Ideal) g (k0_pay23 x) (ix2 r k)) := by
  pointwise [k0_pay26, k0_pay25]

theorem pay27_at (z g i : FVec Ideal S512x384 .f32) (x : Vec Ideal S1x384 .f32) (r : Fin 512) (k : Fin 384) (L : EReal)
    (h : k0_pay24 (F := Ideal) g (k0_pay23 x) (ix2 r k) = L) (hL : L ≤ 0) :
    k0_pay27 (F := Ideal) z g i (k0_pay23 x) (ix2 r k)
      = Ideal.sqrt (-(Ideal.expm1 (Ideal.ofBits FTy.f32 0x40000000#32 * L))) * (i (ix2 r k) * z (ix2 r k)) := by
  rw [← one_sub_exp hL, ← h]
  pointwise [k0_pay27, k0_pay25]

theorem pay34_at (x : FVec Ideal S1x384 .f32) (k : Fin 384) : k0_pay34 (F := Ideal) x (ix2 0 k) = x (ix2 0 k) := by
  pointwise [k0_pay34]

theorem pay1_at (x : Vec Ideal S1x384 .f32) (k : Fin 384) : k0_pay1 (F := Ideal) x (ix3 0 0 k) = x (ix2 0 k) := by
  pointwise [k0_pay1]

end Cert.ScanIdeal.Body

end

end
-- ==== Proof.ScanScatter.lean ====
module

public import proofs.«01_k».proof.Proof.ScanFrame
public import Idealize.ShloMosaic.Lib.Routing.OpsSet
public import Idealize.ShloMosaic.Lib.Routing.OpsPair
public import Idealize.ShloMosaic.Lib.Pipeline.ValueKit
public import Idealize.ShloMosaic.Lib.Pointwise

@[expose] public section

set_option maxRecDepth 16384

/-! Writing a block of a pair of blocks onto the diagonal: what the host's scatter leaves at each place. -/

noncomputable section

namespace Cert.ScanIdeal.Body

open Cert.ScanIdeal Cert.ScanIdeal.Gen Idealize.ShloMosaic Idealize.ShloMosaic.TcCoe Idealize.ShloMosaic.Routing

/-- The scatter that writes one block of every pair. -/
abbrev dS : ScatterDims S8x2x192x2x192 S2 S8x192x192 := scatter_S8x2x192x2x192_S2_S8x192x192_012_13_13_0

/-- An update lands at a place when the place's pair coordinates are the two index words and the rest are the update's. -/
theorem lands (idx : IVec S2 32) (j' : Fin 8) (k' q' : Fin 192) (j : Fin 8) (p1 : Fin 2) (k : Fin 192) (p2 : Fin 2) (q : Fin 192) :
    dS.resultIdx? (ix3 j' k' q') idx = some (ix5 j p1 k p2 q)
      ↔ j'.val = j.val ∧ (idx (ix1 0)).toInt = p1.val ∧ k'.val = k.val ∧ (idx (ix1 1)).toInt = p2.val ∧ q'.val = q.val := by
  have w0 : dS.window (ix3 j' k' q') 0 = j'.val := rfl
  have w1 : dS.window (ix3 j' k' q') 1 = 0 := rfl
  have w2 : dS.window (ix3 j' k' q') 2 = k'.val := rfl
  have w3 : dS.window (ix3 j' k' q') 3 = 0 := rfl
  have w4 : dS.window (ix3 j' k' q') 4 = q'.val := rfl
  have s0 : dS.start (ix3 j' k' q') idx 0 = 0 := rfl
  have s2 : dS.start (ix3 j' k' q') idx 2 = 0 := rfl
  have s4 : dS.start (ix3 j' k' q') idx 4 = 0 := rfl
  have s1 : dS.start (ix3 j' k' q') idx 1 = (idx (ix1 0)).toInt := by
    refine congrArg (fun z => (idx z).toInt) (funext fun a => ?_)
    match a with
    | 0 => rfl
  have s3 : dS.start (ix3 j' k' q') idx 3 = (idx (ix1 1)).toInt := by
    refine congrArg (fun z => (idx z).toInt) (funext fun a => ?_)
    match a with
    | 0 => rfl
  rw [resultIdx?_eq_some]
  constructor
  · intro h
    have h0 := h 0
    have h1 := h 1
    have h2 := h 2
    have h3 := h 3
    have h4 := h 4
    rw [w0, s0] at h0
    rw [w1, s1] at h1
    rw [w2, s2] at h2
    rw [w3, s3] at h3
    rw [w4, s4] at h4
    replace h0 : (0 : Int) + (j'.val : Int) = (j.val : Int) := h0
    replace h1 : (idx (ix1 0)).toInt + ((0 : Nat) : Int) = (p1.val : Int) := h1
    replace h2 : (0 : Int) + (k'.val : Int) = (k.val : Int) := h2
    replace h3 : (idx (ix1 1)).toInt + ((0 : Nat) : Int) = (p2.val : Int) := h3
    replace h4 : (0 : Int) + (q'.val : Int) = (q.val : Int) := h4
    refine ⟨by omega, by omega, by omega, by omega, by omega⟩
  · rintro ⟨h0, h1, h2, h3, h4⟩ a
    match a with
    | 0 => rw [w0, s0]; show (0 : Int) + (j'.val : Int) = (j.val : Int); omega
    | 1 => rw [w1, s1]; show (idx (ix1 0)).toInt + ((0 : Nat) : Int) = (p1.val : Int); omega
    | 2 => rw [w2, s2]; show (0 : Int) + (k'.val : Int) = (k.val : Int); omega
    | 3 => rw [w3, s3]; show (idx (ix1 1)).toInt + ((0 : Nat) : Int) = (p2.val : Int); omega
    | 4 => rw [w4, s4]; show (0 : Int) + (q'.val : Int) = (q.val : Int); omega

/-- Every index of a rank-three shape is a triple. -/
theorem triple (i : S8x192x192.Idx) : ∃ (a : Fin 8) (b c : Fin 192), i = ix3 a b c :=
  ⟨i 0, i 1, i 2, by
    funext a
    match a with
    | 0 => rfl
    | 1 => rfl
    | 2 => rfl⟩

/-- The scatter, place by place. -/
theorem scatter_at (x0 : FVec Ideal S8x2x192x2x192 .f32) (idx : IVec S2 32) (upd : FVec Ideal S8x192x192 .f32) (e : Nat)
    (h1 : (idx (ix1 0)).toInt = e) (h2 : (idx (ix1 1)).toInt = e) (j : Fin 8) (p1 : Fin 2) (k : Fin 192) (p2 : Fin 2) (q : Fin 192) :
    Host.scatter dS (fun _ b => b) x0 idx upd (ix5 j p1 k p2 q) = if p1.val = e ∧ p2.val = e then upd (ix3 j k q) else x0 (ix5 j p1 k p2 q) := by
  by_cases h : p1.val = e ∧ p2.val = e
  · rw [if_pos h]
    refine scatter_set_hit dS x0 idx upd _ _ ?_ (ix3 j k q) ((lands idx j k q j p1 k p2 q).2 ⟨rfl, by omega, rfl, by omega, rfl⟩)
    intro i hi
    obtain ⟨a, b, d, rfl⟩ := triple i
    obtain ⟨e0, _, e2, _, e4⟩ := (lands idx a b d j p1 k p2 q).1 hi
    rw [Fin.ext e0, Fin.ext e2, Fin.ext e4]
  · rw [if_neg h]
    refine scatter_set_miss dS x0 idx upd _ fun i hi => h ?_
    obtain ⟨a, b, d, rfl⟩ := triple i
    obtain ⟨_, e1, _, e3, _⟩ := (lands idx a b d j p1 k p2 q).1 hi
    omega

/-- Two blocks written on the diagonal of a zero pair. -/
theorem pair_at (A B : FVec Ideal S8x192x192 .f32) (x0 : FVec Ideal S8x2x192x2x192 .f32) (hx0 : ∀ i, x0 i = 0) (idx0 idx1 : IVec S2 32)
    (h00 : (idx0 (ix1 0)).toInt = 0) (h01 : (idx0 (ix1 1)).toInt = 0) (h10 : (idx1 (ix1 0)).toInt = 1) (h11 : (idx1 (ix1 1)).toInt = 1)
    (j : Fin 8) (p1 : Fin 2) (k : Fin 192) (p2 : Fin 2) (q : Fin 192) :
    Host.scatter dS (fun _ b => b) (Host.scatter dS (fun _ b => b) x0 idx0 A) idx1 B (ix5 j p1 k p2 q)
      = if p1.val = 1 ∧ p2.val = 1 then B (ix3 j k q) else if p1.val = 0 ∧ p2.val = 0 then A (ix3 j k q) else 0 := by
  rw [scatter_at _ idx1 B 1 h10 h11, scatter_at _ idx0 A 0 h00 h01, hx0]

/-- The index words of the two writes. -/
theorem words_at (w : BitVec 32) (a : Fin 2) :
    concatenate S2 0 [⟨S1, broadcastInDim S1 ![] bcast_S_S1 (constantI S_ 32 w)⟩, ⟨S1, broadcastInDim S1 ![] bcast_S_S1 (constantI S_ 32 w)⟩]
      concatenates_S1_S1_S2_d0 (ix1 a) = w := by
  match a with
  | 0 => rfl
  | 1 => rfl

theorem sitofp_zero : (FloatOps.sitofp (F := Ideal) FTy.f32 (0#32 : BitVec 32) : EReal) = 0 := by
  show (((0#32 : BitVec 32).toInt : ℝ) : EReal) = 0
  simp

/-- The two blocks as the host writes them, each cut out of a zero-padded array of blocks. -/
theorem blocks_at (W : FVec Ideal S16x176x176 .f32) (x0 : FVec Ideal S8x2x192x2x192 .f32) (hx0 : ∀ i, x0 i = 0) (idx0 idx1 : IVec S2 32)
    (A B : FVec Ideal S8x192x192 .f32)
    (hA : ∀ (j : Fin 8) (a q : Fin 192), A (ix3 j a q) = if h : j.val * 2 < 16 ∧ a.val < 176 ∧ q.val < 176 then
      W (ix3 (⟨j.val * 2, h.1⟩ : Fin 16) (⟨a.val, h.2.1⟩ : Fin 176) (⟨q.val, h.2.2⟩ : Fin 176)) else FloatOps.sitofp FTy.f32 (0#32 : BitVec 32))
    (hB : ∀ (j : Fin 8) (a q : Fin 192), B (ix3 j a q) = if h : j.val * 2 + 1 < 16 ∧ a.val < 176 ∧ q.val < 176 then
      W (ix3 (⟨j.val * 2 + 1, h.1⟩ : Fin 16) (⟨a.val, h.2.1⟩ : Fin 176) (⟨q.val, h.2.2⟩ : Fin 176)) else FloatOps.sitofp FTy.f32 (0#32 : BitVec 32))
    (h00 : (idx0 (ix1 0)).toInt = 0) (h01 : (idx0 (ix1 1)).toInt = 0) (h10 : (idx1 (ix1 0)).toInt = 1) (h11 : (idx1 (ix1 1)).toInt = 1)
    (j : Fin 8) (x k : Fin 384) (h : k.val % 192 < 176) :
    Host.scatter dS (fun _ b => b) (Host.scatter dS (fun _ b => b) x0 idx0 A) idx1 B
        (ix5 j (⟨x.val / 192, by omega⟩ : Fin 2) (⟨x.val % 192, by omega⟩ : Fin 192) (⟨k.val / 192, by omega⟩ : Fin 2) (⟨k.val % 192, by omega⟩ : Fin 192))
      = if hx : x.val / 192 = k.val / 192 ∧ x.val % 192 < 176 then
          W (ix3 (⟨j.val * 2 + k.val / 192, by omega⟩ : Fin 16) (⟨x.val % 192, hx.2⟩ : Fin 176) (⟨k.val % 192, h⟩ : Fin 176)) else 0 := by
  rw [pair_at A B x0 hx0 idx0 idx1 h00 h01 h10 h11]
  by_cases e : x.val / 192 = k.val / 192
  · by_cases hq : x.val % 192 < 176
    · rw [hA, hB, dif_pos (⟨by omega, hq, h⟩ : j.val * 2 < 16 ∧ _ ∧ _), dif_pos (⟨by omega, hq, h⟩ : j.val * 2 + 1 < 16 ∧ _ ∧ _),
        dif_pos (⟨e, hq⟩ : x.val / 192 = k.val / 192 ∧ _)]
      by_cases hk : k.val / 192 = 1
      · rw [if_pos ⟨e.trans hk, hk⟩]
        refine congrArg W (congrArg (fun z => ix3 z _ _) (Fin.ext ?_))
        show j.val * 2 + 1 = j.val * 2 + k.val / 192
        omega
      · rw [if_neg fun h' => hk h'.2, if_pos ⟨by show x.val / 192 = 0; omega, by show k.val / 192 = 0; omega⟩]
        refine congrArg W (congrArg (fun z => ix3 z _ _) (Fin.ext ?_))
        show j.val * 2 = j.val * 2 + k.val / 192
        omega
    · rw [hA, hB, dif_neg (fun h' => hq h'.2.1 : ¬(j.val * 2 < 16 ∧ x.val % 192 < 176 ∧ k.val % 192 < 176)),
        dif_neg (fun h' => hq h'.2.1 : ¬(j.val * 2 + 1 < 16 ∧ x.val % 192 < 176 ∧ k.val % 192 < 176)),
        dif_neg (fun h' => hq h'.2 : ¬(x.val / 192 = k.val / 192 ∧ x.val % 192 < 176)), sitofp_zero, ite_self, ite_self]
  · rw [if_neg fun h' => e (h'.1.trans h'.2.symm), if_neg fun h' => e (h'.1.trans h'.2.symm),
      dif_neg (fun h' => e h'.1 : ¬(x.val / 192 = k.val / 192 ∧ x.val % 192 < 176))]

end Cert.ScanIdeal.Body

end

end
-- ==== Proof.ScanHost.lean ====
module

public import proofs.«01_k».proof.Proof.ScanPay
public import proofs.«01_k».proof.Proof.ScanScatter

@[expose] public section

set_option maxRecDepth 16384

/-! The operands the host prepares, element by element, in terms of the argument arrays. -/

noncomputable section

namespace Cert.ScanIdeal.Body

open Cert.ScanIdeal Cert.ScanIdeal.Gen Cert.ScanSpec Idealize.ShloMosaic Idealize.ShloMosaic.TcCoe Idealize.SL.Sem

variable (m : (ℓ : Loc nD τ sig) → Buf (Elt Ideal) ℓ)

/-- The argument arrays. -/
abbrev aX (c : Dev nD) : FVec Ideal S2x8192x3072 .f32 := m ((c : Thread nD τ).loc main_arg0)
abbrev aCW (c : Dev nD) : FVec Ideal S4x2816 .f32 := m ((c : Thread nD τ).loc main_arg1)
abbrev aCB (c : Dev nD) : FVec Ideal S2816 .f32 := m ((c : Thread nD τ).loc main_arg2)
abbrev aWR (c : Dev nD) : FVec Ideal S16x176x176 .f32 := m ((c : Thread nD τ).loc main_arg3)
abbrev aBR (c : Dev nD) : FVec Ideal S2816 .f32 := m ((c : Thread nD τ).loc main_arg4)
abbrev aWI (c : Dev nD) : FVec Ideal S16x176x176 .f32 := m ((c : Thread nD τ).loc main_arg5)
abbrev aBI (c : Dev nD) : FVec Ideal S2816 .f32 := m ((c : Thread nD τ).loc main_arg6)
abbrev aLAM (c : Dev nD) : FVec Ideal S2816 .f32 := m ((c : Thread nD τ).loc main_arg7)
abbrev aH0 (c : Dev nD) : FVec Ideal S2x1x3072 .f32 := m ((c : Thread nD τ).loc main_arg8)

/-- The taps, padded. -/
theorem taps_at (c : Dev nD) (o : Fin 4) (J : Fin 3072) (h : J.val % 192 < 176) :
    (V m c main_v2 : FVec Ideal S4x3072 .f32) (ix2 o J) = aCW m c (ix2 o (narrow J h)) := by
  unfold narrow
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  rw [dif_pos ⟨by omega, h⟩]

/-- The convolution's bias, padded. -/
theorem cbias_at (c : Dev nD) (J : Fin 3072) (h : J.val % 192 < 176) :
    (V m c main_v6 : FVec Ideal S1x3072 .f32) (ix2 0 J) = aCB m c (ix1 (narrow J h)) := by
  unfold narrow
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  rw [dif_pos ⟨by omega, h⟩]

/-- The decay parameter, padded. -/
theorem lamv_at (c : Dev nD) (J : Fin 3072) (h : J.val % 192 < 176) :
    (V m c main_v53 : FVec Ideal S1x3072 .f32) (ix2 0 J) = aLAM m c (ix1 (narrow J h)) := by
  unfold narrow
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  rw [dif_pos ⟨by omega, h⟩]

/-- The recurrence gate's bias, padded and laid out by pairs of blocks. -/
theorem rbias_at (c : Dev nD) (j : Fin 8) (k : Fin 384) (h : (j.val * 384 + k.val) % 192 < 176) :
    (V m c main_v49 : FVec Ideal S8x1x768 .f32) (ix3 j 0 (⟨k.val, by omega⟩ : Fin 768)) = aBR m c (ix1 (narrow ⟨j.val * 384 + k.val, by omega⟩ h)) := by
  unfold narrow
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  rw [dif_pos ⟨by omega, by omega⟩]
  refine congrArg (aBR m c) (congrArg ix1 (Fin.ext ?_))
  show (j.val * 2 + k.val / 192) * 176 + k.val % 192 = (j.val * 384 + k.val) / 192 * 176 + (j.val * 384 + k.val) % 192
  omega

/-- The input gate's bias, padded and laid out by pairs of blocks. -/
theorem ibias_at (c : Dev nD) (j : Fin 8) (k : Fin 384) (h : (j.val * 384 + k.val) % 192 < 176) :
    (V m c main_v49 : FVec Ideal S8x1x768 .f32) (ix3 j 0 (⟨384 + k.val, by omega⟩ : Fin 768)) = aBI m c (ix1 (narrow ⟨j.val * 384 + k.val, by omega⟩ h)) := by
  unfold narrow
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  rw [dif_pos ⟨by omega, by omega⟩]
  refine congrArg (aBI m c) (congrArg ix1 (Fin.ext ?_))
  show (j.val * 2 + k.val / 192) * 176 + k.val % 192 = (j.val * 384 + k.val) / 192 * 176 + (j.val * 384 + k.val) % 192
  omega

/-- The recurrence gate's weights, two blocks at a time on the diagonal. -/
theorem rweight_at (c : Dev nD) (j : Fin 8) (x k : Fin 384) (h : k.val % 192 < 176) :
    (V m c main_v40 : FVec Ideal S8x384x768 .bf16) (ix3 j x (⟨k.val, by omega⟩ : Fin 768)) = if hx : x.val / 192 = k.val / 192 ∧ x.val % 192 < 176 then
      aWR m c (ix3 (⟨j.val * 2 + k.val / 192, by omega⟩ : Fin 16) (⟨x.val % 192, hx.2⟩ : Fin 176) (⟨k.val % 192, h⟩ : Fin 176)) else 0 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  exact blocks_at (aWR m c) _ (fun _ => Ideal.ofBits_zero_f32) _ _ _ _ (fun _ _ _ => rfl) (fun _ _ _ => rfl) (congrArg BitVec.toInt (words_at 0#32 0))
    (congrArg BitVec.toInt (words_at 0#32 1)) (congrArg BitVec.toInt (words_at 1#32 0)) (congrArg BitVec.toInt (words_at 1#32 1)) j x k h

/-- The input gate's weights, two blocks at a time on the diagonal. -/
theorem iweight_at (c : Dev nD) (j : Fin 8) (x k : Fin 384) (h : k.val % 192 < 176) :
    (V m c main_v40 : FVec Ideal S8x384x768 .bf16) (ix3 j x (⟨384 + k.val, by omega⟩ : Fin 768)) = if hx : x.val / 192 = k.val / 192 ∧ x.val % 192 < 176 then
      aWI m c (ix3 (⟨j.val * 2 + k.val / 192, by omega⟩ : Fin 16) (⟨x.val % 192, hx.2⟩ : Fin 176) (⟨k.val % 192, h⟩ : Fin 176)) else 0 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.cons_append, List.nil_append]
  entry_read
  simp only [StableHlo.TRef.toBuf, StableHlo.TRef.ofBuf, cast_cast, cast_eq]
  pointwise
  exact blocks_at (aWI m c) _ (fun _ => Ideal.ofBits_zero_f32) _ _ _ _ (fun _ _ _ => rfl) (fun _ _ _ => rfl) (congrArg BitVec.toInt (words_at 0#32 0))
    (congrArg BitVec.toInt (words_at 0#32 1)) (congrArg BitVec.toInt (words_at 1#32 0)) (congrArg BitVec.toInt (words_at 1#32 1)) j x k h

end Cert.ScanIdeal.Body

end

end
-- ==== Proof.ScanBlk.lean ====
module

public import proofs.«01_k».proof.Proof.ScanHost

@[expose] public section

set_option maxRecDepth 16384

/-! What each grid point's blocks hold, in terms of the argument arrays. -/

noncomputable section

namespace Cert.ScanIdeal.Body

open Cert.ScanIdeal Cert.ScanIdeal.Gen Cert.ScanSpec Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 128, t.val % 16, t.val / 16 % 8] ∧ win0_1.index t = ![t.val / 128, t.val % 16 * 64 - 1, t.val / 16 % 8]
    ∧ win0_2.index t = ![t.val / 128, min ((t.val % 16 + 1) * 64) 1023, t.val / 16 % 8] ∧ win0_3.index t = ![0, t.val / 16 % 8]
    ∧ win0_4.index t = ![0, t.val / 16 % 8] ∧ win0_5.index t = ![t.val / 16 % 8, 0, 0] ∧ win0_6.index t = ![t.val / 16 % 8, 0, 0]
    ∧ win0_7.index t = ![0, t.val / 16 % 8] ∧ win0_8.index t = ![t.val / 128, 0, t.val / 16 % 8]
    ∧ win0_9.index t = ![t.val / 128, t.val % 16, t.val / 16 % 8] ∧ win0_10.index t = ![t.val / 128, 0, t.val / 16 % 8] :=
  (by decide +kernel : ∀ t : Fin grid0.N, _)

theorem coord2 : ∀ t : Fin cfg0.N, (grid0.coords t 2).val = t.val % 16 := (by decide +kernel : ∀ t : Fin grid0.N, _)

/-- The batch of point `t`, the position of its chunk's row `r`, and the lane of its block's lane `k`. -/
def bOf (t : Fin cfg0.N) : Fin 2 := ⟨t.val / 128, by have hN : cfg0.N = 256 := N_0; have := t.isLt; omega⟩
def sOf (t : Fin cfg0.N) (r : Fin 512) : Fin 8192 := ⟨t.val % 16 * 512 + r.val, by omega⟩
def lOf (t : Fin cfg0.N) (k : Fin 384) : Fin 3072 := ⟨t.val / 16 % 8 * 384 + k.val, by omega⟩

theorem lOf_mod (t : Fin cfg0.N) (k : Fin 384) : (lOf t k).val % 192 = k.val % 192 := by
  show (t.val / 16 % 8 * 384 + k.val) % 192 = k.val % 192
  omega

theorem u_at (c : Dev nD) (t : Fin cfg0.N) (r : Fin 512) (k : Fin 384) :
    (iblk m c 0 t : FVec Ideal S1x512x384 .f32) (ix3 0 r k) = aX m c (ix3 (bOf t) (sOf t r) (lOf t k)) := by
  have hN : cfg0.N = 256 := N_0
  unfold bOf sOf lOf
  blk_ext [iblk, V, idx t]

theorem prev_at (c : Dev nD) (t : Fin cfg0.N) (q : Fin 8) (k : Fin 384) :
    (iblk m c 1 t : FVec Ideal S1x8x384 .f32) (ix3 0 q k) = aX m c (ix3 (bOf t) (⟨(t.val % 16 * 64 - 1) * 8 + q.val, by omega⟩ : Fin 8192) (lOf t k)) := by
  have hN : cfg0.N = 256 := N_0
  unfold bOf lOf
  blk_ext [iblk, V, idx t]

theorem next_at (c : Dev nD) (t : Fin cfg0.N) (q : Fin 8) (k : Fin 384) :
    (iblk m c 2 t : FVec Ideal S1x8x384 .f32) (ix3 0 q k) = aX m c (ix3 (bOf t) (⟨min ((t.val % 16 + 1) * 64) 1023 * 8 + q.val, by omega⟩ : Fin 8192) (lOf t k)) := by
  have hN : cfg0.N = 256 := N_0
  unfold bOf lOf
  blk_ext [iblk, V, idx t]

theorem h0_at (c : Dev nD) (t : Fin cfg0.N) (k : Fin 384) :
    (iblk m c 8 t : FVec Ideal S1x1x384 .f32) (ix3 0 0 k) = aH0 m c (ix3 (bOf t) 0 (lOf t k)) := by
  have hN : cfg0.N = 256 := N_0
  unfold bOf lOf
  blk_ext [iblk, V, idx t]

theorem cw_at (c : Dev nD) (t : Fin cfg0.N) (o : Fin 4) (k : Fin 384) (h : (lOf t k).val % 192 < 176) :
    (iblk m c 3 t : FVec Ideal S4x384 .f32) (ix2 o k) = aCW m c (ix2 o (narrow (lOf t k) h)) := by
  refine Eq.trans (b := (V m c main_v2 : FVec Ideal S4x3072 .f32) (ix2 o (lOf t k))) ?_ (taps_at m c o _ h)
  unfold lOf
  blk_ext [iblk, idx t]

theorem cb_at (c : Dev nD) (t : Fin cfg0.N) (k : Fin 384) (h : (lOf t k).val % 192 < 176) :
    (iblk m c 4 t : FVec Ideal S1x384 .f32) (ix2 0 k) = aCB m c (ix1 (narrow (lOf t k) h)) := by
  refine Eq.trans (b := (V m c main_v6 : FVec Ideal S1x3072 .f32) (ix2 0 (lOf t k))) ?_ (cbias_at m c _ h)
  unfold lOf
  blk_ext [iblk, idx t]

theorem lam_at (c : Dev nD) (t : Fin cfg0.N) (k : Fin 384) (h : (lOf t k).val % 192 < 176) :
    (iblk m c 7 t : FVec Ideal S1x384 .f32) (ix2 0 k) = aLAM m c (ix1 (narrow (lOf t k) h)) := by
  refine Eq.trans (b := (V m c main_v53 : FVec Ideal S1x3072 .f32) (ix2 0 (lOf t k))) ?_ (lamv_at m c _ h)
  unfold lOf
  blk_ext [iblk, idx t]

/-- The block of lanes of point `t`. -/
def jOf (t : Fin cfg0.N) : Fin 8 := ⟨t.val / 16 % 8, by omega⟩

theorem br_at (c : Dev nD) (t : Fin cfg0.N) (k : Fin 384) (h : (lOf t k).val % 192 < 176) :
    (iblk m c 6 t : FVec Ideal S1x1x768 .f32) (ix3 0 0 (⟨k.val, by omega⟩ : Fin 768)) = aBR m c (ix1 (narrow (lOf t k) h)) := by
  refine Eq.trans (b := (V m c main_v49 : FVec Ideal S8x1x768 .f32) (ix3 (jOf t) 0 (⟨k.val, by omega⟩ : Fin 768))) ?_ (rbias_at m c (jOf t) k h)
  unfold jOf
  blk_ext [iblk, idx t]

theorem bi_at (c : Dev nD) (t : Fin cfg0.N) (k : Fin 384) (h : (lOf t k).val % 192 < 176) :
    (iblk m c 6 t : FVec Ideal S1x1x768 .f32) (ix3 0 0 (⟨384 + k.val, by omega⟩ : Fin 768)) = aBI m c (ix1 (narrow (lOf t k) h)) := by
  refine Eq.trans (b := (V m c main_v49 : FVec Ideal S8x1x768 .f32) (ix3 (jOf t) 0 (⟨384 + k.val, by omega⟩ : Fin 768))) ?_ (ibias_at m c (jOf t) k h)
  unfold jOf
  blk_ext [iblk, idx t]

theorem wr_at (c : Dev nD) (t : Fin cfg0.N) (x k : Fin 384) (h : k.val % 192 < 176) :
    (iblk m c 5 t : FVec Ideal S1x384x768 .bf16) (ix3 0 x (⟨k.val, by omega⟩ : Fin 768))
      = if hx : x.val / 192 = k.val / 192 ∧ x.val % 192 < 176 then
          aWR m c (ix3 (⟨(jOf t).val * 2 + k.val / 192, by omega⟩ : Fin 16) (⟨x.val % 192, hx.2⟩ : Fin 176) (⟨k.val % 192, h⟩ : Fin 176)) else 0 := by
  refine Eq.trans (b := (V m c main_v40 : FVec Ideal S8x384x768 .bf16) (ix3 (jOf t) x (⟨k.val, by omega⟩ : Fin 768))) ?_ (rweight_at m c (jOf t) x k h)
  unfold jOf
  blk_ext [iblk, idx t]

theorem wi_at (c : Dev nD) (t : Fin cfg0.N) (x k : Fin 384) (h : k.val % 192 < 176) :
    (iblk m c 5 t : FVec Ideal S1x384x768 .bf16) (ix3 0 x (⟨384 + k.val, by omega⟩ : Fin 768))
      = if hx : x.val / 192 = k.val / 192 ∧ x.val % 192 < 176 then
          aWI m c (ix3 (⟨(jOf t).val * 2 + k.val / 192, by omega⟩ : Fin 16) (⟨x.val % 192, hx.2⟩ : Fin 176) (⟨k.val % 192, h⟩ : Fin 176)) else 0 := by
  refine Eq.trans (b := (V m c main_v40 : FVec Ideal S8x384x768 .bf16) (ix3 (jOf t) x (⟨384 + k.val, by omega⟩ : Fin 768))) ?_ (iweight_at m c (jOf t) x k h)
  unfold jOf
  blk_ext [iblk, idx t]

end Cert.ScanIdeal.Body

end

end
-- ==== Proof.ScanKern.lean ====
module

public import proofs.«01_k».proof.Proof.ScanBlk
public import proofs.«01_k».proof.Proof.ScanFrame

@[expose] public section

set_option maxRecDepth 16384

/-! Each grid point computes its rows of the recurrence, on the lanes that hold a block. -/

noncomputable section

namespace Cert.ScanIdeal.Body

open Cert.ScanIdeal Cert.ScanIdeal.Gen Cert.ScanSpec Idealize.ShloMosaic Idealize.ShloMosaic.TcCoe Idealize.SL.Sem
open Idealize.ShloMosaic.Pipeline (Dat)

variable (m : (ℓ : Loc nD τ sig) → Buf (Elt Ideal) ℓ)

/-- The unpadded lane of lane `k` of point `t`. -/
abbrev nOf (t : Fin cfg0.N) (k : Fin 384) (h : k.val % 192 < 176) : Fin 2816 := narrow (lOf t k) ((lOf_mod t k).trans_lt h)

/-- The convolution, the gates' arguments and the state, of the call's argument arrays. -/
abbrev cvA (c : Dev nD) : Fin 2 → ℕ → Fin 2816 → EReal := conv (aX m c) (aCW m c) (aCB m c)
abbrev gtA (c : Dev nD) : FVec Ideal S16x176x176 .f32 → FVec Ideal S2816 .f32 → Fin 2 → ℕ → Fin 2816 → EReal := gate (aX m c) (aCW m c) (aCB m c)
abbrev stA (c : Dev nD) : Fin 2 → Fin 2816 → ℕ → EReal :=
  state (aX m c) (aCW m c) (aCB m c) (aWR m c) (aBR m c) (aWI m c) (aBI m c) (aLAM m c) (aH0 m c)

/-- The chunk of point `t` with its neighbours. -/
abbrev UT (c : Dev nD) (t : Fin cfg0.N) : Vec Ideal S528x384 .f32 := UX (grid0.coords t) (iblk m c 0 t) (iblk m c 1 t) (iblk m c 2 t)

/-- The convolved chunk of point `t`. -/
abbrev XT (c : Dev nD) (t : Fin cfg0.N) : FVec Ideal S512x384 .f32 :=
  XB (grid0.coords t) (iblk m c 0 t) (iblk m c 1 t) (iblk m c 2 t) (iblk m c 3 t) (iblk m c 4 t)

/-- The window that starts at row `7 + e` reads the sequence with a zero before it, `e` positions on. -/
theorem uw_at (c : Dev nD) (t : Fin cfg0.N) (o : Fin 17) (e : ℕ) (ho : o.val = 7 + e) (he : e < 4) (r : Fin 512) (k : Fin 384) (h : k.val % 192 < 176) :
    UW o (UT m c t) (ix2 r k) = tapAt (aX m c) (bOf t) ((sOf t r).val + e) (nOf t k h) := by
  have hN : cfg0.N = 256 := N_0
  have ht := t.isLt
  have hs : (sOf t r).val = t.val % 16 * 512 + r.val := rfl
  unfold tapAt
  rw [wide_narrow]
  show (if h : o.val + r.val < 8 then k0_pay14 (grid0.coords t) (iblk m c 1 t) (ix2 (n0 := 8) (n1 := 384) ⟨o.val + r.val, h⟩ k)
    else if h' : o.val + r.val - 8 < 512 then k0_pay15 (iblk m c 0 t) (ix2 (n0 := 512) (n1 := 384) ⟨o.val + r.val - 8, h'⟩ k)
    else k0_pay16 (grid0.coords t) (iblk m c 2 t) (ix2 (n0 := 8) (n1 := 384) ⟨(o.val + r.val - 520) % 8, Nat.mod_lt _ (by decide)⟩ k)) = _
  have hj : ∀ (p q : Fin 8192), p.val = q.val → aX m c (ix3 (bOf t) p (lOf t k)) = aX m c (ix3 (bOf t) q (lOf t k)) :=
    fun p q e => congrArg (fun z => aX m c (ix3 (bOf t) z (lOf t k))) (Fin.ext e)
  by_cases h1 : o.val + r.val < 8
  · rw [dif_pos h1, pay14_at, coord2]
    by_cases h2 : t.val % 16 = 0
    · rw [if_pos h2, dif_neg (by omega)]
    · rw [if_neg h2, dif_pos (by omega), prev_at]
      exact hj _ _ (by show (t.val % 16 * 64 - 1) * 8 + (o.val + r.val) = (sOf t r).val + e - 1; omega)
  · rw [dif_neg h1]
    by_cases h2 : o.val + r.val - 8 < 512
    · rw [dif_pos h2, dif_pos (by omega), pay15_at, u_at]
      exact hj _ _ (by show t.val % 16 * 512 + (o.val + r.val - 8) = (sOf t r).val + e - 1; omega)
    · rw [dif_neg h2, pay16_at, coord2]
      by_cases h3 : t.val % 16 = 15
      · rw [if_pos h3, dif_neg (by omega)]
      · rw [if_neg h3, dif_pos (by omega), next_at]
        exact hj _ _ (by show min ((t.val % 16 + 1) * 64) 1023 * 8 + (o.val + r.val - 520) % 8 = (sOf t r).val + e - 1; omega)

/-- The convolved chunk is the convolution. -/
theorem xt_at (c : Dev nD) (t : Fin cfg0.N) (r : Fin 512) (k : Fin 384) (h : k.val % 192 < 176) :
    XT m c t (ix2 r k) = cvA m c (bOf t) (sOf t r).val (nOf t k h) := by
  have hw : ∀ o : Fin 4, CR (iblk m c 3 t) o (ix2 0 k) = aCW m c (ix2 o (nOf t k h)) := fun o => cw_at m c t o k _
  unfold XT XB
  rw [pay19_at, uw_at m c t 7 0 rfl (by omega) r k h, uw_at m c t 8 1 rfl (by omega) r k h, uw_at m c t 9 2 rfl (by omega) r k h,
    uw_at m c t 10 3 rfl (by omega) r k h, hw, hw, hw, hw, cb_at m c t k ((lOf_mod t k).trans_lt h)]
  rfl

/-- The product with a pair of blocks on the diagonal is the product with the lane's own block. -/
theorem dot_at (c : Dev nD) (t : Fin cfg0.N) (r : Fin 512) (k : Fin 384) (h : k.val % 192 < 176) (W : FVec Ideal S16x176x176 .f32) (w : Fin 384 → EReal)
    (hw : ∀ x : Fin 384, w x = if hx : x.val / 192 = k.val / 192 ∧ x.val % 192 < 176 then
      W (ix3 (⟨(jOf t).val * 2 + k.val / 192, by omega⟩ : Fin 16) (⟨x.val % 192, hx.2⟩ : Fin 176) (⟨k.val % 192, h⟩ : Fin 176)) else 0) :
    (∑ x : Fin 384, XT m c t (ix2 r x) * w x)
      = ∑ y : Fin 176, cvA m c (bOf t) (sOf t r).val ⟨(nOf t k h).val / 176 * 176 + y.val, by omega⟩
        * W (ix3 (⟨(nOf t k h).val / 176, by omega⟩ : Fin 16) y (⟨(nOf t k h).val % 176, by omega⟩ : Fin 176)) := by
  have hn : (nOf t k h).val = (t.val / 16 % 8 * 384 + k.val) / 192 * 176 + (t.val / 16 % 8 * 384 + k.val) % 192 := rfl
  have hjj : (jOf t).val = t.val / 16 % 8 := rfl
  refine (Fintype.sum_of_injective (fun y : Fin 176 => (⟨k.val / 192 * 192 + y.val, by omega⟩ : Fin 384)) (fun y z e => ?_) _ _ (fun x hx => ?_) (fun y => ?_)).symm
  · have := congrArg Fin.val e
    exact Fin.ext (by simpa using this)
  · rw [hw, dif_neg fun hx' => hx ⟨⟨x.val % 192, hx'.2⟩, Fin.ext (by show k.val / 192 * 192 + x.val % 192 = x.val; omega)⟩, mul_zero]
  · have hy : (⟨k.val / 192 * 192 + y.val, by omega⟩ : Fin 384).val % 192 < 176 := by show (k.val / 192 * 192 + y.val) % 192 < 176; omega
    rw [hw, dif_pos ⟨by show (k.val / 192 * 192 + y.val) / 192 = _; omega, hy⟩, xt_at m c t r _ hy]
    refine congrArg₂ (· * ·) (congrArg (cvA m c (bOf t) (sOf t r).val) (Fin.ext ?_)) (congrArg W (congr (congr (congrArg ix3 (Fin.ext ?_)) (Fin.ext ?_)) (Fin.ext ?_)))
    · show (nOf t k h).val / 176 * 176 + y.val = (t.val / 16 % 8 * 384 + (k.val / 192 * 192 + y.val)) / 192 * 176 + (t.val / 16 % 8 * 384 + (k.val / 192 * 192 + y.val)) % 192
      omega
    · show (nOf t k h).val / 176 = (jOf t).val * 2 + k.val / 192
      omega
    · show y.val = (k.val / 192 * 192 + y.val) % 192
      omega
    · show (nOf t k h).val % 176 = k.val % 192
      omega

/-- The gates of point `t`. -/
abbrev RT (c : Dev nD) (t : Fin cfg0.N) : FVec Ideal S512x384 .f32 :=
  RG (grid0.coords t) (iblk m c 0 t) (iblk m c 1 t) (iblk m c 2 t) (iblk m c 3 t) (iblk m c 4 t) (iblk m c 5 t) (iblk m c 6 t)
abbrev IT (c : Dev nD) (t : Fin cfg0.N) : FVec Ideal S512x384 .f32 :=
  IG (grid0.coords t) (iblk m c 0 t) (iblk m c 1 t) (iblk m c 2 t) (iblk m c 3 t) (iblk m c 4 t) (iblk m c 5 t) (iblk m c 6 t)

theorem rt_at (c : Dev nD) (t : Fin cfg0.N) (r : Fin 512) (k : Fin 384) (h : k.val % 192 < 176) :
    RT m c t (ix2 r k) = gtA m c (aWR m c) (aBR m c) (bOf t) (sOf t r).val (nOf t k h) := by
  unfold RT RG
  rw [pay21_at, pay20_at]
  exact congrArg Ideal.logistic (congrArg₂ (· + ·)
    (dot_at m c t r k h (aWR m c) (fun x => (iblk m c 5 t : FVec Ideal S1x384x768 .bf16) (ix3 0 x (⟨k.val, by omega⟩ : Fin 768))) fun x => wr_at m c t x k h)
    (br_at m c t k ((lOf_mod t k).trans_lt h)))

theorem it_at (c : Dev nD) (t : Fin cfg0.N) (r : Fin 512) (k : Fin 384) (h : k.val % 192 < 176) :
    IT m c t (ix2 r k) = gtA m c (aWI m c) (aBI m c) (bOf t) (sOf t r).val (nOf t k h) := by
  unfold IT IG
  rw [pay22_at, pay20_at]
  exact congrArg Ideal.logistic (congrArg₂ (· + ·)
    (dot_at m c t r k h (aWI m c) (fun x => (iblk m c 5 t : FVec Ideal S1x384x768 .bf16) (ix3 0 x (⟨384 + k.val, by omega⟩ : Fin 768))) fun x => wi_at m c t x k h)
    (bi_at m c t k ((lOf_mod t k).trans_lt h)))

/-- The coefficient's logarithm, as the body computes it. -/
theorem log_at (c : Dev nD) (t : Fin cfg0.N) (r : Fin 512) (k : Fin 384) (h : k.val % 192 < 176) :
    k0_pay24 (F := Ideal) (RT m c t) (k0_pay23 (iblk m c 7 t)) (ix2 r k)
      = logA (aX m c) (aCW m c) (aCB m c) (aWR m c) (aBR m c) (aLAM m c) (bOf t) (sOf t r).val (nOf t k h) := by
  rw [pay24_at, rt_at m c t r k h, lam_at m c t k ((lOf_mod t k).trans_lt h)]
  rfl

theorem at_at (c : Dev nD) (t : Fin cfg0.N) (r : Fin 512) (k : Fin 384) (h : k.val % 192 < 176) :
    AT m c t (ix2 r k) = coefA (aX m c) (aCW m c) (aCB m c) (aWR m c) (aBR m c) (aLAM m c) (bOf t) (sOf t r).val (nOf t k h) := by
  unfold AT AA
  rw [pay26_at]
  exact congrArg Ideal.exp (log_at m c t r k h)

theorem bt_at (c : Dev nD) (t : Fin cfg0.N) (r : Fin 512) (k : Fin 384) (h : k.val % 192 < 176) :
    BT m c t (ix2 r k) = coefB (aX m c) (aCW m c) (aCB m c) (aWR m c) (aBR m c) (aWI m c) (aBI m c) (aLAM m c) (bOf t) (sOf t r).val (nOf t k h) := by
  unfold BT BB
  rw [pay27_at _ _ _ _ _ _ _ (log_at m c t r k h) (logA_nonpos _ _ _ _ _ _ _ _ _)]
  exact congrArg₂ (fun p q => Ideal.sqrt _ * (p * q)) (it_at m c t r k h) (xt_at m c t r k h)

/-- From the state before the chunk, `n` rows of the recurrence give the state `n` positions on. -/
theorem hrow_at (c : Dev nD) (t : Fin cfg0.N) (k : Fin 384) (h : k.val % 192 < 176) (h0 : Vec Ideal S1x384 .f32)
    (e0 : h0 (ix2 0 k) = stA m c (bOf t) (nOf t k h) (t.val % 16 * 512)) :
    ∀ n, n ≤ 512 → hrow (AT m c t) (BT m c t) h0 n (ix2 0 k) = stA m c (bOf t) (nOf t k h) (t.val % 16 * 512 + n)
  | 0, _ => e0
  | n + 1, hn => by
    have e : (⟨n % 512, Nat.mod_lt _ (by decide)⟩ : Fin 512) = ⟨n, hn⟩ := Fin.ext (Nat.mod_eq_of_lt hn)
    show AT m c t (ix2 ⟨n % 512, _⟩ k) * hrow (AT m c t) (BT m c t) h0 n (ix2 0 k) + BT m c t (ix2 ⟨n % 512, _⟩ k) = _
    rw [e, hrow_at c t k h h0 e0 n (Nat.le_of_succ_le hn), at_at m c t ⟨n, hn⟩ k h, bt_at m c t ⟨n, hn⟩ k h]
    rfl

/-- What a point starts from is the state before its chunk, if what is carried is. -/
theorem hStart_at (c : Dev nD) (t : Fin cfg0.N) (k : Fin 384) (h : k.val % 192 < 176) (h0 : Vec Ideal S1x384 .f32)
    (e0 : t.val % 16 ≠ 0 → h0 (ix2 0 k) = stA m c (bOf t) (nOf t k h) (t.val % 16 * 512)) :
    hStart m c t h0 (ix2 0 k) = stA m c (bOf t) (nOf t k h) (t.val % 16 * 512) := by
  unfold hStart
  by_cases hc : t.val % 16 = 0
  · rw [if_pos hc, pay13_at, h0_at, hc]
    show _ = aH0 m c (ix3 (bOf t) 0 (wide (nOf t k h)))
    rw [wide_narrow]
  · rw [if_neg hc]
    exact e0 hc

/-- What is carried into a point that is not a first chunk is the state before its chunk. -/
theorem hAt_at (c : Dev nD) (k : Fin 384) (h : k.val % 192 < 176) : ∀ (n : ℕ) (hn : n < cfg0.N), n % 16 ≠ 0 →
    hAt m c n (ix2 0 k) = stA m c (bOf ⟨n, hn⟩) (nOf ⟨n, hn⟩ k h) (n % 16 * 512)
  | 0, _, h0 => absurd rfl h0
  | n + 1, hn, h0 => by
    have hn' : n < cfg0.N := Nat.lt_of_succ_lt hn
    rw [hAt_succ m c ⟨n, hn'⟩, pay34_at]
    unfold hEnd
    rw [hrow_at m c ⟨n, hn'⟩ k h _ (hStart_at m c ⟨n, hn'⟩ k h _ fun h1 => hAt_at c k h n hn' h1) 512 (le_refl _)]
    have e1 : bOf ⟨n, hn'⟩ = bOf ⟨n + 1, hn⟩ := Fin.ext (by show n / 128 = (n + 1) / 128; omega)
    have e2 : lOf ⟨n, hn'⟩ k = lOf ⟨n + 1, hn⟩ k := Fin.ext (by show n / 16 % 8 * 384 + k.val = (n + 1) / 16 % 8 * 384 + k.val; omega)
    have e3 : nOf ⟨n, hn'⟩ k h = nOf ⟨n + 1, hn⟩ k h := Fin.ext (by
      show (lOf ⟨n, hn'⟩ k).val / 192 * 176 + (lOf ⟨n, hn'⟩ k).val % 192 = (lOf ⟨n + 1, hn⟩ k).val / 192 * 176 + (lOf ⟨n + 1, hn⟩ k).val % 192
      rw [e2])
    have e4 : n % 16 * 512 + 512 = (n + 1) % 16 * 512 := by omega
    rw [e1, e3]
    exact congrArg (stA m c _ _) e4

theorem start_at (c : Dev nD) (t : Fin cfg0.N) (k : Fin 384) (h : k.val % 192 < 176) :
    hStart m c t (hAt m c t.val) (ix2 0 k) = stA m c (bOf t) (nOf t k h) (t.val % 16 * 512) :=
  hStart_at m c t k h _ (hAt_at m c k h t.val t.isLt)

/-- What a point leaves in the sequence output's window. -/
theorem out9_at (c : Dev nD) (t : Fin cfg0.N) (r : Fin 512) (k : Fin 384) (h : k.val % 192 < 176) :
    ((dats m 0 c).after 9 t : FVec Ideal S1x512x384 .f32) (ix3 0 r k) = stA m c (bOf t) (nOf t k h) ((sOf t r).val + 1) := by
  rw [after0_9]
  exact hrow_at m c t k h _ (start_at m c t k h) (r.val + 1) r.isLt

/-- What a last chunk's point leaves in the last state's window. -/
theorem out10_at (c : Dev nD) (t : Fin cfg0.N) (ht : t.val % 16 = 15) (k : Fin 384) (h : k.val % 192 < 176) :
    ((dats m 0 c).after 10 t : FVec Ideal S1x1x384 .f32) (ix3 0 0 k) = stA m c (bOf t) (nOf t k h) 8192 := by
  rw [after0_10]
  refine (pay1_at _ k).trans ((hrow_at m c t k h _ (start_at m c t k h) 512 (le_refl _)).trans ?_)
  rw [ht]

end Cert.ScanIdeal.Body

end

end
-- ==== Proof.ScanRefVal.lean ====
module

public import proofs.«01_k».proof.Proof.Gen.ScanRefIdeal.Run
public import proofs.«01_k».proof.Proof.Gen.ScanRefIdeal.Step
public import proofs.«01_k».proof.Proof.ScanSpec
public import Idealize.ShloMosaic.Lib.Pipeline.ValueKit
public import Idealize.ShloMosaic.Lib.Pointwise
public import Idealize.ShloMosaic.Lib.Claim

@[expose] public section

set_option maxRecDepth 16384

/-! The reference computes the functions of `ScanSpec`: the values made before its loop. -/

noncomputable section

namespace Cert.ScanRefIdeal.Val

open Cert.ScanRefIdeal Cert.ScanRefIdeal.Gen Cert.ScanRefIdeal.Step Cert.ScanSpec
open Idealize.ShloMosaic Idealize.ShloMosaic.TcCoe Idealize.SL.Sem

variable (X : FVec Ideal S2x8192x3072 .f32) (CW : FVec Ideal S4x2816 .f32) (CB : FVec Ideal S2816 .f32) (WR : FVec Ideal S16x176x176 .f32)
  (BR : FVec Ideal S2816 .f32) (WI : FVec Ideal S16x176x176 .f32) (BI : FVec Ideal S2816 .f32) (LAM : FVec Ideal S2816 .f32) (H0 : FVec Ideal S2x1x3072 .f32)

/-- The sequence without the blocks' padding lanes. -/
theorem x_at (b : Fin 2) (s : Fin 8192) (l : Fin 2816) :
    A_main_v2 (F := Ideal) X CW CB WR BR WI BI LAM H0 (ix3 b s l) = X (ix3 b s (wide l)) := by
  pointwise [A_main_v2, A_main_v1, A_main_v0, wide]

/-- The first state without the blocks' padding lanes. -/
theorem h_at (b : Fin 2) (l : Fin 2816) :
    A_main_v5 (F := Ideal) X CW CB WR BR WI BI LAM H0 (ix2 b l) = H0 (ix3 b 0 (wide l)) := by
  pointwise [A_main_v5, A_main_v4, A_main_v3, wide]

/-- The sequence padded by one zero before and two after. -/
theorem pad_at (b : Fin 2) (p : Fin 8195) (l : Fin 2816) :
    A_main_v6 (F := Ideal) X CW CB WR BR WI BI LAM H0 (ix3 b p l) = tapAt X b p.val l := by
  pointwise [A_main_v6, K_main_call0_v0, K_main_c, x_at, tapAt]
  by_cases h : 1 ≤ p.val ∧ p.val < 8193
  · rw [dif_pos h, dif_pos ⟨h.1, by omega⟩]
  · rw [dif_neg h, dif_neg fun h' => h ⟨h'.1, by omega⟩]
    show (((0#32 : BitVec 32).toInt : ℝ) : EReal) = 0
    simp

/-- The convolution. -/
theorem conv_at (b : Fin 2) (s : Fin 8192) (l : Fin 2816) :
    A_main_v36 (F := Ideal) X CW CB WR BR WI BI LAM H0 (ix3 b s l) = conv X CW CB b s.val l := by
  pointwise [A_main_v36, A_main_v35, A_main_v34, A_main_v33, A_main_v32, A_main_v31, A_main_v30, A_main_v29, A_main_v28, A_main_v27, A_main_v26,
    A_main_v25, A_main_v24, A_main_v23, A_main_v22, A_main_v21, A_main_v20, A_main_v19, A_main_v18, A_main_v17, A_main_v16, A_main_v15, A_main_v14,
    A_main_v13, A_main_v12, A_main_v11, A_main_v10, A_main_v9, A_main_v8, A_main_v7, pad_at, conv]
  rw [Nat.add_comm 1 s.val, Nat.add_comm 2 s.val, Nat.add_comm 3 s.val]

/-- The recurrence gate. -/
theorem gateR_at (b : Fin 2) (s : Fin 8192) (l : Fin 2816) :
    A_main_v49 (F := Ideal) X CW CB WR BR WI BI LAM H0 (ix3 b s l) = gate X CW CB WR BR b s.val l := by
  pointwise [A_main_v49, A_main_v47, A_main_v45, A_main_v44, A_main_v43, A_main_v42, A_main_v41, A_main_v40, A_main_v39, A_main_v38, A_main_v37,
    K_main_v46, K_main_v48, K_main_cst, K_main_cst_0, conv_at, gate, Ideal.logistic]
  exact congrArg (fun z : EReal => Ideal.div 1 (1 + Ideal.exp (-(z + BR (ix1 l))))) (Finset.sum_congr rfl fun k _ => mul_comm _ _)

/-- The input gate. -/
theorem gateI_at (b : Fin 2) (s : Fin 8192) (l : Fin 2816) :
    A_main_v61 (F := Ideal) X CW CB WR BR WI BI LAM H0 (ix3 b s l) = gate X CW CB WI BI b s.val l := by
  pointwise [A_main_v61, A_main_v59, A_main_v57, A_main_v56, A_main_v55, A_main_v54, A_main_v53, A_main_v52, A_main_v51, A_main_v50, A_main_v37,
    K_main_v58, K_main_v60, K_main_cst_1, K_main_cst_2, conv_at, gate, Ideal.logistic]
  exact congrArg (fun z : EReal => Ideal.div 1 (1 + Ideal.exp (-(z + BI (ix1 l))))) (Finset.sum_congr rfl fun k _ => mul_comm _ _)

/-- The decay of a lane. -/
theorem decay_at (l : Fin 2816) :
    A_main_v65 (F := Ideal) X CW CB WR BR WI BI LAM H0 (ix1 l) = decay (LAM (ix1 l)) := by
  pointwise [A_main_v65, A_main_call1_v11, A_main_call1_v10, A_main_call1_v9, A_main_call1_v8, A_main_call1_v7, A_main_call1_v6, A_main_call1_v4, A_main_call1_v3,
    A_main_call1_v1, A_main_v64, K_main_call1_v0, K_main_call1_v2, K_main_call1_v5, K_main_call1_cst, decay]
  rw [if_neg (by simp)]
  show _ + Ideal.log1p (Ideal.exp (-(max (-LAM (ix1 l)) (-(-LAM (ix1 l)))))) = _
  rw [neg_neg, max_comm (-LAM (ix1 l)) (LAM (ix1 l))]

/-- The logarithm of the coefficient. -/
theorem logA_at (b : Fin 2) (s : Fin 8192) (l : Fin 2816) :
    A_main_v68 (F := Ideal) X CW CB WR BR WI BI LAM H0 (ix3 b s l) = logA X CW CB WR BR LAM b s.val l := by
  pointwise [A_main_v68, A_main_v67, A_main_v66, A_main_v63, K_main_v62, K_main_cst_3, gateR_at, decay_at, logA]

/-- The coefficients, the sequence's axis first. -/
theorem coefA_at (s : Fin 8192) (b : Fin 2) (l : Fin 2816) :
    A_main_v77 (F := Ideal) X CW CB WR BR WI BI LAM H0 (ix3 s b l) = coefA X CW CB WR BR LAM b s.val l := by
  pointwise [A_main_v77, A_main_v69, logA_at, coefA]

/-- The inputs, the sequence's axis first. -/
theorem coefB_at (s : Fin 8192) (b : Fin 2) (l : Fin 2816) :
    A_main_v78 (F := Ideal) X CW CB WR BR WI BI LAM H0 (ix3 s b l) = coefB X CW CB WR BR WI BI LAM b s.val l := by
  pointwise [A_main_v78, A_main_v76, A_main_v75, A_main_v74, A_main_v73, A_main_v72, A_main_v71, K_main_v70, K_main_cst_4, logA_at, gateI_at, conv_at, coefB]
  rfl

end Cert.ScanRefIdeal.Val

end

end
-- ==== Proof.ScanRefLoop.lean ====
module

public import proofs.«01_k».proof.Proof.ScanRefVal
public import Idealize.ShloMosaic.Lib.DynamicIndex

@[expose] public section

set_option maxRecDepth 16384

/-! The reference's loop, trip by trip: the states it carries are those of `ScanSpec`'s recurrence. -/

noncomputable section

namespace Cert.ScanRefIdeal.Val

open Cert.ScanRefIdeal Cert.ScanRefIdeal.Gen Cert.ScanRefIdeal.Step Cert.ScanRefIdeal.Value Cert.ScanSpec
open Idealize.ShloMosaic Idealize.ShloMosaic.TcCoe Idealize.SL.Sem Idealize.ShloMosaic.StableHlo

/-- A trip's number, read signed. -/
theorem trip_toInt (n : ℕ) (hn : n < 8192) : (BitVec.ofNat 32 n).toInt = (n : Int) := by
  rw [BitVec.toInt_eq_toNat_of_lt (by rw [BitVec.toNat_ofNat]; omega), BitVec.toNat_ofNat]
  omega

/-- The starts of a trip's slices. -/
theorem starts (n : ℕ) (hn : n < 8192) (v : (⟨S_, .i32⟩ : BufTy).Contents (Elt Ideal)) (hv : v = constantI S_ 32 (BitVec.ofNat 32 n)) (a : Fin 3) :
    (((![v, constantI S_ 32 0#32, constantI S_ 32 0#32] : Fin 3 → (⟨S_, .i32⟩ : BufTy).Contents (Elt Ideal))) a (Shape.Idx.first h_S_)).toInt
      = ((![n, 0, 0] : Fin 3 → ℕ) a : Int) := by
  subst hv
  match a with
  | 0 => exact trip_toInt n hn
  | 1 => rfl
  | 2 => rfl

theorem row_fits (n : ℕ) (hn : n < 8192) : S8192x2x2816.Slices (![n, 0, 0] : Fin 3 → ℕ) S1x2x2816 :=
  ⟨rfl, fun a => by
    match a with
    | 0 => show n + 1 ≤ 8192; omega
    | 1 => show 0 + 2 ≤ 2; omega
    | 2 => show 0 + 2816 ≤ 2816; omega⟩

/-- The row a trip reads of an array of rows. -/
theorem row_at (x : FVec Ideal S8192x2x2816 .f32) (n : ℕ) (hn : n < 8192) (v : (⟨S_, .i32⟩ : BufTy).Contents (Elt Ideal))
    (hv : v = constantI S_ 32 (BitVec.ofNat 32 n)) (b : Fin 2) (l : Fin 2816) :
    shapeCast S2x2816 (Host.dynamicSlice S1x2x2816 x (fun k => (((![v, constantI S_ 32 0#32, constantI S_ 32 0#32]
      : Fin 3 → (⟨S_, .i32⟩ : BufTy).Contents (Elt Ideal))) k (Shape.Idx.first h_S_)).toInt) sliceFits_S8192x2x2816_S1x2x2816)
      shapeCasts_S1x2x2816_S2x2816 (ix2 b l) = x (ix3 ⟨n, hn⟩ b l) := by
  rw [Host.dynamicSlice_eq_extractStridedSlice _ _ _ (![n, 0, 0] : Fin 3 → ℕ) _ (row_fits n hn) (starts n hn v hv)]
  pointwise

theorem updateSlice_congr (x : FVec Ideal S8192x2x2816 .f32) (u : FVec Ideal S1x2x2816 .f32) {o o' : Fin 3 → ℕ} (e : o = o')
    (h : S8192x2x2816.Slices o S1x2x2816) (h' : S8192x2x2816.Slices o' S1x2x2816) : updateSlice x u o h = updateSlice x u o' h' := by
  subst e
  rfl

/-- A row written over an array of rows, read back: the new row at its number, the old rows elsewhere. -/
theorem updateRow_at (x : FVec Ideal S8192x2x2816 .f32) (u : FVec Ideal S1x2x2816 .f32) (n : ℕ) (hn : n < 8192)
    (start : Fin 3 → Int) (hs : ∀ a, start a = ((![n, 0, 0] : Fin 3 → ℕ) a : Int)) (h : S8192x2x2816.Slices (fun _ => 0) S1x2x2816)
    (k : Fin 8192) (b : Fin 2) (l : Fin 2816) :
    Host.dynamicUpdateSlice (s := S8192x2x2816) x u start h (ix3 k b l) = if k.val = n then u (ix3 0 b l) else x (ix3 k b l) := by
  have e : (fun a : Fin 3 => (min (max (start a) 0) ((S8192x2x2816.size a - S1x2x2816.size (a.cast h.1.symm) : Nat) : Int)).toNat) = (![n, 0, 0] : Fin 3 → ℕ) := by
    funext a
    rw [hs a]
    match a with
    | 0 => show (min (max (n : Int) 0) ((8192 - 1 : Nat) : Int)).toNat = n; omega
    | 1 => show (min (max (0 : Int) 0) ((2 - 2 : Nat) : Int)).toNat = 0; omega
    | 2 => show (min (max (0 : Int) 0) ((2816 - 2816 : Nat) : Int)).toNat = 0; omega
  have e' : Host.dynamicUpdateSlice (s := S8192x2x2816) x u start h = updateSlice x u (![n, 0, 0] : Fin 3 → ℕ) (row_fits n hn) := by
    unfold Host.dynamicUpdateSlice
    exact updateSlice_congr x u e _ _
  rw [e']
  unfold updateSlice
  by_cases hk : k.val = n
  · rw [if_pos hk, dif_pos]
    · refine congrArg u (funext fun a => Fin.ext ?_)
      match a with
      | 0 => show k.val - n = 0; omega
      | 1 => show b.val - 0 = b.val; omega
      | 2 => show l.val - 0 = l.val; omega
    · intro a
      match a with
      | 0 => show n ≤ k.val ∧ k.val < n + 1; omega
      | 1 => show 0 ≤ b.val ∧ b.val < 0 + 2; omega
      | 2 => show 0 ≤ l.val ∧ l.val < 0 + 2816; omega
  · rw [if_neg hk, dif_neg]
    intro ha
    have h0 : n ≤ k.val ∧ k.val < n + 1 := ha 0
    omega

/-- The carried arrays: the coefficients, the inputs, the state and the rows written; and the state a trip leaves. -/
def vA (V : Valuation τ sig (Elt Ideal)) : FVec Ideal S8192x2x2816 .f32 := V (Proc.devRef .tc main_v80_0)
def vB (V : Valuation τ sig (Elt Ideal)) : FVec Ideal S8192x2x2816 .f32 := V (Proc.devRef .tc main_v80_1)
def vH (V : Valuation τ sig (Elt Ideal)) : FVec Ideal S2x2816 .f32 := V (Proc.devRef .tc main_v80_3)
def vR (V : Valuation τ sig (Elt Ideal)) : FVec Ideal S8192x2x2816 .f32 := V (Proc.devRef .tc main_v80_4)
def vN (V : Valuation τ sig (Elt Ideal)) : FVec Ideal S2x2816 .f32 := res_main_while0b_v91 V

theorem vA_step (V : Valuation τ sig (Elt Ideal)) : vA (STEP V) = vA V := STEP_main_v80_0 V
theorem vB_step (V : Valuation τ sig (Elt Ideal)) : vB (STEP V) = vB V := STEP_main_v80_1 V
theorem vH_step (V : Valuation τ sig (Elt Ideal)) : vH (STEP V) = vN V := STEP_main_v80_3 V

/-- The state a trip leaves. -/
theorem trip_state (V : Valuation τ sig (Elt Ideal)) (n : ℕ) (hn : n < 8192)
    (hv : V (Proc.devRef .tc main_v80_2) = constantI S_ 32 (BitVec.ofNat 32 n)) (b : Fin 2) (l : Fin 2816) :
    vN V (ix2 b l) = vA V (ix3 ⟨n, hn⟩ b l) * vH V (ix2 b l) + vB V (ix3 ⟨n, hn⟩ b l) :=
  congrArg₂ (fun p q : EReal => p * vH V (ix2 b l) + q) (row_at (vA V) n hn _ hv b l) (row_at (vB V) n hn _ hv b l)

/-- The rows a trip leaves, as an array. -/
theorem vR_step (V : Valuation τ sig (Elt Ideal)) : vR (STEP V) = Host.dynamicUpdateSlice (s := S8192x2x2816) (vR V)
    (broadcastInDim S1x2x2816 ![1, 2] bcast_S2x2816_S1x2x2816_1_2 (vN V)) (fun k => (((![V (Proc.devRef .tc main_v80_2), constantI S_ 32 0#32, constantI S_ 32 0#32]
      : Fin 3 → (⟨S_, .i32⟩ : BufTy).Contents (Elt Ideal))) k (Shape.Idx.first h_S_)).toInt) updateFits_S8192x2x2816_S1x2x2816 :=
  (STEP_main_v80_4 V).trans (by unfold Value.step_main_v80_4 vR vN; rfl)

/-- The rows a trip leaves: its own state at its number, the others kept. -/
theorem trip_rows (V : Valuation τ sig (Elt Ideal)) (n : ℕ) (hn : n < 8192)
    (hv : V (Proc.devRef .tc main_v80_2) = constantI S_ 32 (BitVec.ofNat 32 n)) (k : Fin 8192) (b : Fin 2) (l : Fin 2816) :
    vR (STEP V) (ix3 k b l) = if k.val = n then vN V (ix2 b l) else vR V (ix3 k b l) := by
  rw [vR_step, updateRow_at _ _ n hn _ (starts n hn _ hv)]
  generalize vN V = u
  have e : broadcastInDim S1x2x2816 ![1, 2] bcast_S2x2816_S1x2x2816_1_2 u (ix3 0 b l) = u (ix2 b l) := by pointwise
  rw [e]

variable (m : (ℓ : Loc nD τ sig) → Buf (Elt Ideal) ℓ) (c : Dev nD)

/-- The argument arrays. -/
abbrev aX : FVec Ideal S2x8192x3072 .f32 := m ((c : Thread nD τ).loc main_arg0)
abbrev aCW : FVec Ideal S4x2816 .f32 := m ((c : Thread nD τ).loc main_arg1)
abbrev aCB : FVec Ideal S2816 .f32 := m ((c : Thread nD τ).loc main_arg2)
abbrev aWR : FVec Ideal S16x176x176 .f32 := m ((c : Thread nD τ).loc main_arg3)
abbrev aBR : FVec Ideal S2816 .f32 := m ((c : Thread nD τ).loc main_arg4)
abbrev aWI : FVec Ideal S16x176x176 .f32 := m ((c : Thread nD τ).loc main_arg5)
abbrev aBI : FVec Ideal S2816 .f32 := m ((c : Thread nD τ).loc main_arg6)
abbrev aLAM : FVec Ideal S2816 .f32 := m ((c : Thread nD τ).loc main_arg7)
abbrev aH0 : FVec Ideal S2x1x3072 .f32 := m ((c : Thread nD τ).loc main_arg8)

set_option maxRecDepth 65536 in
/-- What the loop finds: the trip's number zero, the coefficients, the inputs and the first state. -/
theorem entry_is : entryContents preI m c (Proc.devRef .tc main_v80_2) = constantI S_ 32 (BitVec.ofNat 32 0)
    ∧ entryContents preI m c (Proc.devRef .tc main_v80_0) = A_main_v77 (F := Ideal) (aX m c) (aCW m c) (aCB m c) (aWR m c) (aBR m c) (aWI m c) (aBI m c) (aLAM m c) (aH0 m c)
    ∧ entryContents preI m c (Proc.devRef .tc main_v80_1) = A_main_v78 (F := Ideal) (aX m c) (aCW m c) (aCB m c) (aWR m c) (aBR m c) (aWI m c) (aBI m c) (aLAM m c) (aH0 m c)
    ∧ entryContents preI m c (Proc.devRef .tc main_v80_3) = A_main_v5 (F := Ideal) (aX m c) (aCW m c) (aCB m c) (aWR m c) (aBR m c) (aWI m c) (aBI m c) (aLAM m c) (aH0 m c) := by
  refine ⟨?_, ?_, ?_, ?_⟩ <;> (simp only [entryContents, afterL_cons, afterL_nil]; after_reads_simp) <;> rfl

/-- The buffers before trip `n`. -/
def at_ (n : ℕ) : Valuation τ sig (Elt Ideal) := STEP^[n] (entryContents preI m c)

theorem at_succ (n : ℕ) : at_ m c (n + 1) = STEP (at_ m c n) := Function.iterate_succ_apply' ..

/-- The recurrence's state, of this memory's arguments. -/
abbrev st (b : Fin 2) (l : Fin 2816) : ℕ → EReal := state (aX m c) (aCW m c) (aCB m c) (aWR m c) (aBR m c) (aWI m c) (aBI m c) (aLAM m c) (aH0 m c) b l

theorem number_at (n : ℕ) : at_ m c n (Proc.devRef .tc main_v80_2) = constantI S_ 32 (BitVec.ofNat 32 n) := by
  induction n with
  | zero => exact (entry_is m c).1
  | succ n ih =>
    rw [at_succ, STEP_main_v80_2]
    unfold step_main_v80_2
    rw [ih]
    funext i
    show BitVec.ofNat 32 n + 1#32 = BitVec.ofNat 32 (n + 1)
    simp only [BitVec.ofNat_add]

theorem a_at (n : ℕ) (s : Fin 8192) (b : Fin 2) (l : Fin 2816) :
    vA (at_ m c n) (ix3 s b l) = coefA (aX m c) (aCW m c) (aCB m c) (aWR m c) (aBR m c) (aLAM m c) b s.val l := by
  induction n with
  | zero => exact (congrFun (entry_is m c).2.1 _).trans (coefA_at ..)
  | succ n ih => rw [at_succ, vA_step]; exact ih

theorem b_at (n : ℕ) (s : Fin 8192) (b : Fin 2) (l : Fin 2816) :
    vB (at_ m c n) (ix3 s b l) = coefB (aX m c) (aCW m c) (aCB m c) (aWR m c) (aBR m c) (aWI m c) (aBI m c) (aLAM m c) b s.val l := by
  induction n with
  | zero => exact (congrFun (entry_is m c).2.2.1 _).trans (coefB_at ..)
  | succ n ih => rw [at_succ, vB_step]; exact ih

/-- The carried state before trip `n`. -/
theorem carried_at (n : ℕ) (hn : n ≤ 8192) (b : Fin 2) (l : Fin 2816) : vH (at_ m c n) (ix2 b l) = st m c b l n := by
  induction n with
  | zero => exact (congrFun (entry_is m c).2.2.2 _).trans (h_at ..)
  | succ n ih =>
    rw [at_succ, vH_step, trip_state _ n (by omega) (number_at m c n), a_at, b_at, ih (by omega)]
    rfl

/-- The rows written before trip `n`. -/
theorem rows_at (n : ℕ) (hn : n ≤ 8192) (k : Fin 8192) (hk : k.val < n) (b : Fin 2) (l : Fin 2816) :
    vR (at_ m c n) (ix3 k b l) = st m c b l (k.val + 1) := by
  induction n with
  | zero => omega
  | succ n ih =>
    rw [at_succ, trip_rows _ n (by omega) (number_at m c n)]
    by_cases h : k.val = n
    · rw [if_pos h, trip_state _ n (by omega) (number_at m c n), a_at, b_at, carried_at m c n (by omega), h]
      rfl
    · rw [if_neg h]
      exact ih (by omega) (by omega)

theorem out0_at (V : Valuation τ sig (Elt Ideal)) (b : Fin 2) (k : Fin 8192) (j : Fin 3072) (h : j.val % 192 < 176) :
    (out_main_v86 V : FVec Ideal S2x8192x3072 .f32) (ix3 b k j) = vR V (ix3 k b (narrow j h)) := by
  have key : ∀ s : State Ideal, R_main_v86 s (ix3 b k j) = s.main_v80_4 (ix3 k b (narrow j h)) := by
    intro s
    pointwise [R_main_v86, narrow]
    rw [dif_pos ⟨by omega, h⟩]
  exact key ⟨V (Proc.devRef .tc main_v80_3), V (Proc.devRef .tc main_v80_4), V (Proc.devRef .tc main_v80_0), V (Proc.devRef .tc main_v80_1)⟩

theorem out1_at (V : Valuation τ sig (Elt Ideal)) (b : Fin 2) (j : Fin 3072) (h : j.val % 192 < 176) :
    (out_main_v87 V : FVec Ideal S2x1x3072 .f32) (ix3 b 0 j) = vH V (ix2 b (narrow j h)) := by
  have key : ∀ s : State Ideal, R_main_v87 s (ix3 b 0 j) = s.main_v80_3 (ix2 b (narrow j h)) := by
    intro s
    pointwise [R_main_v87, narrow]
    rw [dif_pos ⟨by omega, h⟩]
  exact key ⟨V (Proc.devRef .tc main_v80_3), V (Proc.devRef .tc main_v80_4), V (Proc.devRef .tc main_v80_0), V (Proc.devRef .tc main_v80_1)⟩

/-- The first result, at a lane of a block: the state after position `k`. -/
theorem result0_at (b : Fin 2) (k : Fin 8192) (j : Fin 3072) (h : j.val % 192 < 176) :
    (out_main_v86 (STEP^[8192] (entryContents preI m c)) : FVec Ideal S2x8192x3072 .f32) (ix3 b k j) = st m c b (narrow j h) (k.val + 1) :=
  (out0_at _ b k j h).trans (rows_at m c 8192 (le_refl _) k k.isLt b _)

/-- The second result, at a lane of a block: the state after the last position. -/
theorem result1_at (b : Fin 2) (j : Fin 3072) (h : j.val % 192 < 176) :
    (out_main_v87 (STEP^[8192] (entryContents preI m c)) : FVec Ideal S2x1x3072 .f32) (ix3 b 0 j) = st m c b (narrow j h) 8192 :=
  (out1_at _ b j h).trans (carried_at m c 8192 (le_refl _) b _)

end Cert.ScanRefIdeal.Val

end

end
-- ==== Proof.ScanClaim.lean ====
module

public import proofs.«01_k».proof.Defs
public import proofs.«01_k».proof.Proof.ScanKern
public import proofs.«01_k».proof.Proof.ScanRefLoop
public import Idealize.ShloMosaic.Lib.Pipeline.ValueKit
public import Idealize.ShloMosaic.Lib.Pointwise
public import Idealize.ShloMosaic.Lib.Claim
public import Idealize.ShloMosaic.Lib.Affine
public import Idealize.ShloMosaic.Lib.Decide

@[expose] public section

set_option maxRecDepth 16384

/-! The recurrence call and its reference end with the same states, on the lanes that hold a block. -/

noncomputable section

namespace Cert.ScanIdeal.Body

open Cert.ScanIdeal Cert.ScanIdeal.Gen Cert.ScanSpec Idealize.ShloMosaic Idealize.ShloMosaic.TcCoe Idealize.SL.Sem
open Idealize.ShloMosaic.Pipeline (Dat)

variable (m : (ℓ : Loc nD τ sig) → Buf (Elt Ideal) ℓ)

/-- The point that writes position `s` of lane `J` of batch `b`. -/
def tOf (b : Fin 2) (s : Fin 8192) (J : Fin 3072) : Fin cfg0.N :=
  ⟨b.val * 128 + J.val / 384 * 16 + s.val / 512, by have hN : cfg0.N = 256 := N_0; omega⟩

/-- What the points leave in the sequence output's windows, put together. -/
def G9 (c : Dev nD) : FVec Ideal S2x8192x3072 .f32 := fun y =>
  ((dats m 0 c).after 9 (tOf (y 0) (y 1) (y 2)) : FVec Ideal S1x512x384 .f32)
    (ix3 0 (⟨(y 1).val % 512, by omega⟩ : Fin 512) (⟨(y 2).val % 384, by omega⟩ : Fin 384))

/-- What the last chunks' points leave in the last state's windows, put together. -/
def G10 (c : Dev nD) : FVec Ideal S2x1x3072 .f32 := fun y =>
  ((dats m 0 c).after 10 (tOf (y 0) ⟨8191, by omega⟩ (y 2)) : FVec Ideal S1x1x384 .f32) (ix3 0 0 (⟨(y 2).val % 384, by omega⟩ : Fin 384))

theorem tOf_self (t : Fin cfg0.N) (r : Fin 512) (k : Fin 384) : tOf (bOf t) (sOf t r) (lOf t k) = t := by
  have hN : cfg0.N = 256 := N_0
  have ht := t.isLt
  refine Fin.ext ?_
  show t.val / 128 * 128 + (t.val / 16 % 8 * 384 + k.val) / 384 * 16 + (t.val % 16 * 512 + r.val) / 512 = t.val
  omega

theorem G9_at (c : Dev nD) (t : Fin cfg0.N) (r : Fin 512) (k : Fin 384) :
    ((dats m 0 c).after 9 t : FVec Ideal S1x512x384 .f32) (ix3 0 r k) = G9 m c (ix3 (bOf t) (sOf t r) (lOf t k)) := by
  show _ = ((dats m 0 c).after 9 (tOf (bOf t) (sOf t r) (lOf t k)) : FVec Ideal S1x512x384 .f32) (ix3 0 _ _)
  rw [tOf_self]
  refine congrArg _ (congr (congrArg (ix3 0) (Fin.ext ?_)) (Fin.ext ?_))
  · show r.val = (t.val % 16 * 512 + r.val) % 512
    omega
  · show k.val = (t.val / 16 % 8 * 384 + k.val) % 384
    omega

theorem G10_at (c : Dev nD) (t : Fin cfg0.N) (ht : t.val % 16 = 15) (k : Fin 384) :
    ((dats m 0 c).after 10 t : FVec Ideal S1x1x384 .f32) (ix3 0 0 k) = G10 m c (ix3 (bOf t) 0 (lOf t k)) := by
  have e : tOf (bOf t) ⟨8191, by omega⟩ (lOf t k) = t := by
    refine Eq.trans (congrArg (fun s => tOf (bOf t) s (lOf t k)) (Fin.ext ?_)) (tOf_self t ⟨511, by omega⟩ k)
    show 8191 = t.val % 16 * 512 + 511
    omega
  show _ = ((dats m 0 c).after 10 (tOf (bOf t) ⟨8191, _⟩ (lOf t k)) : FVec Ideal S1x1x384 .f32) (ix3 0 0 _)
  rw [e]
  refine congrArg _ (congrArg (ix3 0 0) (Fin.ext ?_))
  show k.val = (t.val / 16 % 8 * 384 + k.val) % 384
  omega

theorem final9 (c : Dev nD) : (dats m 0 c).arrAt 9 (cfgs 0).N = G9 m c := by
  refine (dats m 0 c).arrAt_eq_of_covers 9 _ (by decide +kernel) fun t hf y => ?_
  blk_simp
  idx_vars y
  obtain rfl : y0 = 0 := Subsingleton.elim _ _
  refine (G9_at m c t y1 y2).trans ?_
  refine congrArg (G9 m c) ?_
  have hN : cfg0.N = 256 := N_0
  unfold bOf sOf lOf
  blk_ext [idx t]

theorem final10 (c : Dev nD) : (dats m 0 c).arrAt 10 (cfgs 0).N = G10 m c := by
  refine (dats m 0 c).arrAt_eq_of_covers 10 _ (by decide +kernel) fun t hf y => ?_
  blk_simp
  have ht := (flush0_10 t).mp hf
  idx_vars y
  obtain rfl : y0 = 0 := Subsingleton.elim _ _
  obtain rfl : y1 = 0 := Subsingleton.elim _ _
  refine (G10_at m c t ht y2).trans ?_
  refine congrArg (G10 m c) ?_
  have hN : cfg0.N = 256 := N_0
  unfold bOf lOf
  blk_ext [idx t]

/-- The unpadded lane of a lane's place in its point's block is the lane's own. -/
theorem nOf_tOf (b : Fin 2) (s : Fin 8192) (J : Fin 3072) (h : J.val % 192 < 176) (h' : J.val % 384 % 192 < 176) :
    nOf (tOf b s J) (⟨J.val % 384, by omega⟩ : Fin 384) h' = narrow J h := by
  have e : lOf (tOf b s J) (⟨J.val % 384, by omega⟩ : Fin 384) = J := Fin.ext (by
    show (b.val * 128 + J.val / 384 * 16 + s.val / 512) / 16 % 8 * 384 + J.val % 384 = J.val
    omega)
  refine Fin.ext ?_
  show (lOf (tOf b s J) (⟨J.val % 384, _⟩ : Fin 384)).val / 192 * 176 + (lOf (tOf b s J) (⟨J.val % 384, _⟩ : Fin 384)).val % 192 = J.val / 192 * 176 + J.val % 192
  rw [e]

theorem bOf_tOf (b : Fin 2) (s : Fin 8192) (J : Fin 3072) : bOf (tOf b s J) = b := Fin.ext (by
  show (b.val * 128 + J.val / 384 * 16 + s.val / 512) / 128 = b.val
  omega)

/-- The sequence output is the recurrence's states. -/
theorem seq_at (c : Dev nD) (b : Fin 2) (s : Fin 8192) (J : Fin 3072) (h : J.val % 192 < 176) :
    G9 m c (ix3 b s J) = stA m c b (narrow J h) (s.val + 1) := by
  have h' : J.val % 384 % 192 < 176 := by omega
  refine (out9_at m c (tOf b s J) (⟨s.val % 512, by omega⟩ : Fin 512) (⟨J.val % 384, by omega⟩ : Fin 384) h').trans ?_
  rw [nOf_tOf b s J h h', bOf_tOf]
  refine congrArg (stA m c _ _) ?_
  show (b.val * 128 + J.val / 384 * 16 + s.val / 512) % 16 * 512 + s.val % 512 + 1 = s.val + 1
  omega

/-- The other output is the last state. -/
theorem last_at (c : Dev nD) (b : Fin 2) (J : Fin 3072) (h : J.val % 192 < 176) :
    G10 m c (ix3 b 0 J) = stA m c b (narrow J h) 8192 := by
  have h' : J.val % 384 % 192 < 176 := by omega
  refine (out10_at m c (tOf b ⟨8191, by omega⟩ J) ?_ (⟨J.val % 384, by omega⟩ : Fin 384) h').trans ?_
  · show (b.val * 128 + J.val / 384 * 16 + 8191 / 512) % 16 = 15
    omega
  rw [nOf_tOf b _ J h h', bOf_tOf]

/-- The run, with what its outputs hold. -/
theorem run_outs (ρ : Dev nD → PrngReg) : θ_run defs (onTc (τ := τ) (main (F := Ideal))) ⟨m, fun _ => 0, ρ⟩ (fun r => ∀ c : Dev nD,
      r.2.mem ((c.tc : Thread nD τ).loc main_v54_0) = G9 m c
      ∧ r.2.mem ((c.tc : Thread nD τ).loc main_v54_1) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 9).trans (final9 m c), ((h.1 c).1 10).trans (final10 m c), h.2.1 c⟩)
    (θ_run_and (run_main m ρ) (frame m ρ))

end Cert.ScanIdeal.Body

namespace Cert.On_block_lanes

open Idealize.ShloMosaic

/-- The shape relations the mask takes. -/
instance facts : Cert.On_block_lanes.Facts where
  bcast_S_S192 := by decide +kernel
  bcast_S192_S2x8192x16x192_3 := by decide +kernel
  shapeCasts_S2x8192x16x192_S2x8192x3072 := by decide +kernel
  bcast_S192_S2x16x192_2 := by decide +kernel
  shapeCasts_S2x16x192_S2x1x3072 := by decide +kernel

theorem lane_word : ∀ n : Fin 192, Scalar.cmpi .slt (BitVec.ofNat 32 n.val) 176#32 = 1#1 → n.val < 176 := by decide +kernel

variable [Cert.On_block_lanes.Facts]
  (x0 : FVec Ideal S2x8192x3072 .f32) (x1 : FVec Ideal S4x2816 .f32) (x2 : FVec Ideal S2816 .f32) (x3 : FVec Ideal S16x176x176 .f32)
  (x4 : FVec Ideal S2816 .f32) (x5 : FVec Ideal S16x176x176 .f32) (x6 : FVec Ideal S2816 .f32) (x7 : FVec Ideal S2816 .f32) (x8 : FVec Ideal S2x1x3072 .f32)

/-- Where the first mask is set the lane holds a block. -/
theorem seq_lane (b : Fin 2) (s : Fin 8192) (J : Fin 3072) (h : (fn x0 x1 x2 x3 x4 x5 x6 x7 x8).1 (ix3 b s J) = 1#1) : J.val % 192 < 176 := by
  refine lane_word ⟨J.val % 192, by omega⟩ (Eq.trans ?_ h)
  symm
  pointwise [fn]
  rfl

/-- Where the second mask is set the lane holds a block. -/
theorem last_lane (b : Fin 2) (J : Fin 3072) (h : (fn x0 x1 x2 x3 x4 x5 x6 x7 x8).2 (ix3 b 0 J) = 1#1) : J.val % 192 < 176 := by
  refine lane_word ⟨J.val % 192, by omega⟩ (Eq.trans ?_ h)
  symm
  pointwise [fn]
  rfl

end Cert.On_block_lanes

namespace Cert.Proof
open Idealize.ShloMosaic Idealize.SL.Sem

/-- The recurrence call's results are the reference's on the lanes that hold a block. -/
theorem scan_algebraic : Cert.algebraic_ScanIdeal_ScanRefIdeal_on_block_lanes (hOn_block_lanes := Cert.On_block_lanes.facts) := by
  intro m g m' g' hpre hagree
  refine ⟨Cert.ScanIdeal.Body.G9 m, Cert.ScanIdeal.Body.G10 m, ?_, ?_⟩
  · exact (θ_run _ _ _).mono (fun r h c => ⟨fun i _ => congrFun (h c).1 i, fun i _ => congrFun (h c).2.1 i, (h c).2.2⟩) (Cert.ScanIdeal.Body.run_outs m g)
  · have hst : ∀ c, Cert.ScanRefIdeal.Val.st m' c = Cert.ScanIdeal.Body.stA m c := fun c => by
      obtain ⟨h0, h1, h2, h3, h4, h5, h6, h7, h8⟩ := hagree c
      funext b l
      unfold Cert.ScanRefIdeal.Val.st Cert.ScanIdeal.Body.stA
      simp only [Cert.ScanRefIdeal.Val.aX, Cert.ScanRefIdeal.Val.aCW, Cert.ScanRefIdeal.Val.aCB, Cert.ScanRefIdeal.Val.aWR, Cert.ScanRefIdeal.Val.aBR,
        Cert.ScanRefIdeal.Val.aWI, Cert.ScanRefIdeal.Val.aBI, Cert.ScanRefIdeal.Val.aLAM, Cert.ScanRefIdeal.Val.aH0]
      rw [h0, h1, h2, h3, h4, h5, h6, h7, h8]
    refine (θ_run _ _ _).mono (fun r h c => ⟨fun i hi => (congrFun (h c).1 i).trans ?_, fun i hi => (congrFun (h c).2.1 i).trans ?_, (h c).2.2⟩)
      (Cert.ScanRefIdeal.Value.run m' g')
    · idx_vars i
      have hl := Cert.On_block_lanes.seq_lane (h := hi)
      exact (Cert.ScanRefIdeal.Val.result0_at m' c i0 i1 i2 hl).trans ((congrFun (congrFun (congrFun (hst c) _) _) _).trans
        (Cert.ScanIdeal.Body.seq_at m c i0 i1 i2 hl).symm)
    · idx_vars i
      obtain rfl : i1 = 0 := Subsingleton.elim _ _
      have hl := Cert.On_block_lanes.last_lane (h := hi)
      exact (Cert.ScanRefIdeal.Val.result1_at m' c i0 i2 hl).trans ((congrFun (congrFun (congrFun (hst c) _) _) _).trans
        (Cert.ScanIdeal.Body.last_at m c i0 i2 hl).symm)

end Cert.Proof

end

end
-- ==== Proof.ConfInClaim.lean ====
module

public import proofs.«01_k».proof.Defs
public import proofs.«01_k».proof.Proof.Gen.ConfInIdeal.Value
public import proofs.«01_k».proof.Proof.Gen.ConfInRefIdeal.Read
public import proofs.«01_k».proof.Proof.Gen.ConfInRefIdeal.Run
public import Idealize.ShloMosaic.Lib.Pipeline.ValueKit
public import Idealize.ShloMosaic.Lib.Pointwise
public import Idealize.ShloMosaic.Lib.Claim

@[expose] public section

set_option maxRecDepth 16384

/-! The convolution module's first product with its gated unit: the call's result is the reference's. -/

noncomputable section

namespace Cert.ConfInIdeal.Body

open Cert.ConfInIdeal Cert.ConfInIdeal.Gen Idealize.ShloMosaic Idealize.ShloMosaic.TcCoe Idealize.SL.Sem
open Idealize.ShloMosaic.Pipeline (Dat)

section Spec
variable (X : (⟨3, ![2, 8192, 2048]⟩ : Shape).Idx → EReal) (M : (⟨3, ![8, 6, 2048]⟩ : Shape).Idx → EReal)
  (W : (⟨2, ![2048, 4096]⟩ : Shape).Idx → EReal) (B : (⟨1, ![4096]⟩ : Shape).Idx → EReal)

/-- The modulated input: `x · (1 + scale) + shift`. -/
def modIn (b : Fin 2) (n : Fin 8192) (k : Fin 2048) : EReal :=
  X (ix3 b n k) * (1 + M (ix3 (⟨b.val, by omega⟩ : Fin 8) (1 : Fin 6) k)) + M (ix3 (⟨b.val, by omega⟩ : Fin 8) (0 : Fin 6) k)

/-- The first product at column `j`. -/
def proj (b : Fin 2) (n : Fin 8192) (j : Fin 4096) : EReal := (∑ k : Fin 2048, modIn X M b n k * W (ix2 k j)) + B (ix1 j)

/-- The gated linear unit at lane `j`. -/
def unit (b : Fin 2) (n : Fin 8192) (j : Fin 2048) : EReal :=
  proj X M W B b n ⟨j.val, by omega⟩ * Ideal.logistic (proj X M W B b n ⟨2048 + j.val, by omega⟩)
end Spec

/-! ## The reference -/

section Ref
open Cert.ConfInRefIdeal.Read
variable (X : FVec Ideal S2x8192x2048 .f32) (M : FVec Ideal S8x6x2048 .f32) (W : FVec Ideal S2048x4096 .f32) (B : FVec Ideal S4096 .f32)

theorem ref_h (b : Fin 2) (n : Fin 8192) (k : Fin 2048) : val_main_v8 (F := Ideal) X M (ix3 b n k) = modIn X M b n k := by
  pointwise [val_main_v8, val_main_v7, val_main_v6, val_main_v5, val_main_v4, val_main_v3, val_main_v2, val_main_v1, val_main_v0, val_main_cst, modIn]

theorem ref_u (b : Fin 2) (n : Fin 8192) (j : Fin 4096) : val_main_v12 (F := Ideal) X M W B (ix3 b n j) = proj X M W B b n j := by
  pointwise [val_main_v12, val_main_v11, val_main_v10, val_main_v9, ref_h, proj]

theorem ref_out (b : Fin 2) (n : Fin 8192) (j : Fin 2048) : val_main_v21 (F := Ideal) X M W B (ix3 b n j) = unit X M W B b n j := by
  pointwise [val_main_v21, val_main_v20, val_main_v19, val_main_v18, val_main_v17, val_main_v16, val_main_v15, val_main_v14, val_main_v13, val_main_cst_0,
    val_main_cst_1, ref_u, unit, Ideal.logistic]
end Ref

/-! ## The call -/

theorem pay1_at (x : FVec Ideal S1x512x2048 .f32) (s u : FVec Ideal S1x1x2048 .f32) (r : Fin 512) (k : Fin 2048) :
    k0_pay1 (F := Ideal) x s u (ix2 r k) = x (ix3 0 r k) * (1 + s (ix3 0 0 k)) + u (ix3 0 0 k) := by
  pointwise [k0_pay1]

theorem pay2_at (h : FVec Ideal S512x2048 .bf16) (a : FVec Ideal S2048x512 .bf16) (p : FVec Ideal S1x512 .f32) (b : FVec Ideal S2048x512 .bf16)
    (q : FVec Ideal S1x512 .f32) (r : Fin 512) (j : Fin 512) :
    k0_pay2 (F := Ideal) h a p b q (ix3 0 r j)
      = ((∑ k : Fin 2048, h (ix2 r k) * a (ix2 k j)) + p (ix2 0 j)) * Ideal.logistic ((∑ k : Fin 2048, h (ix2 r k) * b (ix2 k j)) + q (ix2 0 j)) := by
  pointwise [k0_pay2]

variable (m : (ℓ : Loc nD τ sig) → Buf (Elt Ideal) ℓ)

theorem idx : ∀ t : Fin cfg0.N, win0_0.index t = ![t.val / 64, t.val / 4 % 16, 0] ∧ win0_1.index t = ![t.val / 64, 0, 0]
    ∧ win0_2.index t = ![0, t.val % 4] ∧ win0_3.index t = ![0, t.val % 4 + 4] ∧ win0_4.index t = ![0, t.val % 4] ∧ win0_5.index t = ![0, t.val % 4 + 4]
    ∧ win0_6.index t = ![t.val / 64, t.val / 4 % 16, t.val % 4] :=
  (by decide +kernel : ∀ t : Fin grid0.N, _)

/-- The argument arrays. -/
abbrev aX (c : Dev nD) : FVec Ideal S2x8192x2048 .f32 := m ((c : Thread nD τ).loc main_arg0)
abbrev aM (c : Dev nD) : FVec Ideal S8x6x2048 .f32 := m ((c : Thread nD τ).loc main_arg1)
abbrev aW (c : Dev nD) : FVec Ideal S2048x4096 .f32 := m ((c : Thread nD τ).loc main_arg2)
abbrev aB (c : Dev nD) : FVec Ideal S4096 .f32 := m ((c : Thread nD τ).loc main_arg3)

/-- The batch of point `n`, the row of the array its block's row `r` is, and the lane its block's lane `j` is. -/
def bOf (n : ℕ) (h : n < cfg0.N) : Fin 2 := ⟨n / 64, by have hN : cfg0.N = 128 := N_0; omega⟩
def rowOf (n : ℕ) (r : Fin 512) : Fin 8192 := ⟨n / 4 % 16 * 512 + r.val, by omega⟩
def colOf (n : ℕ) (j : Fin 512) : Fin 2048 := ⟨n % 4 * 512 + j.val, by omega⟩

theorem x_at (c : Dev nD) (t : Fin cfg0.N) (r : Fin 512) (k : Fin 2048) :
    (iblk m c 0 t : FVec Ideal S1x512x2048 .f32) (ix3 0 r k) = aX m c (ix3 (bOf t.val t.isLt) (rowOf t.val r) k) := by
  have hN : cfg0.N = 128 := N_0
  unfold bOf rowOf
  blk_ext [iblk, V, idx t]

theorem mods_at (c : Dev nD) (t : Fin cfg0.N) (q : Fin 6) (k : Fin 2048) :
    (iblk m c 1 t : FVec Ideal S1x6x2048 .f32) (ix3 0 q k) = aM m c (ix3 (⟨(bOf t.val t.isLt).val, by omega⟩ : Fin 8) q k) := by
  have hN : cfg0.N = 128 := N_0
  unfold bOf
  blk_ext [iblk, V, idx t]

theorem wa_at (c : Dev nD) (t : Fin cfg0.N) (k : Fin 2048) (j : Fin 512) :
    (iblk m c 2 t : FVec Ideal S2048x512 .bf16) (ix2 k j) = aW m c (ix2 k (⟨(colOf t.val j).val, by omega⟩ : Fin 4096)) := by
  unfold colOf
  blk_simp [iblk]
  entry_read
  pointwise
  blk_ext [idx t]

theorem wb_at (c : Dev nD) (t : Fin cfg0.N) (k : Fin 2048) (j : Fin 512) :
    (iblk m c 3 t : FVec Ideal S2048x512 .bf16) (ix2 k j) = aW m c (ix2 k (⟨2048 + (colOf t.val j).val, by omega⟩ : Fin 4096)) := by
  unfold colOf
  blk_simp [iblk]
  entry_read
  pointwise
  blk_ext [idx t]

theorem ba_at (c : Dev nD) (t : Fin cfg0.N) (j : Fin 512) :
    (iblk m c 4 t : FVec Ideal S1x512 .f32) (ix2 0 j) = aB m c (ix1 (⟨(colOf t.val j).val, by omega⟩ : Fin 4096)) := by
  unfold colOf
  blk_simp [iblk]
  entry_read
  pointwise
  blk_ext [idx t]

theorem bb_at (c : Dev nD) (t : Fin cfg0.N) (j : Fin 512) :
    (iblk m c 5 t : FVec Ideal S1x512 .f32) (ix2 0 j) = aB m c (ix1 (⟨2048 + (colOf t.val j).val, by omega⟩ : Fin 4096)) := by
  unfold colOf
  blk_simp [iblk]
  entry_read
  pointwise
  blk_ext [idx t]

/-- At the first point of a run of four the body stores the modulated rows of its block. -/
theorem h_first (c : Dev nD) (t : Fin cfg0.N) (h0 : t.val % 4 = 0) (r : Fin 512) (k : Fin 2048) :
    (outsAt0 m c t.val t.isLt).2 (ix2 r k) = modIn (aX m c) (aM m c) (bOf t.val t.isLt) (rowOf t.val r) k := by
  rw [outsAt0_A m c t h0]; frame_out
  rw [pay1_at]
  pointwise
  rw [x_at, mods_at, mods_at]; rfl

/-- What the scratch holds after every point: the modulated rows of the point's block. -/
theorem h_at (c : Dev nD) : ∀ (n : ℕ) (h : n < cfg0.N) (r : Fin 512) (k : Fin 2048),
    (outsAt0 m c n h).2 (ix2 r k) = modIn (aX m c) (aM m c) (bOf n h) (rowOf n r) k := by
  intro n
  induction n with
  | zero => exact fun h r k => h_first m c ⟨0, h⟩ rfl r k
  | succ n ih =>
    intro h r k
    by_cases h0 : (n + 1) % 4 = 0
    · exact h_first m c ⟨n + 1, h⟩ h0 r k
    · have e : (outsAt0 m c (n + 1) h).2 (ix2 r k) = (outsAt0 m c n (by omega)).2 (ix2 r k) := by
        rw [outsAt0_B m c ⟨n + 1, h⟩ h0]
        dsimp only
        unfold sout0_B_0
        rfl
      rw [e, ih, show bOf n (by omega) = bOf (n + 1) h from Fin.ext (by simp only [bOf]; omega),
        show rowOf n r = rowOf (n + 1) r from Fin.ext (by simp only [rowOf]; omega)]

/-- Over a scratch that holds the modulated rows, the body stores the gated unit. -/
theorem step_at (c : Dev nD) (t : Fin cfg0.N) (h : FVec Ideal S512x2048 .bf16)
    (hh : ∀ r k, h (ix2 r k) = modIn (aX m c) (aM m c) (bOf t.val t.isLt) (rowOf t.val r) k) (r : Fin 512) (j : Fin 512) :
    k0_pay2 (F := Ideal) h (iblk m c 2 t) (iblk m c 4 t) (iblk m c 3 t) (iblk m c 5 t) (ix3 0 r j)
      = unit (aX m c) (aM m c) (aW m c) (aB m c) (bOf t.val t.isLt) (rowOf t.val r) (colOf t.val j) := by
  rw [pay2_at]
  simp only [hh, wa_at, wb_at, ba_at, bb_at]
  rfl

/-- What a point leaves in the output block. -/
theorem out_at (c : Dev nD) (t : Fin cfg0.N) (r : Fin 512) (j : Fin 512) :
    (outsAt0 m c t.val t.isLt).1 (ix3 0 r j) = unit (aX m c) (aM m c) (aW m c) (aB m c) (bOf t.val t.isLt) (rowOf t.val r) (colOf t.val j) := by
  by_cases h0 : t.val % 4 = 0
  · rw [outsAt0_A m c t h0]; frame_out
    refine step_at m c t _ (fun r k => ?_) r j
    refine Eq.trans (Eq.symm ?_) (h_at m c t.val t.isLt r k)
    rw [outsAt0_A m c t h0]; frame_out
  · have hs : ∀ r k, (outsAt0 m c (t.val - 1) (by omega)).2 (ix2 r k) = modIn (aX m c) (aM m c) (bOf t.val t.isLt) (rowOf t.val r) k := by
      intro r k
      rw [h_at, show bOf (t.val - 1) (by omega) = bOf t.val t.isLt from Fin.ext (by simp only [bOf]; omega),
        show rowOf (t.val - 1) r = rowOf t.val r from Fin.ext (by simp only [rowOf]; omega)]
    rw [outsAt0_B m c t h0]; frame_out
    exact step_at m c t _ (fun r k => (congrFun (Memref.IsWhole.read_unread _ _) _).trans (hs r k)) r j

/-- The result array is the reference's composed term over the argument arrays. -/
theorem final (c : Dev nD) : (dats m 0 c).arrAt 6 (cfgs 0).N
    = Cert.ConfInRefIdeal.Read.val_main_v21 (F := Ideal) (aX m c) (aM m c) (aW m c) (aB m c) := by
  refine (dats m 0 c).arrAt_eq_of_covers 6 _ (by decide +kernel) fun t hf y => ?_
  blk_simp
  rw [after0_6]
  idx_vars y
  obtain rfl : y0 = 0 := Subsingleton.elim _ _
  refine (out_at m c t y1 y2).trans ?_
  rw [← ref_out]
  refine congrArg _ ?_
  have hN : cfg0.N = 128 := N_0
  unfold bOf rowOf colOf
  blk_ext [idx t]

end Cert.ConfInIdeal.Body

namespace Cert.Proof
open Idealize.ShloMosaic Idealize.SL.Sem

/-- The call's result is the reference's. -/
theorem confIn_algebraic : Cert.algebraic_ConfInIdeal_ConfInRefIdeal := by
  pair_intro
  · run_from Cert.ConfInIdeal.Gen.run_main m g
  · run_from Cert.ConfInRefIdeal.Value.run m' g'
    exact (Cert.ConfInRefIdeal.Read.val_main_v21_eq _ _ _ _).trans (Cert.ConfInIdeal.Body.final m c).symm

end Cert.Proof
-- ==== Proof.FtOutClaim.lean ====
module

public import proofs.«01_k».proof.Defs
public import proofs.«01_k».proof.Proof.FfnPay
public import proofs.«01_k».proof.Proof.Gen.FtOutIdeal.Value
public import proofs.«01_k».proof.Proof.Gen.FtOutRefIdeal.Read
public import proofs.«01_k».proof.Proof.Gen.FtOutRefIdeal.Run
public import Idealize.ShloMosaic.Lib.Pipeline.ValueKit
public import Idealize.ShloMosaic.Lib.Pointwise
public import Idealize.ShloMosaic.Lib.Claim

@[expose] public section

set_option maxRecDepth 16384

/-! The Fourier mixer's product with its residual and layer normalisation: the call's result is the reference's. -/

noncomputable section

namespace Cert.FtOutIdeal.Body

open Cert.Ffn.Spec
open Cert.FtOutIdeal Cert.FtOutIdeal.Gen Idealize.ShloMosaic Idealize.ShloMosaic.TcCoe Idealize.SL.Sem
open Idealize.ShloMosaic.Pipeline (Dat)

/-- The row the normalisation is applied to: `α·x + gate·(f · w + bias)`. -/
def mixRow (A : (⟨3, ![2, 8192, 2048]⟩ : Shape).Idx → EReal) (W : (⟨2, ![2048, 2048]⟩ : Shape).Idx → EReal) (C : (⟨1, ![2048]⟩ : Shape).Idx → EReal)
    (X : (⟨3, ![2, 8192, 2048]⟩ : Shape).Idx → EReal) (M : (⟨3, ![8, 6, 2048]⟩ : Shape).Idx → EReal) (b : Fin 2) (n : Fin 8192) (d : Fin 2048) : EReal :=
  alpha * X (ix3 b n d) + M (ix3 (⟨b.val, by omega⟩ : Fin 8) (2 : Fin 6) d) * ((∑ k : Fin 2048, A (ix3 b n k) * W (ix2 k d)) + C (ix1 d))

/-! ## The reference -/

section Ref
open Cert.FtOutRefIdeal.Read
variable (A : FVec Ideal S2x8192x2048 .f32) (W : FVec Ideal S2048x2048 .f32) (C : FVec Ideal S2048 .f32) (X : FVec Ideal S2x8192x2048 .f32)
  (M : FVec Ideal S8x6x2048 .f32) (G B : FVec Ideal S2048 .f32)

theorem ref_v (b : Fin 2) (n : Fin 8192) (d : Fin 2048) : val_main_v9 (F := Ideal) A W C X M (ix3 b n d) = mixRow A W C X M b n d := by
  pointwise [val_main_v9, val_main_v8, val_main_v7, val_main_v6, val_main_v5, val_main_v4, val_main_v3, val_main_v2, val_main_v1, val_main_v0, val_main_cst, mixRow, alpha]

theorem ref_out (b : Fin 2) (n : Fin 8192) (d : Fin 2048) :
    val_main_v31 (F := Ideal) A W C X M G B (ix3 b n d) = normed (mixRow A W C X M b n) (G (ix1 d)) (B (ix1 d)) d := by
  pointwise [val_main_v31, val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11, val_main_v10,
    val_main_cst_0, val_main_cst_1, val_main_cst_2, val_main_cst_3, val_main_cst_4, ref_v, normed]
end Ref

/-! ## The call -/

/-- What one point stores, at an index. -/
theorem pay_at (f : FVec Ideal S1x256x2048 .f32) (w : FVec Ideal S2048x2048 .bf16) (p : FVec Ideal S1x2048 .f32) (x : FVec Ideal S1x256x2048 .f32)
    (g : FVec Ideal S1x1x2048 .f32) (ga be : FVec Ideal S1x2048 .f32) (r : Fin 256) (d : Fin 2048) :
    k0_pay1 (F := Ideal) (k0_pay2 ga) (k0_pay3 be) (k0_pay4 f w p x g) (k0_pay5 f w p x g) (Scalar.ofBits .f32 0x3727C5AC#32) (ix3 0 r d)
      = normed (fun k => alpha * x (ix3 0 r k) + g (ix3 0 0 k) * ((∑ j : Fin 2048, f (ix3 0 r j) * w (ix2 j k)) + p (ix2 0 k)))
          (ga (ix2 0 d)) (be (ix2 0 d)) d := by
  pointwise [k0_pay1, k0_pay2, k0_pay3, k0_pay4, k0_pay5, normed, alpha]

variable (m : (ℓ : Loc nD τ sig) → Buf (Elt Ideal) ℓ)

theorem idx : ∀ t : Fin cfg0.N, win0_0.index t = ![t.val / 32, t.val % 32, 0] ∧ win0_1.index t = ![0, 0]
    ∧ win0_2.index t = ![0, 0] ∧ win0_3.index t = ![t.val / 32, t.val % 32, 0] ∧ win0_4.index t = ![t.val / 32, 0, 0] ∧ win0_5.index t = ![0, 0]
    ∧ win0_6.index t = ![0, 0] ∧ win0_7.index t = ![t.val / 32, t.val % 32, 0] :=
  (by decide +kernel : ∀ t : Fin grid0.N, _)

/-- The argument arrays. -/
abbrev aA (c : Dev nD) : FVec Ideal S2x8192x2048 .f32 := m ((c : Thread nD τ).loc main_arg0)
abbrev aW (c : Dev nD) : FVec Ideal S2048x2048 .f32 := m ((c : Thread nD τ).loc main_arg1)
abbrev aC (c : Dev nD) : FVec Ideal S2048 .f32 := m ((c : Thread nD τ).loc main_arg2)
abbrev aX (c : Dev nD) : FVec Ideal S2x8192x2048 .f32 := m ((c : Thread nD τ).loc main_arg3)
abbrev aM (c : Dev nD) : FVec Ideal S8x6x2048 .f32 := m ((c : Thread nD τ).loc main_arg4)
abbrev aG (c : Dev nD) : FVec Ideal S2048 .f32 := m ((c : Thread nD τ).loc main_arg5)
abbrev aB (c : Dev nD) : FVec Ideal S2048 .f32 := m ((c : Thread nD τ).loc main_arg6)

/-- The batch of point `n` and the row of the array its block's row `r` is. -/
def bOf (n : ℕ) (h : n < cfg0.N) : Fin 2 := ⟨n / 32, by have hN : cfg0.N = 64 := N_0; omega⟩
def rowOf (n : ℕ) (r : Fin 256) : Fin 8192 := ⟨n % 32 * 256 + r.val, by omega⟩

theorem f_at (c : Dev nD) (t : Fin cfg0.N) (r : Fin 256) (k : Fin 2048) :
    (iblk m c 0 t : FVec Ideal S1x256x2048 .f32) (ix3 0 r k) = aA m c (ix3 (bOf t.val t.isLt) (rowOf t.val r) k) := by
  have hN : cfg0.N = 64 := N_0
  unfold bOf rowOf
  blk_ext [iblk, V, idx t]

theorem w_at (c : Dev nD) (t : Fin cfg0.N) (k d : Fin 2048) :
    (iblk m c 1 t : FVec Ideal S2048x2048 .bf16) (ix2 k d) = aW m c (ix2 k d) := by
  blk_simp [iblk]
  entry_read
  pointwise
  blk_ext [idx t]

theorem bias_at (c : Dev nD) (t : Fin cfg0.N) (d : Fin 2048) : (iblk m c 2 t : FVec Ideal S1x2048 .f32) (ix2 0 d) = aC m c (ix1 d) := by
  blk_simp [iblk]
  entry_read
  pointwise
  blk_ext [idx t]

theorem x_at (c : Dev nD) (t : Fin cfg0.N) (r : Fin 256) (k : Fin 2048) :
    (iblk m c 3 t : FVec Ideal S1x256x2048 .f32) (ix3 0 r k) = aX m c (ix3 (bOf t.val t.isLt) (rowOf t.val r) k) := by
  have hN : cfg0.N = 64 := N_0
  unfold bOf rowOf
  blk_ext [iblk, V, idx t]

theorem mods_at (c : Dev nD) (t : Fin cfg0.N) (q : Fin 6) (k : Fin 2048) :
    (iblk m c 4 t : FVec Ideal S1x6x2048 .f32) (ix3 0 q k) = aM m c (ix3 (⟨(bOf t.val t.isLt).val, by omega⟩ : Fin 8) q k) := by
  have hN : cfg0.N = 64 := N_0
  unfold bOf
  blk_ext [iblk, V, idx t]

theorem gain_at (c : Dev nD) (t : Fin cfg0.N) (d : Fin 2048) : (iblk m c 5 t : FVec Ideal S1x2048 .f32) (ix2 0 d) = aG m c (ix1 d) := by
  blk_simp [iblk]
  entry_read
  pointwise
  blk_ext [idx t]

theorem shift_at (c : Dev nD) (t : Fin cfg0.N) (d : Fin 2048) : (iblk m c 6 t : FVec Ideal S1x2048 .f32) (ix2 0 d) = aB m c (ix1 d) := by
  blk_simp [iblk]
  entry_read
  pointwise
  blk_ext [idx t]

/-- What a point leaves in the output block. -/
theorem out_at (c : Dev nD) (t : Fin cfg0.N) (r : Fin 256) (d : Fin 2048) :
    out0_7 (F := Ideal) (iblk m c 0 t) (iblk m c 1 t) (iblk m c 2 t) (iblk m c 3 t) (iblk m c 4 t) (iblk m c 5 t) (iblk m c 6 t) (ix3 0 r d)
      = normed (mixRow (aA m c) (aW m c) (aC m c) (aX m c) (aM m c) (bOf t.val t.isLt) (rowOf t.val r)) (aG m c (ix1 d)) (aB m c (ix1 d)) d := by
  unfold out0_7; frame_out
  rw [pay_at]
  pointwise
  simp only [f_at, w_at, bias_at, x_at, mods_at, gain_at, shift_at]
  rfl

/-- The result array is the reference's composed term over the argument arrays. -/
theorem final (c : Dev nD) : (dats m 0 c).arrAt 7 (cfgs 0).N
    = Cert.FtOutRefIdeal.Read.val_main_v31 (F := Ideal) (aA m c) (aW m c) (aC m c) (aX m c) (aM m c) (aG m c) (aB m c) := by
  refine (dats m 0 c).arrAt_eq_of_covers 7 _ (by decide +kernel) fun t hf y => ?_
  blk_simp
  rw [after0_7]
  idx_vars y
  obtain rfl : y0 = 0 := Subsingleton.elim _ _
  refine (out_at m c t y1 y2).trans ?_
  rw [← ref_out]
  refine congrArg _ ?_
  have hN : cfg0.N = 64 := N_0
  unfold bOf rowOf
  blk_ext [idx t]

end Cert.FtOutIdeal.Body

namespace Cert.Proof
open Idealize.ShloMosaic Idealize.SL.Sem

/-- The call's result is the reference's. -/
theorem ftOut_algebraic : Cert.algebraic_FtOutIdeal_FtOutRefIdeal := by
  pair_intro
  · run_from Cert.FtOutIdeal.Gen.run_main m g
  · run_from Cert.FtOutRefIdeal.Value.run m' g'
    rw [Cert.FtOutRefIdeal.Read.val_main_v31_eq]
    obtain ⟨h0, h1, h2, h3, h4, h5, h6⟩ := hagree c
    rw [h0, h1, h2, h3, h4, h5, h6]
    exact (Cert.FtOutIdeal.Body.final m c).symm

end Cert.Proof
-- ==== Proof.RgOutPay.lean ====
module

public import proofs.«01_k».proof.Proof.FfnPay
public import proofs.«01_k».proof.Proof.ScanSpec
public import proofs.«01_k».proof.Proof.Gen.RgOutIdeal.Value
public import proofs.«01_k».proof.Proof.Gen.RgOutRefIdeal.Read
public import Idealize.ShloMosaic.Lib.Pipeline.ValueKit
public import Idealize.ShloMosaic.Lib.Pointwise

@[expose] public section

set_option maxRecDepth 16384

/-! The recurrent mixer's product with its residual and layer normalisation: the reference, the stored values and the prepared arrays at an index. -/

noncomputable section

namespace Cert.RgOutIdeal.Body

open Cert.Ffn.Spec Cert.ScanSpec
open Cert.RgOutIdeal Cert.RgOutIdeal.Gen Idealize.ShloMosaic Idealize.ShloMosaic.TcCoe Idealize.SL.Sem
open Idealize.ShloMosaic.Pipeline (Dat)

/-- The row the normalisation is applied to: `α·x + gate·(out · w)`, `out` read at the lanes its blocks of 176 have among its padded lanes. -/
def mixRow (A : (⟨3, ![2, 8192, 3072]⟩ : Shape).Idx → EReal) (W : (⟨2, ![2816, 2048]⟩ : Shape).Idx → EReal)
    (X : (⟨3, ![2, 8192, 2048]⟩ : Shape).Idx → EReal) (M : (⟨3, ![8, 6, 2048]⟩ : Shape).Idx → EReal) (b : Fin 2) (n : Fin 8192) (d : Fin 2048) : EReal :=
  alpha * X (ix3 b n d) + M (ix3 (⟨b.val, by omega⟩ : Fin 8) (2 : Fin 6) d) * ∑ l : Fin 2816, A (ix3 b n (wide l)) * W (ix2 l d)

/-! ## The reference -/

section Ref
open Cert.RgOutRefIdeal.Read
variable (A : FVec Ideal S2x8192x3072 .bf16) (W : FVec Ideal S2816x2048 .f32) (X : FVec Ideal S2x8192x2048 .f32)
  (M : FVec Ideal S8x6x2048 .f32) (G B : FVec Ideal S2048 .f32)

theorem ref_lane (b : Fin 2) (n : Fin 8192) (l : Fin 2816) : val_main_v3 (F := Ideal) A (ix3 b n l) = A (ix3 b n (wide l)) := by
  pointwise [val_main_v3, val_main_v2, val_main_v1, val_main_v0]
  rfl

theorem ref_v (b : Fin 2) (n : Fin 8192) (d : Fin 2048) : val_main_v10 (F := Ideal) A W X M (ix3 b n d) = mixRow A W X M b n d := by
  pointwise [val_main_v10, val_main_v9, val_main_v8, val_main_v7, val_main_v6, val_main_v5, val_main_v4, val_main_cst, ref_lane, mixRow, alpha]

theorem ref_out (b : Fin 2) (n : Fin 8192) (d : Fin 2048) :
    val_main_v32 (F := Ideal) A W X M G B (ix3 b n d) = normed (mixRow A W X M b n) (G (ix1 d)) (B (ix1 d)) d := by
  pointwise [val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11,
    val_main_cst_0, val_main_cst_1, val_main_cst_2, val_main_cst_3, val_main_cst_4, ref_v, normed]
end Ref

/-! ## The call -/

/-- What one point stores, at an index. -/
theorem pay_at (f : FVec Ideal S1x256x3072 .bf16) (w : FVec Ideal S3072x2048 .bf16) (p : FVec Ideal S1x2048 .f32) (x : FVec Ideal S1x256x2048 .f32)
    (g : FVec Ideal S1x1x2048 .f32) (ga be : FVec Ideal S1x2048 .f32) (r : Fin 256) (d : Fin 2048) :
    k0_pay1 (F := Ideal) (k0_pay2 ga) (k0_pay3 be) (k0_pay4 f w p x g) (k0_pay5 f w p x g) k0_pay6 (ix3 0 r d)
      = normed (fun k => alpha * x (ix3 0 r k) + g (ix3 0 0 k) * ((∑ j : Fin 3072, f (ix3 0 r j) * w (ix2 j k)) + p (ix2 0 k)))
          (ga (ix2 0 d)) (be (ix2 0 d)) d := by
  pointwise [k0_pay1, k0_pay2, k0_pay3, k0_pay4, k0_pay5, k0_pay6, normed, alpha]

theorem sitofp_zero : (FloatOps.sitofp (F := Ideal) FTy.f32 (0#32 : BitVec 32) : EReal) = 0 := by
  show (((0#32 : BitVec 32).toInt : ℝ) : EReal) = 0
  simp

variable (m : (ℓ : Loc nD τ sig) → Buf (Elt Ideal) ℓ)

theorem idx : ∀ t : Fin cfg0.N, win0_0.index t = ![t.val / 32, t.val % 32, 0] ∧ win0_1.index t = ![0, 0]
    ∧ win0_2.index t = ![0, 0] ∧ win0_3.index t = ![t.val / 32, t.val % 32, 0] ∧ win0_4.index t = ![t.val / 32, 0, 0] ∧ win0_5.index t = ![0, 0]
    ∧ win0_6.index t = ![0, 0] ∧ win0_7.index t = ![t.val / 32, t.val % 32, 0] :=
  (by decide +kernel : ∀ t : Fin grid0.N, _)

/-- The argument arrays. -/
abbrev aA (c : Dev nD) : FVec Ideal S2x8192x3072 .bf16 := m ((c : Thread nD τ).loc main_arg0)
abbrev aW (c : Dev nD) : FVec Ideal S2816x2048 .f32 := m ((c : Thread nD τ).loc main_arg1)
abbrev aX (c : Dev nD) : FVec Ideal S2x8192x2048 .f32 := m ((c : Thread nD τ).loc main_arg2)
abbrev aM (c : Dev nD) : FVec Ideal S8x6x2048 .f32 := m ((c : Thread nD τ).loc main_arg3)
abbrev aG (c : Dev nD) : FVec Ideal S2048 .f32 := m ((c : Thread nD τ).loc main_arg4)
abbrev aB (c : Dev nD) : FVec Ideal S2048 .f32 := m ((c : Thread nD τ).loc main_arg5)

/-- The weight's rows inside a block of 176, as the host lays them out. -/
theorem wpad_row (c : Dev nD) (k : Fin 3072) (d : Fin 2048) (h : k.val % 192 < 176) :
    (V m c main_v3 : FVec Ideal S3072x2048 .bf16) (ix2 k d) = aW m c (ix2 (narrow k h) d) := by
  unfold narrow
  simp only [V, hostOps0, hostOps0_1, hostOps0_2, List.flatten_cons, List.flatten_nil, List.cons_append, List.nil_append]
  entry_read
  simp only [StableHlo.TRef.toBuf, StableHlo.TRef.ofBuf, cast_cast, cast_eq]
  pointwise
  rw [dif_pos ⟨by omega, h⟩]

/-- The rows that pad a block are zero. -/
theorem wpad_zero (c : Dev nD) (k : Fin 3072) (d : Fin 2048) (h : ¬k.val % 192 < 176) :
    (V m c main_v3 : FVec Ideal S3072x2048 .bf16) (ix2 k d) = (0 : EReal) := by
  simp only [V, hostOps0, hostOps0_1, hostOps0_2, List.flatten_cons, List.flatten_nil, List.cons_append, List.nil_append]
  entry_read
  simp only [StableHlo.TRef.toBuf, StableHlo.TRef.ofBuf, cast_cast, cast_eq]
  pointwise
  rw [dif_neg fun hx => h hx.2]
  exact sitofp_zero

/-- The call's additive term is zero. -/
theorem zeros_at (c : Dev nD) (d : Fin 2048) : (V m c main_v4 : FVec Ideal S1x2048 .f32) (ix2 0 d) = (0 : EReal) := by
  simp only [V, hostOps0, hostOps0_1, hostOps0_2, List.flatten_cons, List.flatten_nil, List.cons_append, List.nil_append]
  entry_read
  pointwise

theorem gains_at (c : Dev nD) (d : Fin 2048) : (V m c main_v5 : FVec Ideal S1x2048 .f32) (ix2 0 d) = aG m c (ix1 d) := by
  simp only [V, hostOps0, hostOps0_1, hostOps0_2, List.flatten_cons, List.flatten_nil, List.cons_append, List.nil_append]
  entry_read
  pointwise

theorem shifts_at (c : Dev nD) (d : Fin 2048) : (V m c main_v6 : FVec Ideal S1x2048 .f32) (ix2 0 d) = aB m c (ix1 d) := by
  simp only [V, hostOps0, hostOps0_1, hostOps0_2, List.flatten_cons, List.flatten_nil, List.cons_append, List.nil_append]
  entry_read
  pointwise

end Cert.RgOutIdeal.Body
-- ==== Proof.RgOutClaim.lean ====
module

public import proofs.«01_k».proof.Defs
public import proofs.«01_k».proof.Proof.RgOutPay
public import proofs.«01_k».proof.Proof.Gen.RgOutRefIdeal.Run
public import Idealize.ShloMosaic.Lib.Pipeline.ValueKit
public import Idealize.ShloMosaic.Lib.Pointwise
public import Idealize.ShloMosaic.Lib.Claim

@[expose] public section

set_option maxRecDepth 16384

/-! The recurrent mixer's product with its residual and layer normalisation: the call's result is the reference's. -/

noncomputable section

namespace Cert.RgOutIdeal.Body

open Cert.Ffn.Spec Cert.ScanSpec
open Cert.RgOutIdeal Cert.RgOutIdeal.Gen Idealize.ShloMosaic Idealize.ShloMosaic.TcCoe Idealize.SL.Sem
open Idealize.ShloMosaic.Pipeline (Dat)

variable (m : (ℓ : Loc nD τ sig) → Buf (Elt Ideal) ℓ)

/-- The batch of point `n` and the row of the array its block's row `r` is. -/
def bOf (n : ℕ) (h : n < cfg0.N) : Fin 2 := ⟨n / 32, by have hN : cfg0.N = 64 := N_0; omega⟩
def rowOf (n : ℕ) (r : Fin 256) : Fin 8192 := ⟨n % 32 * 256 + r.val, by omega⟩

theorem f_at (c : Dev nD) (t : Fin cfg0.N) (r : Fin 256) (k : Fin 3072) :
    (iblk m c 0 t : FVec Ideal S1x256x3072 .bf16) (ix3 0 r k) = aA m c (ix3 (bOf t.val t.isLt) (rowOf t.val r) k) := by
  have hN : cfg0.N = 64 := N_0
  unfold bOf rowOf
  blk_ext [iblk, V, idx t]

theorem w_at (c : Dev nD) (t : Fin cfg0.N) (k : Fin 3072) (d : Fin 2048) (h : k.val % 192 < 176) :
    (iblk m c 1 t : FVec Ideal S3072x2048 .bf16) (ix2 k d) = aW m c (ix2 (narrow k h) d) := by
  refine Eq.trans (b := (V m c main_v3 : FVec Ideal S3072x2048 .bf16) (ix2 k d)) ?_ (wpad_row m c k d h)
  blk_ext [iblk, idx t]

theorem w_zero (c : Dev nD) (t : Fin cfg0.N) (k : Fin 3072) (d : Fin 2048) (h : ¬k.val % 192 < 176) :
    (iblk m c 1 t : FVec Ideal S3072x2048 .bf16) (ix2 k d) = (0 : EReal) := by
  refine Eq.trans (b := (V m c main_v3 : FVec Ideal S3072x2048 .bf16) (ix2 k d)) ?_ (wpad_zero m c k d h)
  blk_ext [iblk, idx t]

theorem bias_at (c : Dev nD) (t : Fin cfg0.N) (d : Fin 2048) : (iblk m c 2 t : FVec Ideal S1x2048 .f32) (ix2 0 d) = (0 : EReal) := by
  refine Eq.trans (b := (V m c main_v4 : FVec Ideal S1x2048 .f32) (ix2 0 d)) ?_ (zeros_at m c d)
  blk_ext [iblk, idx t]

theorem x_at (c : Dev nD) (t : Fin cfg0.N) (r : Fin 256) (k : Fin 2048) :
    (iblk m c 3 t : FVec Ideal S1x256x2048 .f32) (ix3 0 r k) = aX m c (ix3 (bOf t.val t.isLt) (rowOf t.val r) k) := by
  have hN : cfg0.N = 64 := N_0
  unfold bOf rowOf
  blk_ext [iblk, V, idx t]

theorem mods_at (c : Dev nD) (t : Fin cfg0.N) (q : Fin 6) (k : Fin 2048) :
    (iblk m c 4 t : FVec Ideal S1x6x2048 .f32) (ix3 0 q k) = aM m c (ix3 (⟨(bOf t.val t.isLt).val, by omega⟩ : Fin 8) q k) := by
  have hN : cfg0.N = 64 := N_0
  unfold bOf
  blk_ext [iblk, V, idx t]

theorem gain_at (c : Dev nD) (t : Fin cfg0.N) (d : Fin 2048) : (iblk m c 5 t : FVec Ideal S1x2048 .f32) (ix2 0 d) = aG m c (ix1 d) := by
  refine Eq.trans (b := (V m c main_v5 : FVec Ideal S1x2048 .f32) (ix2 0 d)) ?_ (gains_at m c d)
  blk_ext [iblk, idx t]

theorem shift_at (c : Dev nD) (t : Fin cfg0.N) (d : Fin 2048) : (iblk m c 6 t : FVec Ideal S1x2048 .f32) (ix2 0 d) = aB m c (ix1 d) := by
  refine Eq.trans (b := (V m c main_v6 : FVec Ideal S1x2048 .f32) (ix2 0 d)) ?_ (shifts_at m c d)
  blk_ext [iblk, idx t]

/-- A product over the padded lanes with a weight that is zero at the padding is the product over the blocks' own lanes. -/
theorem lanes_sum (A P : Fin 3072 → EReal) (W : Fin 2816 → EReal) (hp : ∀ k (h : k.val % 192 < 176), P k = W (narrow k h))
    (hz : ∀ k : Fin 3072, ¬k.val % 192 < 176 → P k = 0) : ∑ k : Fin 3072, A k * P k = ∑ l : Fin 2816, A (wide l) * W l := by
  refine (Fintype.sum_of_injective wide (fun y z e => ?_) _ _ (fun k hk => ?_) (fun l => ?_)).symm
  · have := congrArg Fin.val e
    simp only [wide] at this
    exact Fin.ext (by omega)
  · rw [hz k fun h => hk ⟨narrow k h, wide_narrow k h⟩, mul_zero]
  · have h : (wide l).val % 192 < 176 := by simp only [wide]; omega
    rw [hp _ h, show narrow (wide l) h = l from Fin.ext (by simp only [narrow, wide]; omega)]

/-- What a point stores, over blocks that hold the arguments' entries. -/
theorem step_at (A : FVec Ideal S2x8192x3072 .bf16) (W : FVec Ideal S2816x2048 .f32) (X : FVec Ideal S2x8192x2048 .f32) (M : FVec Ideal S8x6x2048 .f32)
    (G B : FVec Ideal S2048 .f32) (b : Fin 2) (n : Fin 8192) (f : FVec Ideal S1x256x3072 .bf16) (w : FVec Ideal S3072x2048 .bf16)
    (p : FVec Ideal S1x2048 .f32) (x : FVec Ideal S1x256x2048 .f32) (g : FVec Ideal S1x1x2048 .f32) (ga be : FVec Ideal S1x2048 .f32) (r : Fin 256) (d : Fin 2048)
    (hf : ∀ k, f (ix3 0 r k) = A (ix3 b n k)) (hw : ∀ k d (h : k.val % 192 < 176), w (ix2 k d) = W (ix2 (narrow k h) d))
    (hz : ∀ (k : Fin 3072) d, ¬k.val % 192 < 176 → w (ix2 k d) = (0 : EReal)) (hp : ∀ d, p (ix2 0 d) = (0 : EReal))
    (hx : ∀ k, x (ix3 0 r k) = X (ix3 b n k)) (hg : ∀ k, g (ix3 0 0 k) = M (ix3 (⟨b.val, by omega⟩ : Fin 8) (2 : Fin 6) k))
    (hga : ∀ d, ga (ix2 0 d) = G (ix1 d)) (hbe : ∀ d, be (ix2 0 d) = B (ix1 d)) :
    k0_pay1 (F := Ideal) (k0_pay2 ga) (k0_pay3 be) (k0_pay4 f w p x g) (k0_pay5 f w p x g) k0_pay6 (ix3 0 r d)
      = normed (mixRow A W X M b n) (G (ix1 d)) (B (ix1 d)) d := by
  rw [pay_at, hga, hbe]
  refine congrArg (fun v => normed v _ _ d) (funext fun k => ?_)
  rw [hx, hg, hp, add_zero, lanes_sum (fun j => f (ix3 0 r j)) (fun j => w (ix2 j k)) (fun l => W (ix2 l k)) (fun j h => hw j k h) (fun j h => hz j k h)]
  simp only [hf]
  rfl

/-- What a point leaves in the output block. -/
theorem out_at (c : Dev nD) (t : Fin cfg0.N) (r : Fin 256) (d : Fin 2048) :
    out0_7 (F := Ideal) (iblk m c 0 t) (iblk m c 1 t) (iblk m c 2 t) (iblk m c 3 t) (iblk m c 4 t) (iblk m c 5 t) (iblk m c 6 t) (ix3 0 r d)
      = normed (mixRow (aA m c) (aW m c) (aX m c) (aM m c) (bOf t.val t.isLt) (rowOf t.val r)) (aG m c (ix1 d)) (aB m c (ix1 d)) d := by
  unfold out0_7; frame_out
  refine step_at (aA m c) (aW m c) (aX m c) (aM m c) (aG m c) (aB m c) _ _ _ _ _ _ _ _ _ r d (fun k => f_at m c t r k) (fun k d h => w_at m c t k d h)
    (fun k d h => w_zero m c t k d h) (fun d => bias_at m c t d) (fun k => x_at m c t r k) (fun k => ?_) (fun d => gain_at m c t d) (fun d => shift_at m c t d)
  pointwise
  exact mods_at m c t 2 k

/-- The result array is the reference's composed term over the argument arrays. -/
theorem final (c : Dev nD) : (dats m 0 c).arrAt 7 (cfgs 0).N
    = Cert.RgOutRefIdeal.Read.val_main_v32 (F := Ideal) (aA m c) (aW m c) (aX m c) (aM m c) (aG m c) (aB m c) := by
  refine (dats m 0 c).arrAt_eq_of_covers 7 _ (by decide +kernel) fun t hf y => ?_
  blk_simp
  rw [after0_7]
  idx_vars y
  obtain rfl : y0 = 0 := Subsingleton.elim _ _
  refine (out_at m c t y1 y2).trans ?_
  rw [← ref_out]
  refine congrArg _ ?_
  have hN : cfg0.N = 64 := N_0
  unfold bOf rowOf
  blk_ext [idx t]

end Cert.RgOutIdeal.Body

namespace Cert.Proof
open Idealize.ShloMosaic Idealize.SL.Sem

/-- The call's result is the reference's. -/
theorem rgOut_algebraic : Cert.algebraic_RgOutIdeal_RgOutRefIdeal := by
  pair_intro
  · run_from Cert.RgOutIdeal.Gen.run_main m g
    · exact Cert.RgOutIdeal.Gen.V_main_arg1 m c
    · exact Cert.RgOutIdeal.Gen.V_main_arg4 m c
    · exact Cert.RgOutIdeal.Gen.V_main_arg5 m c
  · run_from Cert.RgOutRefIdeal.Value.run m' g'
    rw [Cert.RgOutRefIdeal.Read.val_main_v32_eq]
    obtain ⟨h0, h1, h2, h3, h4, h5⟩ := hagree c
    rw [h0, h1, h2, h3, h4, h5]
    exact (Cert.RgOutIdeal.Body.final m c).symm

end Cert.Proof
-- ==== Proof.RgInPay.lean ====
module

public import proofs.«01_k».proof.Proof.RgOutPay
public import proofs.«01_k».proof.Proof.Gen.RgInIdeal.Skeleton
public import proofs.«01_k».proof.Proof.Gen.RgInIdeal.Frame
public import proofs.«01_k».proof.Proof.Gen.RgInRefIdeal.Read
public import Idealize.ShloMosaic.Lib.Pipeline.ValueKit
public import Idealize.ShloMosaic.Lib.Pointwise

@[expose] public section

set_option maxRecDepth 16384

/-! The recurrent mixer's input products with the position table: the reference, the stored values and the prepared arrays at an index. -/

noncomputable section

namespace Cert.RgInIdeal.Body

open Cert.ScanSpec
open Cert.RgInIdeal Cert.RgInIdeal.Gen Idealize.ShloMosaic Idealize.ShloMosaic.TcCoe Idealize.SL.Sem
open Idealize.ShloMosaic.Pipeline (Dat)

/-! ## The mathematics -/

section Spec
open Cert.RgInRefIdeal.Read

/-- The position table: row `n` of the sequence is row `n / 64` and column `n % 64` of the image, whose tables fill the two halves of the lanes. -/
def pos (n : Fin 8192) (k : Fin 2048) : EReal :=
  if h : k.val < 1024 then val_main_v21 (F := Ideal) (ix2 (⟨n.val / 64, by omega⟩ : Fin 128) (⟨k.val, h⟩ : Fin 1024))
  else val_main_v24 (F := Ideal) (ix2 (⟨n.val % 64, by omega⟩ : Fin 64) (⟨k.val - 1024, by omega⟩ : Fin 1024))

variable (X : (⟨3, ![2, 8192, 2048]⟩ : Shape).Idx → EReal) (M : (⟨3, ![8, 6, 2048]⟩ : Shape).Idx → EReal)
  (W : (⟨2, ![2048, 2816]⟩ : Shape).Idx → EReal)

/-- The input with the position table added. -/
def placed (b : Fin 2) (n : Fin 8192) (k : Fin 2048) : EReal := X (ix3 b n k) + pos n k

/-- The modulated row: `x · (1 + scale) + shift`. -/
def modRow (b : Fin 2) (n : Fin 8192) (k : Fin 2048) : EReal :=
  placed X b n k * (1 + M (ix3 (⟨b.val, by omega⟩ : Fin 8) (1 : Fin 6) k)) + M (ix3 (⟨b.val, by omega⟩ : Fin 8) (0 : Fin 6) k)

/-- A product of the modulated row at column `l`. -/
def proj (b : Fin 2) (n : Fin 8192) (l : Fin 2816) : EReal := ∑ k : Fin 2048, modRow X M b n k * W (ix2 k l)

/-- The smooth gate, by its hyperbolic tangent form. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * (x * x))))))

/-- Lanes in blocks of 176, each block followed by 16 zeros. -/
def spread (f : Fin 2816 → EReal) (j : Fin 3072) : EReal := if h : j.val % 192 < 176 then f (narrow j h) else 0

end Spec

/-! ## The reference -/

section Ref
open Cert.RgInRefIdeal.Read
variable (X : FVec Ideal S2x8192x2048 .f32) (M : FVec Ideal S8x6x2048 .f32) (W : FVec Ideal S2048x2816 .f32)

theorem ref_pos (b : Fin 2) (n : Fin 8192) (k : Fin 2048) : val_main_v32 (F := Ideal) (ix3 b n k) = pos n k := by
  pointwise [val_main_v32, val_main_v31, val_main_v30, val_main_v29, val_main_v28, val_main_v27, val_main_v26, val_main_v25, pos]

theorem ref_x0 (b : Fin 2) (n : Fin 8192) (k : Fin 2048) : val_main_v33 (F := Ideal) X (ix3 b n k) = placed X b n k := by
  pointwise [val_main_v33, ref_pos, placed]

theorem ref_h (b : Fin 2) (n : Fin 8192) (k : Fin 2048) : val_main_v42 (F := Ideal) X M (ix3 b n k) = modRow X M b n k := by
  pointwise [val_main_v42, val_main_v41, val_main_v40, val_main_v39, val_main_v38, val_main_v37, val_main_v36, val_main_v35, val_main_v34, val_main_cst_2, ref_x0, modRow]

theorem ref_p (b : Fin 2) (n : Fin 8192) (l : Fin 2816) : val_main_v43 (F := Ideal) X M W (ix3 b n l) = proj X M W b n l := by
  pointwise [val_main_v43, ref_h, proj]

theorem ref_q (b : Fin 2) (n : Fin 8192) (l : Fin 2816) : val_main_v46 (F := Ideal) X M W (ix3 b n l) = proj X M W b n l := by
  pointwise [val_main_v46, ref_h, proj]

theorem ref_gelu (b : Fin 2) (n : Fin 8192) (l : Fin 2816) : val_main_v59 (F := Ideal) X M W (ix3 b n l) = gelu (proj X M W b n l) := by
  rw [gelu, mul_comm (proj X M W b n l) (proj X M W b n l * proj X M W b n l)]
  pointwise [val_main_v59, val_main_v58, val_main_v57, val_main_v56, val_main_v55, val_main_v54, val_main_v53, val_main_v52, val_main_v51, val_main_v50, val_main_v49,
    val_main_v48, val_main_v47, val_main_cst_4, val_main_cst_5, val_main_cst_6, val_main_cst_7, ref_q]

theorem ref_xw (b : Fin 2) (n : Fin 8192) (j : Fin 3072) : val_main_v62 (F := Ideal) X M W (ix3 b n j) = spread (proj X M W b n) j := by
  unfold spread narrow
  pointwise [val_main_v62, val_main_v45, val_main_v44, val_main_cst_3, ref_p]
  by_cases h : j.val % 192 < 176
  · rw [dif_pos h, dif_pos ⟨by omega, h⟩]
  · rw [dif_neg h, dif_neg fun hx => h hx.2]

theorem ref_gate (b : Fin 2) (n : Fin 8192) (j : Fin 3072) :
    val_main_v64 (F := Ideal) X M W (ix3 b n j) = spread (fun l => gelu (proj X M W b n l)) j := by
  unfold spread narrow
  pointwise [val_main_v64, val_main_v63, val_main_v61, val_main_v60, val_main_cst_8, ref_gelu]
  by_cases h : j.val % 192 < 176
  · rw [dif_pos h, dif_pos ⟨by omega, h⟩]
  · rw [dif_neg h, dif_neg fun hx => h hx.2]
end Ref

/-! ## The call -/

theorem pay1_at (x : FVec Ideal S1x512x2048 .f32) (s u : FVec Ideal S1x1x2048 .f32) (r : Fin 512) (k : Fin 2048) :
    k0_pay1 (F := Ideal) (k0_pay24 x s) (k0_pay25 u) (ix2 r k) = x (ix3 0 r k) * (1 + s (ix3 0 0 k)) + u (ix3 0 0 k) := by
  pointwise [k0_pay1, k0_pay24, k0_pay25]

theorem pay2_at (h : FVec Ideal S512x2048 .bf16) (w : FVec Ideal S2048x512 .bf16) (r : Fin 512) (j : Fin 512) :
    k0_pay2 (F := Ideal) h w (ix3 0 r j) = ∑ k : Fin 2048, h (ix2 r k) * w (ix2 k j) := by
  pointwise [k0_pay2]

theorem pay3_at (h : FVec Ideal S512x2048 .bf16) (w : FVec Ideal S2048x512 .bf16) (r : Fin 512) (j : Fin 512) :
    k0_pay3 (F := Ideal) h w (ix3 0 r j) = gelu (∑ k : Fin 2048, h (ix2 r k) * w (ix2 k j)) := by
  pointwise [k0_pay3, gelu]

/-- A left half stores its rows with one row of the first table added, -/
theorem left_at (x : FVec Ideal S1x64x1024 .f32) (e : FVec Ideal S1x1024 .f32) (r : Fin 64) (k : Fin 1024) :
    k0_pay4 (F := Ideal) x e (ix3 0 r k) = x (ix3 0 r k) + e (ix2 0 k) := by
  pointwise [k0_pay4]

/-- and a right half its rows with the second table added. -/
theorem right_at (x : FVec Ideal S1x64x1024 .f32) (e : FVec Ideal S64x1024 .f32) (r : Fin 64) (k : Fin 1024) :
    k0_pay5 (F := Ideal) x e (ix3 0 r k) = x (ix3 0 r k) + e (ix2 r k) := by
  pointwise [k0_pay5]

variable (m : (ℓ : Loc nD τ sig) → Buf (Elt Ideal) ℓ)

theorem idx : ∀ t : Fin cfg0.N, win0_0.index t = ![t.val / 96, t.val / 6 % 16, 0] ∧ win0_1.index t = ![t.val / 6 % 16, 0]
    ∧ win0_2.index t = ![0, 0] ∧ win0_3.index t = ![t.val / 96, 0, 0] ∧ win0_4.index t = ![0, t.val % 6] ∧ win0_5.index t = ![0, t.val % 6]
    ∧ win0_6.index t = ![t.val / 96, t.val / 6 % 16, 0] ∧ win0_7.index t = ![t.val / 96, t.val / 6 % 16, t.val % 6]
    ∧ win0_8.index t = ![t.val / 96, t.val / 6 % 16, t.val % 6] :=
  (by decide +kernel : ∀ t : Fin grid0.N, _)

/-- The argument arrays. -/
abbrev aX (c : Dev nD) : FVec Ideal S2x8192x2048 .f32 := m ((c : Thread nD τ).loc main_arg0)
abbrev aM (c : Dev nD) : FVec Ideal S8x6x2048 .f32 := m ((c : Thread nD τ).loc main_arg1)
abbrev aW (c : Dev nD) : FVec Ideal S2048x2816 .f32 := m ((c : Thread nD τ).loc main_arg2)
abbrev aG (c : Dev nD) : FVec Ideal S2048x2816 .f32 := m ((c : Thread nD τ).loc main_arg3)

/-- The two weights as the host lays them out, their columns in blocks of 176. -/
theorem w_row (c : Dev nD) (k : Fin 2048) (j : Fin 3072) (h : j.val % 192 < 176) :
    (V m c main_v3 : FVec Ideal S2048x3072 .bf16) (ix2 k j) = aW m c (ix2 k (narrow j h)) := by
  unfold narrow
  simp only [V, hostOps0, hostOps0_1, hostOps0_2, hostOps0_3, hostOps0_4, List.flatten_cons, List.flatten_nil, List.cons_append, List.nil_append]
  entry_read
  simp only [StableHlo.TRef.toBuf, StableHlo.TRef.ofBuf, cast_cast, cast_eq]
  pointwise
  rw [dif_pos ⟨by omega, h⟩]

theorem w_pad (c : Dev nD) (k : Fin 2048) (j : Fin 3072) (h : ¬j.val % 192 < 176) :
    (V m c main_v3 : FVec Ideal S2048x3072 .bf16) (ix2 k j) = (0 : EReal) := by
  simp only [V, hostOps0, hostOps0_1, hostOps0_2, hostOps0_3, hostOps0_4, List.flatten_cons, List.flatten_nil, List.cons_append, List.nil_append]
  entry_read
  simp only [StableHlo.TRef.toBuf, StableHlo.TRef.ofBuf, cast_cast, cast_eq]
  pointwise
  rw [dif_neg fun hx => h hx.2]
  exact Cert.RgOutIdeal.Body.sitofp_zero

theorem g_row (c : Dev nD) (k : Fin 2048) (j : Fin 3072) (h : j.val % 192 < 176) :
    (V m c main_v7 : FVec Ideal S2048x3072 .bf16) (ix2 k j) = aG m c (ix2 k (narrow j h)) := by
  unfold narrow
  simp only [V, hostOps0, hostOps0_1, hostOps0_2, hostOps0_3, hostOps0_4, List.flatten_cons, List.flatten_nil, List.cons_append, List.nil_append]
  entry_read
  simp only [StableHlo.TRef.toBuf, StableHlo.TRef.ofBuf, cast_cast, cast_eq]
  pointwise
  rw [dif_pos ⟨by omega, h⟩]

theorem g_pad (c : Dev nD) (k : Fin 2048) (j : Fin 3072) (h : ¬j.val % 192 < 176) :
    (V m c main_v7 : FVec Ideal S2048x3072 .bf16) (ix2 k j) = (0 : EReal) := by
  simp only [V, hostOps0, hostOps0_1, hostOps0_2, hostOps0_3, hostOps0_4, List.flatten_cons, List.flatten_nil, List.cons_append, List.nil_append]
  entry_read
  simp only [StableHlo.TRef.toBuf, StableHlo.TRef.ofBuf, cast_cast, cast_eq]
  pointwise
  rw [dif_neg fun hx => h hx.2]
  exact Cert.RgOutIdeal.Body.sitofp_zero

/-- The two tables the host prepares are the reference's. -/
theorem rows_eq (c : Dev nD) : (V m c main_v29 : FVec Ideal S128x1024 .f32) = Cert.RgInRefIdeal.Read.val_main_v21 (F := Ideal) := by
  simp only [V, hostOps0, hostOps0_1, hostOps0_2, hostOps0_3, hostOps0_4, List.flatten_cons, List.flatten_nil, List.cons_append, List.nil_append]
  entry_read
  rfl

theorem cols_eq (c : Dev nD) : (V m c main_v32 : FVec Ideal S64x1024 .f32) = Cert.RgInRefIdeal.Read.val_main_v24 (F := Ideal) := by
  simp only [V, hostOps0, hostOps0_1, hostOps0_2, hostOps0_3, hostOps0_4, List.flatten_cons, List.flatten_nil, List.cons_append, List.nil_append]
  entry_read
  rfl

end Cert.RgInIdeal.Body
-- ==== Proof.RgInRun.lean ====
module

public import proofs.«01_k».proof.Proof.Gen.RgInIdeal.Frame
public import proofs.«01_k».proof.Proof.Gen.RgInIdeal.Skeleton
public import Idealize.ShloMosaic.Lib.Pointwise
public import Idealize.ShloMosaic.Lib.VecWindow
@[expose] public section

set_option maxRecDepth 16384

noncomputable section

namespace Cert.RgInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.RgInIdeal.Gen

variable {F : FTy → Type} [FloatOps F]

local notation "𝕄" => MT nD τ sig Unit (Elt F) ℕ (UR sig nD τ) ℕ

/-- The body's branch: whether the point is the first lane tile of its row tile. -/
abbrev cond0_0 (i : grid0.Coords) : Prop := k0_cond1 i = 1#1

variable (arg3 : Memref sig .tc .vmem S1x512x2048 .f32) (harg3 : arg3.IsWhole)
  (arg4 : Memref sig .tc .vmem S8x1024 .f32) (harg4 : arg4.IsWhole)
  (arg5 : Memref sig .tc .vmem S64x1024 .f32) (harg5 : arg5.IsWhole)
  (arg6 : Memref sig .tc .vmem S1x6x2048 .f32) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S1x512x2048 .f32) (harg9 : arg9.IsWhole)
  (arg10 : Memref sig .tc .vmem S1x512x512 .f32) (harg10 : arg10.IsWhole)
  (arg11 : Memref sig .tc .vmem S1x512x512 .bf16) (harg11 : arg11.IsWhole)
  (arg12 : Memref sig .tc .vmem S512x2048 .bf16) (harg12 : arg12.IsWhole)

set_option maxHeartbeats 2000000 in
/-- The body at a first lane tile. From the six input blocks it writes pieces into the three output blocks and into the
    carried scratch, whatever these held, and leaves the inputs as they were. The pieces are the four lists. -/
noncomputable def runA (c : Dev nD) (i : grid0.Coords) (hc0 : cond0_0 i)
    (x0 : Vec F S1x512x2048 .f32) (x1 : Vec F S8x1024 .f32) (x2 : Vec F S64x1024 .f32) (x3 : Vec F S1x6x2048 .f32) (x4 : Vec F S2048x512 .bf16) (x5 : Vec F S2048x512 .bf16) :
    Σ' (L6 : List (View.Piece (Elt F) S1x512x2048 .f32)), Σ' (L7 : List (View.Piece (Elt F) S1x512x512 .f32)),
      Σ' (L8 : List (View.Piece (Elt F) S1x512x512 .bf16)), { LS : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS)) -∗ K ⟨⟩))
          ⊢ wp frame (wpE (defs₀ (F := F)) Variants.none c none) E (cc0_rg_in_latent i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_rg_in_latent_eq_skeleton]; unfold cc0_rg_in_latent_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    iexists _; iexact H9

set_option maxHeartbeats 2000000 in
/-- The body at a later lane tile. It reads the two weight tiles and the carried scratch, and leaves the two products'
    blocks; the first output's buffer, the positions and the inputs it does not touch. -/
theorem runB (c : Dev nD) (i : grid0.Coords) (hc0 : ¬cond0_0 i)
    (x4 : Vec F S2048x512 .bf16) (x5 : Vec F S2048x512 .bf16) (h : Vec F S512x2048 .bf16) (E : Set ℕ) (K : PUnit → sProp 𝕄) :
    iprop(owns (c : Thread nD τ) arg7 fullShare x4 ∗ owns (c : Thread nD τ) arg8 fullShare x5
        ∗ (∃ d, owns (c : Thread nD τ) arg10 fullShare d) ∗ (∃ d, owns (c : Thread nD τ) arg11 fullShare d) ∗ owns (c : Thread nD τ) arg12 fullShare h
        ∗ (iprop(owns (c : Thread nD τ) arg7 fullShare x4 ∗ owns (c : Thread nD τ) arg8 fullShare x5
            ∗ owns (c : Thread nD τ) arg10 fullShare (k0_pay2 h x4) ∗ owns (c : Thread nD τ) arg11 fullShare (k0_pay3 h x5)
            ∗ owns (c : Thread nD τ) arg12 fullShare h) -∗ K ⟨⟩))
      ⊢ wp frame (wpE (defs₀ (F := F)) Variants.none c none) E (cc0_rg_in_latent i arg3 harg3 arg4 harg4 arg5 harg5 arg6 harg6 arg7 harg7 arg8 harg8 arg9 harg9 arg10 harg10 arg11 harg11 arg12 harg12) K := by
  simp only [cc0_rg_in_latent_eq_skeleton]; unfold cc0_rg_in_latent_skel
  unfold owns
  iintro ⟨⟨%f4, %hf4, H4⟩, ⟨%f5, %hf5, H5⟩, ⟨%d7, %f7, -, H7⟩, ⟨%d8, %f8, -, H8⟩, ⟨%f9, %hf9, H9⟩, Hk⟩
  obtain rfl := harg7.eq_unread hf4; obtain rfl := harg8.eq_unread hf5; obtain rfl := harg12.eq_unread hf9
  sl_exec (disch := first | sl_exact hc0)
  sl_step
  iapply Hk
  isplitl [H4]
  · iexists _; isplitr; · ipureintro; exact harg7.read_unread _
    iexact H4
  isplitl [H5]
  · iexists _; isplitr; · ipureintro; exact harg8.read_unread _
    iexact H5
  isplitl [H7]
  · iexists _; isplitr; swap; · iexact H7
    ipureintro
    exact (View.read_writes_full _ _ _ _ _).trans (congrArg₂ k0_pay2 ((View.readAt_full _ _ _).trans (harg12.read_unread _)) ((View.readAt_full _ _ _).trans (harg7.read_unread _)))
  isplitl [H8]
  · iexists _; isplitr; swap; · iexact H8
    ipureintro
    exact (View.read_writes_full _ _ _ _ _).trans (congrArg₂ k0_pay3 ((View.readAt_full _ _ _).trans (harg12.read_unread _)) ((View.readAt_full _ _ _).trans (harg8.read_unread _)))
  iexists _; isplitr; · ipureintro; exact harg12.read_unread _
  iexact H9

end Cert.RgInIdeal.Body

end

end
-- ==== Proof.RgInFrame.lean ====
module

public import proofs.«01_k».proof.Proof.RgInRun
public import Idealize.ShloMosaic.Lib.Pipeline.TableIdle
public import Idealize.ShloMosaic.Lib.Claim
@[expose] public section

set_option maxRecDepth 16384

noncomputable section

namespace Cert.RgInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.RgInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the points divisible by 6. -/
theorem hcond0_0 : ∀ t : Fin cfg0.N, cond0_0 (grid0.coords t) ↔ t.val % 6 = 0 :=
  (fun t => by
    have ht : t.val < 192 := Nat.lt_of_lt_of_eq t.isLt N_0
    have e0 : (grid0.coords t 0).val = t.val / 96 % 2 := Pipeline.Grid.coords_val t 0 (by decide) rfl
    have e1 : (grid0.coords t 1).val = t.val / 6 % 16 := Pipeline.Grid.coords_val t 1 (by decide) rfl
    have e2 : (grid0.coords t 2).val = t.val / 1 % 6 := Pipeline.Grid.coords_val t 2 (by decide) rfl
    simp only [cond0_0, k0_cond1, e0, e1, e2]
    word_cmp
   : ∀ t : Fin grid0.N, cond0_0 (grid0.coords t) ↔ t.val % 6 = 0)

/-- The first output is idle exactly where the branch is not taken. -/
theorem idle_iff (t : Fin cfg0.N) : cfg0.idle 6 (cfg0.grid.coords t) = true ↔ t.val % 6 ≠ 0 := by
  have h := hcond0_0 t
  show (!(k0_cond1 (grid0.coords t) == 1#1)) = true ↔ _
  rw [ne_eq, ← h]; simp [cond0_0]

/-- One step of the rule that says where the first output's buffer holds nothing stored. -/
theorem fresh_step : ∀ t : Fin cfg0.N,
    ((t.val + 1) % 6 == 0) = ((cfg0.win 6).flush t || (cfg0.idle 6 (cfg0.grid.coords t) && (t.val % 6 == 0))) := by decide +kernel

/-- The first output's buffer holds nothing stored exactly before the first lane tile of a row tile. -/
theorem fresh_eq (t : Fin cfg0.N) : cfg0.fresh 6 t.val = (t.val % 6 == 0) :=
  Pipeline.Cfg.fresh_tab cfg0 6 (fun n => n % 6 == 0) rfl fresh_step t.val (Nat.le_of_lt t.isLt)

abbrev scM0_0 : Memref sig .tc .vmem S512x2048 .bf16 := Memref.whole cc0_scratch0

/-- The run of the body at a first lane tile, on the point's own buffers and blocks. -/
def runAt (c : Dev nD) (t : Fin cfg0.N) (h0 : t.val % 6 = 0) :=
  runA ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) scM0_0 (Memref.isWhole_whole _) c (grid0.coords t) ((hcond0_0 t).mpr h0) (iblk m c 0 t) (iblk m c 1 t) (iblk m c 2 t) (iblk m c 3 t) (iblk m c 4 t) (iblk m c 5 t)

/-- The first lane tile of a point's row tile. -/
def first (t : Fin cfg0.N) : Fin cfg0.N := ⟨t.val / 6 * 6, by have := t.isLt; omega⟩

theorem first_mod (t : Fin cfg0.N) : (first t).val % 6 = 0 := Nat.mul_mod_left _ _

theorem first_eq (t : Fin cfg0.N) (h0 : t.val % 6 = 0) : first t = t := Fin.ext (by unfold first; simp only; omega)

/-- The first output's block after a point: what the row tile's first point stored. -/
def x0At (c : Dev nD) (t : Fin cfg0.N) : Vec F S1x512x2048 .f32 := View.canon (runAt m c (first t) (first_mod t)).1

/-- The carried scratch after a point: what the row tile's first point stored. -/
def hAt (c : Dev nD) (t : Fin cfg0.N) : Vec F S512x2048 .bf16 := View.canon (runAt m c (first t) (first_mod t)).2.2.2.1

/-- The second output's block after a point. -/
def xwAt (c : Dev nD) (t : Fin cfg0.N) : Vec F S1x512x512 .f32 :=
  if h0 : t.val % 6 = 0 then View.canon (runAt m c t h0).2.1 else k0_pay2 (hAt m c t) (iblk m c 4 t)

/-- The third output's block after a point. -/
def gateAt (c : Dev nD) (t : Fin cfg0.N) : Vec F S1x512x512 .bf16 :=
  if h0 : t.val % 6 = 0 then View.canon (runAt m c t h0).2.2.1 else k0_pay3 (hAt m c t) (iblk m c 5 t)

/-- What depends on a first lane tile depends on it alone. -/
theorem at_first {α : Type} (f : ∀ t : Fin cfg0.N, t.val % 6 = 0 → α) {s t : Fin cfg0.N} (e : s = t) (hs : s.val % 6 = 0) (ht : t.val % 6 = 0) :
    f s hs = f t ht := by
  subst e; rfl

theorem first_congr (s t : Fin cfg0.N) (h : s.val / 6 = t.val / 6) : first s = first t := Fin.ext (by unfold first; simp only [h])

theorem hAt_congr (c : Dev nD) (s t : Fin cfg0.N) (h : s.val / 6 = t.val / 6) : hAt m c s = hAt m c t := by
  exact at_first (fun t h => View.canon (runAt m c t h).2.2.2.1) (first_congr s t h) _ _

theorem x0At_congr (c : Dev nD) (s t : Fin cfg0.N) (h : s.val / 6 = t.val / 6) : x0At m c s = x0At m c t := by
  exact at_first (fun t h => View.canon (runAt m c t h).1) (first_congr s t h) _ _

theorem hAt_A (c : Dev nD) (t : Fin cfg0.N) (h0 : t.val % 6 = 0) : hAt m c t = View.canon (runAt m c t h0).2.2.2.1 := by
  exact at_first (fun t h => View.canon (runAt m c t h).2.2.2.1) (first_eq t h0) _ _

theorem x0At_A (c : Dev nD) (t : Fin cfg0.N) (h0 : t.val % 6 = 0) : x0At m c t = View.canon (runAt m c t h0).1 := by
  exact at_first (fun t h => View.canon (runAt m c t h).1) (first_eq t h0) _ _

/-- The stores of a first lane tile fill the first output's block, -/
theorem cover6 (c : Dev nD) (t : Fin cfg0.N) (h0 : t.val % 6 = 0) (y : S1x512x2048.Idx) : ∃ p ∈ (runAt m c t h0).1, y ∈ p.1.set :=
  View.cover_of_tiledL (runAt m c t h0).1 S1x64x1024.size (by sl_kernel_rfl) y
/-- the second's, -/
theorem cover7 (c : Dev nD) (t : Fin cfg0.N) (h0 : t.val % 6 = 0) (y : S1x512x512.Idx) : ∃ p ∈ (runAt m c t h0).2.1, y ∈ p.1.set :=
  View.cover_of_tiledL (runAt m c t h0).2.1 S1x512x512.size (by sl_kernel_rfl) y
/-- the third's, -/
theorem cover8 (c : Dev nD) (t : Fin cfg0.N) (h0 : t.val % 6 = 0) (y : S1x512x512.Idx) : ∃ p ∈ (runAt m c t h0).2.2.1, y ∈ p.1.set :=
  View.cover_of_tiledL (runAt m c t h0).2.2.1 S1x512x512.size (by sl_kernel_rfl) y
/-- and the scratch. -/
theorem cover9 (c : Dev nD) (t : Fin cfg0.N) (h0 : t.val % 6 = 0) (y : S512x2048.Idx) : ∃ p ∈ (runAt m c t h0).2.2.2.1, y ∈ p.1.set :=
  View.cover_of_tiledL (runAt m c t h0).2.2.2.1 S512x2048.size (by sl_kernel_rfl) y

/-- The launch's invariant, the scratch buffer spelt out. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The invariant before point `n`: unless a row tile starts there, the scratch holds what its first point stored. -/
def PhiS (c : Dev nD) (n : ℕ) : sProp 𝕄 :=
  iprop((∃ d, owns (c : Thread nD τ) scM0_0 fullShare d ∗ ⌜∀ h : n < cfg0.N, n % 6 ≠ 0 → d = hAt m c ⟨n, h⟩⌝) ∗ (∃ r, prngReg c r))

/-- The proof data: each input window's buffer keeps its block, and each output window's holds what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => x0At m c t
    | ⟨7, _⟩ => xwAt m c t
    | ⟨8, _⟩ => gateAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- What the body leaves in the first output's window, -/
theorem after0_6 (c : Dev nD) (t : Fin cfg0.N) : (dats m 0 c).after 6 t = x0At m c t := by dsimp only [dats]
/-- in the second's, -/
theorem after0_7 (c : Dev nD) (t : Fin cfg0.N) : (dats m 0 c).after 7 t = xwAt m c t := by dsimp only [dats]
/-- and in the third's. -/
theorem after0_8 (c : Dev nD) (t : Fin cfg0.N) : (dats m 0 c).after 8 t = gateAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later lane tile the first output's buffer holds the row tile's block already. -/
theorem before0_6 (c : Dev nD) (t : Fin cfg0.N) (h0 : t.val % 6 ≠ 0) (d) : (dats m 0 c).before 6 t d = x0At m c t := by
  rw [Dat.before_out_traj _ 6 rfl (fun _ _ => rfl) (fun s hs hi _ => by
      rw [after0_6, after0_6]
      have h := (idle_iff s).mp hi
      exact x0At_congr m c _ _ (by simp only; omega)) t.val t rfl d, fresh_eq,
    if_neg (by simpa using h0), after0_6]
  exact x0At_congr m c _ _ (by simp only; omega)

/-- At a first lane tile the first output's buffer is left with the row tile's block; -/
theorem leaves_A (c : Dev nD) (t : Fin cfg0.N) (h0 : t.val % 6 = 0) :
    (dats m 0 c).leavesExact 6 t = owns (c : Thread nD τ) (st0_6 t) fullShare (x0At m c t) := by
  have hi : cfg0.idle 6 (cfg0.grid.coords t) = false := by
    rw [← Bool.not_eq_true]; exact fun h => (idle_iff t).mp h h0
  unfold Dat.leavesExact; rw [hi, after0_6]

/-- and a buffer that holds it serves at a later one too. -/
theorem leaves_B (c : Dev nD) (t : Fin cfg0.N) (h0 : t.val % 6 ≠ 0) :
    owns (c : Thread nD τ) (st0_6 t) fullShare (x0At m c t) ⊢ (dats m 0 c).leavesExact 6 t := by
  unfold Dat.leavesExact; rw [(idle_iff t).mpr h0]
  cases hf : (cfg0.win 6).flush t
  · simp only [before0_6 m c t h0]
    iintro H; iexists (x0At m c t); iexact H
  · simp only [after0_6]
    iintro H; iexact H

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ owns (c : Thread nD τ) (st0_7 t) fullShare ((dats m 0 c).after 7 t)
    ∗ owns (c : Thread nD τ) (st0_8 t) fullShare ((dats m 0 c).after 8 t))

set_option maxHeartbeats 4000000 in
/-- The body at any point keeps the invariant and leaves the named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_7, after0_8]
  rw [show (dats m 0 c).Φ t.succ = PhiS m c (t.val + 1) from rfl, show (dats m 0 c).Φ t.castSucc = PhiS m c t.val from rfl]
  unfold PhiS
  by_cases h0 : t.val % 6 = 0
  · rw [leaves_A m c t h0, x0At_A m c t h0, show xwAt m c t = View.canon (runAt m c t h0).2.1 from dif_pos h0,
      show gateAt m c t = View.canon (runAt m c t h0).2.2.1 from dif_pos h0]
    iintro ⟨⟨⟨%ds, HS, -⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexists _; iexact HS
    iintro ⟨H0, H1, H2, H3, H4, H5, ⟨%e6, H6⟩, ⟨%e7, H7⟩, ⟨%e8, H8⟩, ⟨%es, HS⟩⟩
    isplitl [HS Hg]
    · isplitl [HS]
      · iexists (View.canon (runAt m c t h0).2.2.2.1)
        isplitl [HS]
        · unfold owns; iexists _; isplitr
          swap; · iexact HS
          ipureintro; exact View.read_writes_eq_canon _ _ _ (cover9 m c t h0)
        ipureintro; intro h _
        rw [← hAt_A m c t h0]; exact hAt_congr m c _ _ (by simp only; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover6 m c t h0)
    isplitl [H7]
    · unfold owns; iexists _; isplitr
      swap; · iexact H7
      ipureintro; exact View.read_writes_eq_canon _ _ _ (cover7 m c t h0)
    unfold owns; iexists _; isplitr
    swap; · iexact H8
    ipureintro; exact View.read_writes_eq_canon _ _ _ (cover8 m c t h0)
  · rw [show xwAt m c t = k0_pay2 (hAt m c t) (iblk m c 4 t) from dif_neg h0,
      show gateAt m c t = k0_pay3 (hAt m c t) (iblk m c 5 t) from dif_neg h0]
    simp only [before0_6 m c t h0]
    iintro ⟨⟨⟨%ds, HS, %hd⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hd t.isLt h0
    iapply (runB _ _ _ _ _ _ _ _ _ _ _ _ _ _ _ _ _ _ _ _ c (grid0.coords t) (fun h => h0 ((hcond0_0 t).mp h)) (iblk m c 4 t) (iblk m c 5 t) (hAt m c t) Set.univ _)
    isplitl [H4]; · iexact H4
    isplitl [H5]; · iexact H5
    isplitl [H7]; · iexists _; iexact H7
    isplitl [H8]; · iexists _; iexact H8
    isplitl [HS]; · iexact HS
    iintro ⟨H4, H5, H7, H8, HS⟩
    isplitl [HS Hg]
    · isplitl [HS]
      · iexists _
        isplitl [HS]; · iexact HS
        ipureintro; intro h h6
        exact hAt_congr m c _ _ (by simp only; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_B m c t h0); iexact H6
    isplitl [H7]; · iexact H7
    iexact H8

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists _
    isplitl [HS]; · iexact HS
    ipureintro; intro _ h; exact absurd rfl h
  iexact Hg

/-- The invariant after the last point gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d, HS, -⟩, Hg⟩
  isplitl [HS]
  · iexists _; iexact HS
  iexact Hg

set_option backward.isDefEq.respectTransparency.types false in
/-- The program runs to the end with every array at its final contents and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run's final contents. -/
theorem run_main : θ_run defs (onTc (τ := τ) (main (F := F))) (s₀ m ρ) (Pipeline.FramePost cfgs (dats m) 0 (V m)) :=
  (θ_run defs _ _).mono (fun _ h => h.1) (run_main_quiescent m ρ)

/-- The program terminates, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.RgInIdeal.Body

end

end
-- ==== Proof.RgInClaim.lean ====
module

public import proofs.«01_k».proof.Proof.RgInPay
public import proofs.«01_k».proof.Proof.RgInFrame
public import proofs.«01_k».proof.Defs
public import proofs.«01_k».proof.Proof.Gen.RgInRefIdeal.Run
public import Idealize.ShloMosaic.Lib.VecWindow
public import Idealize.ShloMosaic.Lib.Claim

@[expose] public section

set_option maxRecDepth 16384

/-! The recurrent mixer's input products: the call's three results are the reference's. -/

noncomputable section

namespace Cert.RgInIdeal.Body

open Cert.ScanSpec
open Cert.RgInIdeal Cert.RgInIdeal.Gen Idealize.ShloMosaic Idealize.ShloMosaic.TcCoe Idealize.SL.Sem
open Idealize.ShloMosaic.Pipeline (Dat)

variable (m : (ℓ : Loc nD τ sig) → Buf (Elt Ideal) ℓ)

/-- The batch of point `n`, the row of the array its block's row `r` is, and the column its block's lane `j` is. -/
def bOf (n : ℕ) (h : n < cfg0.N) : Fin 2 := ⟨n / 96, by have hN : cfg0.N = 192 := N_0; omega⟩
def rowOf (n : ℕ) (r : Fin 512) : Fin 8192 := ⟨n / 6 % 16 * 512 + r.val, by omega⟩
def colOf (n : ℕ) (j : Fin 512) : Fin 3072 := ⟨n % 6 * 512 + j.val, by omega⟩

theorem x_at (c : Dev nD) (t : Fin cfg0.N) (r : Fin 512) (k : Fin 2048) :
    (iblk m c 0 t : FVec Ideal S1x512x2048 .f32) (ix3 0 r k) = aX m c (ix3 (bOf t.val t.isLt) (rowOf t.val r) k) := by
  have hN : cfg0.N = 192 := N_0
  unfold bOf rowOf
  blk_ext [iblk, V, idx t]

theorem rows_at (c : Dev nD) (t : Fin cfg0.N) (q : Fin 8) (k : Fin 1024) :
    (iblk m c 1 t : FVec Ideal S8x1024 .f32) (ix2 q k)
      = Cert.RgInRefIdeal.Read.val_main_v21 (F := Ideal) (ix2 (⟨t.val / 6 % 16 * 8 + q.val, by omega⟩ : Fin 128) k) := by
  refine Eq.trans (b := (V m c main_v29 : FVec Ideal S128x1024 .f32) (ix2 (⟨t.val / 6 % 16 * 8 + q.val, by omega⟩ : Fin 128) k)) ?_ (congrFun (rows_eq m c) _)
  blk_ext [iblk, idx t]

theorem cols_at (c : Dev nD) (t : Fin cfg0.N) (q : Fin 64) (k : Fin 1024) :
    (iblk m c 2 t : FVec Ideal S64x1024 .f32) (ix2 q k) = Cert.RgInRefIdeal.Read.val_main_v24 (F := Ideal) (ix2 q k) := by
  refine Eq.trans (b := (V m c main_v32 : FVec Ideal S64x1024 .f32) (ix2 q k)) ?_ (congrFun (cols_eq m c) _)
  blk_ext [iblk, idx t]

theorem mods_at (c : Dev nD) (t : Fin cfg0.N) (q : Fin 6) (k : Fin 2048) :
    (iblk m c 3 t : FVec Ideal S1x6x2048 .f32) (ix3 0 q k) = aM m c (ix3 (⟨(bOf t.val t.isLt).val, by omega⟩ : Fin 8) q k) := by
  have hN : cfg0.N = 192 := N_0
  unfold bOf
  blk_ext [iblk, V, idx t]

theorem wx_at (c : Dev nD) (t : Fin cfg0.N) (k : Fin 2048) (j : Fin 512) (h : (colOf t.val j).val % 192 < 176) :
    (iblk m c 4 t : FVec Ideal S2048x512 .bf16) (ix2 k j) = aW m c (ix2 k (narrow (colOf t.val j) h)) := by
  refine Eq.trans (b := (V m c main_v3 : FVec Ideal S2048x3072 .bf16) (ix2 k (colOf t.val j))) ?_ (w_row m c k _ h)
  unfold colOf
  blk_ext [iblk, idx t]

theorem wx_zero (c : Dev nD) (t : Fin cfg0.N) (k : Fin 2048) (j : Fin 512) (h : ¬(colOf t.val j).val % 192 < 176) :
    (iblk m c 4 t : FVec Ideal S2048x512 .bf16) (ix2 k j) = (0 : EReal) := by
  refine Eq.trans (b := (V m c main_v3 : FVec Ideal S2048x3072 .bf16) (ix2 k (colOf t.val j))) ?_ (w_pad m c k _ h)
  unfold colOf
  blk_ext [iblk, idx t]

theorem wg_at (c : Dev nD) (t : Fin cfg0.N) (k : Fin 2048) (j : Fin 512) (h : (colOf t.val j).val % 192 < 176) :
    (iblk m c 5 t : FVec Ideal S2048x512 .bf16) (ix2 k j) = aG m c (ix2 k (narrow (colOf t.val j) h)) := by
  refine Eq.trans (b := (V m c main_v7 : FVec Ideal S2048x3072 .bf16) (ix2 k (colOf t.val j))) ?_ (g_row m c k _ h)
  unfold colOf
  blk_ext [iblk, idx t]

theorem wg_zero (c : Dev nD) (t : Fin cfg0.N) (k : Fin 2048) (j : Fin 512) (h : ¬(colOf t.val j).val % 192 < 176) :
    (iblk m c 5 t : FVec Ideal S2048x512 .bf16) (ix2 k j) = (0 : EReal) := by
  refine Eq.trans (b := (V m c main_v7 : FVec Ideal S2048x3072 .bf16) (ix2 k (colOf t.val j))) ?_ (g_pad m c k _ h)
  unfold colOf
  blk_ext [iblk, idx t]

/-- What a point's first output block holds at an index. -/
abbrev placedAt (c : Dev nD) (t : Fin cfg0.N) (r : Fin 512) (k : Fin 2048) : EReal := placed (aX m c) (bOf t.val t.isLt) (rowOf t.val r) k

/-- One store into a left half: rows `o, …, o + 63` for `o = 64 g`, with row `g` of the first table's block. -/
theorem left_piece (A : FVec Ideal S2x8192x2048 .f32) (b : Fin 2) (i : ℕ) (hi : i < 16) (G : Fin 512 → Fin 2048 → EReal)
    (hG : ∀ (r : Fin 512) k, G r k = placed A b (⟨i * 512 + r.val, by omega⟩ : Fin 8192) k) (X : FVec Ideal S1x512x2048 .f32) (E : FVec Ideal S8x1024 .f32)
    (hX : ∀ (r : Fin 512) k, X (ix3 0 r k) = A (ix3 b (⟨i * 512 + r.val, by omega⟩ : Fin 8192) k))
    (hE : ∀ (q : Fin 8) k, E (ix2 q k) = Cert.RgInRefIdeal.Read.val_main_v21 (F := Ideal) (ix2 (⟨i * 8 + q.val, by omega⟩ : Fin 128) k))
    (o g : ℕ) (hg : g < 8) (ho : o = 64 * g) (hx : ∀ a, (![0, o, 0] : Fin 3 → ℕ) a + S1x64x1024.size a ≤ S1x512x2048.size a)
    (he : ∀ a, (![g, 0] : Fin 2 → ℕ) a + S1x1024.size a ≤ S8x1024.size a) (y : S1x64x1024.Idx) :
    k0_pay4 (F := Ideal) (View.ld (Val := Elt Ideal) (e' := .f32) (S := S1x512x2048) X (Rect.unit (s := S1x512x2048) ![0, o, 0] S1x64x1024.size hx)) (View.ld (Val := Elt Ideal) (e' := .f32) (S := S8x1024) E (Rect.unit (s := S8x1024) ![g, 0] S1x1024.size he)) y
      = G ((Rect.unit (s := S1x512x2048) ![0, o, 0] S1x64x1024.size hx).emb y 1)
          ((Rect.unit (s := S1x512x2048) ![0, o, 0] S1x64x1024.size hx).emb y 2) := by
  subst ho
  idx_vars y
  obtain rfl : y0 = 0 := Subsingleton.elim _ _
  have e1 : ((Rect.unit (s := S1x512x2048) ![0, 64 * g, 0] S1x64x1024.size hx).emb (ix3 0 y1 y2) 1 : Fin 512) = (⟨64 * g + y1.val, by omega⟩ : Fin 512) :=
    Fin.ext (Rect.idx_unit_val (s := S1x512x2048) ![0, 64 * g, 0] S1x64x1024.size hx (show S1x64x1024.Idx from ix3 0 y1 y2) 1)
  have e2 : ((Rect.unit (s := S1x512x2048) ![0, 64 * g, 0] S1x64x1024.size hx).emb (ix3 0 y1 y2) 2 : Fin 2048) = (⟨y2.val, by omega⟩ : Fin 2048) :=
    Fin.ext ((Rect.idx_unit_val (s := S1x512x2048) ![0, 64 * g, 0] S1x64x1024.size hx (show S1x64x1024.Idx from ix3 0 y1 y2) 2).trans (Nat.zero_add _))
  have a1 : View.ld (Val := Elt Ideal) (e' := .f32) (S := S1x512x2048) X (Rect.unit (s := S1x512x2048) ![0, 64 * g, 0] S1x64x1024.size hx) (show S1x64x1024.Idx from ix3 0 y1 y2)
      = X (ix3 0 (⟨64 * g + y1.val, by omega⟩ : Fin 512) (⟨y2.val, by omega⟩ : Fin 2048)) :=
    View.ld_unit_apply_of (Val := Elt Ideal) (e := .f32) (S := S1x512x2048) X ![0, 64 * g, 0] S1x64x1024.size hx (show S1x64x1024.Idx from ix3 0 y1 y2) _ (by intro a; fin_cases a <;> simp)
  have a2 : View.ld (Val := Elt Ideal) (e' := .f32) (S := S8x1024) E (Rect.unit (s := S8x1024) ![g, 0] S1x1024.size he) (show S1x1024.Idx from ix2 0 y2) = E (ix2 (⟨g, hg⟩ : Fin 8) y2) :=
    View.ld_unit_apply_of (Val := Elt Ideal) (e := .f32) (S := S8x1024) E ![g, 0] S1x1024.size he (show S1x1024.Idx from ix2 0 y2) _ (by intro a; fin_cases a <;> simp)
  refine (left_at _ _ y1 y2).trans ((congrArg₂ (fun p q : EReal => p + q) (a1.trans (hX _ _)) (a2.trans (hE _ _))).trans (Eq.trans ?_ (congrArg₂ G e1 e2).symm))
  rw [hG]
  unfold placed pos
  rw [dif_pos y2.isLt]
  refine congrArg _ (congrArg _ ?_)
  refine congrArg (fun q => ix2 q y2) (Fin.ext ?_)
  simp only
  omega

/-- One store into a right half: the same rows with the second table. -/
theorem right_piece (A : FVec Ideal S2x8192x2048 .f32) (b : Fin 2) (i : ℕ) (hi : i < 16) (G : Fin 512 → Fin 2048 → EReal)
    (hG : ∀ (r : Fin 512) k, G r k = placed A b (⟨i * 512 + r.val, by omega⟩ : Fin 8192) k) (X : FVec Ideal S1x512x2048 .f32) (E : FVec Ideal S64x1024 .f32)
    (hX : ∀ (r : Fin 512) k, X (ix3 0 r k) = A (ix3 b (⟨i * 512 + r.val, by omega⟩ : Fin 8192) k))
    (hE : ∀ (q : Fin 64) k, E (ix2 q k) = Cert.RgInRefIdeal.Read.val_main_v24 (F := Ideal) (ix2 q k))
    (o g : ℕ) (hg : g < 8) (ho : o = 64 * g) (hx : ∀ a, (![0, o, 1024] : Fin 3 → ℕ) a + S1x64x1024.size a ≤ S1x512x2048.size a)
    (he : ∀ a, (![0, 0] : Fin 2 → ℕ) a + S64x1024.size a ≤ S64x1024.size a) (y : S1x64x1024.Idx) :
    k0_pay5 (F := Ideal) (View.ld (Val := Elt Ideal) (e' := .f32) (S := S1x512x2048) X (Rect.unit (s := S1x512x2048) ![0, o, 1024] S1x64x1024.size hx)) (View.ld (Val := Elt Ideal) (e' := .f32) (S := S64x1024) E (Rect.unit (s := S64x1024) ![0, 0] S64x1024.size he)) y
      = G ((Rect.unit (s := S1x512x2048) ![0, o, 1024] S1x64x1024.size hx).emb y 1)
          ((Rect.unit (s := S1x512x2048) ![0, o, 1024] S1x64x1024.size hx).emb y 2) := by
  subst ho
  idx_vars y
  obtain rfl : y0 = 0 := Subsingleton.elim _ _
  have e1 : ((Rect.unit (s := S1x512x2048) ![0, 64 * g, 1024] S1x64x1024.size hx).emb (ix3 0 y1 y2) 1 : Fin 512) = (⟨64 * g + y1.val, by omega⟩ : Fin 512) :=
    Fin.ext (Rect.idx_unit_val (s := S1x512x2048) ![0, 64 * g, 1024] S1x64x1024.size hx (show S1x64x1024.Idx from ix3 0 y1 y2) 1)
  have e2 : ((Rect.unit (s := S1x512x2048) ![0, 64 * g, 1024] S1x64x1024.size hx).emb (ix3 0 y1 y2) 2 : Fin 2048) = (⟨1024 + y2.val, by omega⟩ : Fin 2048) :=
    Fin.ext (Rect.idx_unit_val (s := S1x512x2048) ![0, 64 * g, 1024] S1x64x1024.size hx (show S1x64x1024.Idx from ix3 0 y1 y2) 2)
  have a1 : View.ld (Val := Elt Ideal) (e' := .f32) (S := S1x512x2048) X (Rect.unit (s := S1x512x2048) ![0, 64 * g, 1024] S1x64x1024.size hx) (show S1x64x1024.Idx from ix3 0 y1 y2)
      = X (ix3 0 (⟨64 * g + y1.val, by omega⟩ : Fin 512) (⟨1024 + y2.val, by omega⟩ : Fin 2048)) :=
    View.ld_unit_apply_of (Val := Elt Ideal) (e := .f32) (S := S1x512x2048) X ![0, 64 * g, 1024] S1x64x1024.size hx (show S1x64x1024.Idx from ix3 0 y1 y2) _ (by intro a; fin_cases a <;> simp)
  have a2 : View.ld (Val := Elt Ideal) (e' := .f32) (S := S64x1024) E (Rect.unit (s := S64x1024) ![0, 0] S64x1024.size he) (show S64x1024.Idx from ix2 y1 y2) = E (ix2 y1 y2) :=
    View.ld_unit_apply_of (Val := Elt Ideal) (e := .f32) (S := S64x1024) E ![0, 0] S64x1024.size he (show S64x1024.Idx from ix2 y1 y2) _ (by intro a; fin_cases a <;> simp)
  refine (right_at _ _ y1 y2).trans ((congrArg₂ (fun p q : EReal => p + q) (a1.trans (hX _ _)) (a2.trans (hE _ _))).trans (Eq.trans ?_ (congrArg₂ G e1 e2).symm))
  rw [hG]
  unfold placed pos
  rw [dif_neg (by simp only; omega)]
  refine congrArg _ (congrArg _ ?_)
  refine congrArg₂ ix2 (Fin.ext ?_) (Fin.ext ?_)
  · simp only
    omega
  · simp only
    omega

/-- The stores of a first lane tile leave the input with the position table added. -/
theorem pieces_at (c : Dev nD) (t : Fin cfg0.N) (h0 : t.val % 6 = 0) (y : S1x512x2048.Idx) :
    View.canon (runAt m c t h0).1 y = placedAt m c t (y 1) (y 2) := by
  refine View.canon_apply_of_pieces (fun y : S1x512x2048.Idx => (placedAt m c t (y 1) (y 2) : Elt Ideal .f32)) _ ?_ y (cover6 m c t h0 y)
  unfold runAt runA
  frame_open
  simp only [View.readAt_eq_ld, Memref.IsWhole.read_unread, List.forall_mem_cons]
  have hi : t.val / 6 % 16 < 16 := by omega
  refine ⟨?_, ?_, ?_, ?_, ?_, ?_, ?_, ?_, ?_, ?_, ?_, ?_, ?_, ?_, ?_, ?_, fun _ h => (List.not_mem_nil h).elim⟩
  · exact right_piece (aX m c) (bOf t.val t.isLt) _ hi (placedAt m c t) (fun _ _ => rfl) _ _ (x_at m c t) (cols_at m c t) 448 7 (by omega) rfl _ _
  · exact left_piece (aX m c) (bOf t.val t.isLt) _ hi (placedAt m c t) (fun _ _ => rfl) _ _ (x_at m c t) (rows_at m c t) 448 7 (by omega) rfl _ _
  · exact right_piece (aX m c) (bOf t.val t.isLt) _ hi (placedAt m c t) (fun _ _ => rfl) _ _ (x_at m c t) (cols_at m c t) 384 6 (by omega) rfl _ _
  · exact left_piece (aX m c) (bOf t.val t.isLt) _ hi (placedAt m c t) (fun _ _ => rfl) _ _ (x_at m c t) (rows_at m c t) 384 6 (by omega) rfl _ _
  · exact right_piece (aX m c) (bOf t.val t.isLt) _ hi (placedAt m c t) (fun _ _ => rfl) _ _ (x_at m c t) (cols_at m c t) 320 5 (by omega) rfl _ _
  · exact left_piece (aX m c) (bOf t.val t.isLt) _ hi (placedAt m c t) (fun _ _ => rfl) _ _ (x_at m c t) (rows_at m c t) 320 5 (by omega) rfl _ _
  · exact right_piece (aX m c) (bOf t.val t.isLt) _ hi (placedAt m c t) (fun _ _ => rfl) _ _ (x_at m c t) (cols_at m c t) 256 4 (by omega) rfl _ _
  · exact left_piece (aX m c) (bOf t.val t.isLt) _ hi (placedAt m c t) (fun _ _ => rfl) _ _ (x_at m c t) (rows_at m c t) 256 4 (by omega) rfl _ _
  · exact right_piece (aX m c) (bOf t.val t.isLt) _ hi (placedAt m c t) (fun _ _ => rfl) _ _ (x_at m c t) (cols_at m c t) 192 3 (by omega) rfl _ _
  · exact left_piece (aX m c) (bOf t.val t.isLt) _ hi (placedAt m c t) (fun _ _ => rfl) _ _ (x_at m c t) (rows_at m c t) 192 3 (by omega) rfl _ _
  · exact right_piece (aX m c) (bOf t.val t.isLt) _ hi (placedAt m c t) (fun _ _ => rfl) _ _ (x_at m c t) (cols_at m c t) 128 2 (by omega) rfl _ _
  · exact left_piece (aX m c) (bOf t.val t.isLt) _ hi (placedAt m c t) (fun _ _ => rfl) _ _ (x_at m c t) (rows_at m c t) 128 2 (by omega) rfl _ _
  · exact right_piece (aX m c) (bOf t.val t.isLt) _ hi (placedAt m c t) (fun _ _ => rfl) _ _ (x_at m c t) (cols_at m c t) 64 1 (by omega) rfl _ _
  · exact left_piece (aX m c) (bOf t.val t.isLt) _ hi (placedAt m c t) (fun _ _ => rfl) _ _ (x_at m c t) (rows_at m c t) 64 1 (by omega) rfl _ _
  · exact right_piece (aX m c) (bOf t.val t.isLt) _ hi (placedAt m c t) (fun _ _ => rfl) _ _ (x_at m c t) (cols_at m c t) 0 0 (by omega) rfl _ _
  · exact left_piece (aX m c) (bOf t.val t.isLt) _ hi (placedAt m c t) (fun _ _ => rfl) _ _ (x_at m c t) (rows_at m c t) 0 0 (by omega) rfl _ _

/-- The one store into the scratch, -/
theorem scratch_piece (c : Dev nD) (t : Fin cfg0.N) (h0 : t.val % 6 = 0) : (runAt m c t h0).2.2.2.1
    = [⟨Rect.unit (s := S512x2048) ![0, 0] S512x2048.size inb_S512x2048_S512x2048_0_0,
        k0_pay1 (k0_pay24 (((cfg0.win 6).stage (cfg0.slots t 6)).view.readCov (runAt m c t h0).1
            (Rect.unit (s := S1x512x2048) ![0, 0, 0] S1x512x2048.size inb_S1x512x2048_S1x512x2048_0_0_0).toLoadRect)
          (((cfg0.win 3).stage (cfg0.slots t 3)).view.readAt (Elt Ideal) (Rect.unit (s := S1x6x2048) ![0, 1, 0] S1x1x2048.size inb_S1x6x2048_S1x1x2048_0_1_0).toLoadRect
            ((hstage0_3 ((cfg0.slots t 3).cast nbuf0_3)).unread (iblk m c 3 t))))
        (k0_pay25 (((cfg0.win 3).stage (cfg0.slots t 3)).view.readAt (Elt Ideal) (Rect.unit (s := S1x6x2048) ![0, 0, 0] S1x1x2048.size inb_S1x6x2048_S1x1x2048_0_0_0).toLoadRect
            ((hstage0_3 ((cfg0.slots t 3).cast nbuf0_3)).unread (iblk m c 3 t))))⟩] := rfl

/-- into the second output, -/
theorem xw_piece (c : Dev nD) (t : Fin cfg0.N) (h0 : t.val % 6 = 0) : (runAt m c t h0).2.1
    = [⟨Rect.unit (s := S1x512x512) ![0, 0, 0] S1x512x512.size inb_S1x512x512_S1x512x512_0_0_0,
        k0_pay2 ((Memref.whole cc0_scratch0).view.readCov (runAt m c t h0).2.2.2.1
            (Rect.unit (s := S512x2048) ![0, 0] S512x2048.size inb_S512x2048_S512x2048_0_0).toLoadRect)
          (((cfg0.win 4).stage (cfg0.slots t 4)).view.readAt (Elt Ideal) (Rect.unit (s := S2048x512) ![0, 0] S2048x512.size inb_S2048x512_S2048x512_0_0).toLoadRect
            ((hstage0_4 ((cfg0.slots t 4).cast nbuf0_4)).unread (iblk m c 4 t)))⟩] := rfl

/-- and into the third. -/
theorem gate_piece (c : Dev nD) (t : Fin cfg0.N) (h0 : t.val % 6 = 0) : (runAt m c t h0).2.2.1
    = [⟨Rect.unit (s := S1x512x512) ![0, 0, 0] S1x512x512.size inb_S1x512x512_S1x512x512_0_0_0,
        k0_pay3 ((Memref.whole cc0_scratch0).view.readCov (runAt m c t h0).2.2.2.1
            (Rect.unit (s := S512x2048) ![0, 0] S512x2048.size inb_S512x2048_S512x2048_0_0).toLoadRect)
          (((cfg0.win 5).stage (cfg0.slots t 5)).view.readAt (Elt Ideal) (Rect.unit (s := S2048x512) ![0, 0] S2048x512.size inb_S2048x512_S2048x512_0_0).toLoadRect
            ((hstage0_5 ((cfg0.slots t 5).cast nbuf0_5)).unread (iblk m c 5 t)))⟩] := rfl

/-- The modulated row a point's row `r` is. -/
abbrev rowAt (c : Dev nD) (t : Fin cfg0.N) (r : Fin 512) (k : Fin 2048) : EReal := modRow (aX m c) (aM m c) (bOf t.val t.isLt) (rowOf t.val r) k

/-- A load through the whole shape reads what the stores leave. -/
theorem reload {sp : Space} {S : Shape} {e : EltTy} (v : View sig .tc sp S e) (L : List (View.Piece (Elt Ideal) S e)) {off : Fin S.rank → ℕ}
    (inb : ∀ a, off a + S.size a ≤ S.size a) : v.readCov L (Rect.unit off S.size inb).toLoadRect = View.canon L := by
  rw [View.readCov_eq_canon']
  funext y
  refine congrArg (View.canon L) (funext fun a => Fin.ext ?_)
  show off a + 1 * (y a).val = (y a).val
  have := inb a
  omega

/-- The scratch after a first lane tile. -/
theorem scratch_at (c : Dev nD) (t : Fin cfg0.N) (h0 : t.val % 6 = 0) (r : Fin 512) (k : Fin 2048) :
    (View.canon (runAt m c t h0).2.2.2.1 : FVec Ideal S512x2048 .bf16) (ix2 r k) = rowAt m c t r k := by
  rw [scratch_piece m c t h0]
  refine (congrFun (View.canon_cons_unit_lit _ _ _ (by decide)) (ix2 r k)).trans ?_
  refine (pay1_at _ _ _ r k).trans ?_
  simp only [View.readAt_eq_ld, Memref.IsWhole.read_unread]
  refine congrArg₂ (· + ·) (congrArg₂ (· * ·) ?_ (congrArg (1 + ·) ?_)) ?_
  · exact (congrFun (reload _ _ _) _).trans (pieces_at m c t h0 (ix3 0 r k))
  · refine Eq.trans ?_ (mods_at m c t 1 k)
    exact View.ld_unit_apply_of (S := S1x6x2048) _ _ S1x1x2048.size _ (show S1x1x2048.Idx from ix3 0 0 k) _ (by intro a; fin_cases a <;> simp)
  · refine Eq.trans ?_ (mods_at m c t 0 k)
    exact View.ld_unit_apply_of (S := S1x6x2048) _ _ S1x1x2048.size _ (show S1x1x2048.Idx from ix3 0 0 k) _ (by intro a; fin_cases a <;> simp)

theorem b_first (t : Fin cfg0.N) : bOf (first t).val (first t).isLt = bOf t.val t.isLt := Fin.ext (by simp only [bOf, first]; omega)
theorem row_first (t : Fin cfg0.N) (r : Fin 512) : rowOf (first t).val r = rowOf t.val r := Fin.ext (by simp only [rowOf, first]; omega)

/-- The first output's block at every point, -/
theorem x0_at (c : Dev nD) (t : Fin cfg0.N) (r : Fin 512) (k : Fin 2048) : x0At m c t (ix3 0 r k) = placedAt m c t r k := by
  refine (pieces_at m c (first t) (first_mod t) (ix3 0 r k)).trans ?_
  show placed (aX m c) (bOf (first t).val (first t).isLt) (rowOf (first t).val r) k = _
  rw [b_first, row_first]

/-- and the carried rows. -/
theorem h_at (c : Dev nD) (t : Fin cfg0.N) (r : Fin 512) (k : Fin 2048) : hAt m c t (ix2 r k) = rowAt m c t r k := by
  refine (scratch_at m c (first t) (first_mod t) r k).trans ?_
  show modRow (aX m c) (aM m c) (bOf (first t).val (first t).isLt) (rowOf (first t).val r) k = _
  rw [b_first, row_first]

/-- A row's product with a weight's padded columns: the product where a block is, zero where it is padded. -/
theorem prod_at (X : FVec Ideal S2x8192x2048 .f32) (M : FVec Ideal S8x6x2048 .f32) (W : FVec Ideal S2048x2816 .f32) (b : Fin 2) (n : Fin 8192) (J : Fin 3072)
    (h w : Fin 2048 → EReal) (hh : ∀ k, h k = modRow X M b n k) (hw : ∀ (hJ : J.val % 192 < 176) k, w k = W (ix2 k (narrow J hJ)))
    (hz : ¬J.val % 192 < 176 → ∀ k, w k = 0) : ∑ k : Fin 2048, h k * w k = spread (proj X M W b n) J := by
  unfold spread
  by_cases hJ : J.val % 192 < 176
  · rw [dif_pos hJ]
    exact Finset.sum_congr rfl fun k _ => by rw [hh, hw hJ]
  · rw [dif_neg hJ]
    exact Finset.sum_eq_zero fun k _ => by rw [hz hJ, mul_zero]

/-- The gate of a padding zero is zero. -/
theorem gelu_spread (f : Fin 2816 → EReal) (J : Fin 3072) : gelu (spread f J) = spread (fun l => gelu (f l)) J := by
  unfold spread
  by_cases hJ : J.val % 192 < 176
  · rw [dif_pos hJ, dif_pos hJ]
  · rw [dif_neg hJ, dif_neg hJ]
    exact zero_mul _

/-- The second output's block from any rows that hold the modulated rows, -/
theorem pay_xw (c : Dev nD) (t : Fin cfg0.N) (h : FVec Ideal S512x2048 .bf16) (r j : Fin 512) (hh : ∀ k, h (ix2 r k) = rowAt m c t r k) :
    k0_pay2 (F := Ideal) h (iblk m c 4 t) (ix3 0 r j) = spread (proj (aX m c) (aM m c) (aW m c) (bOf t.val t.isLt) (rowOf t.val r)) (colOf t.val j) :=
  (pay2_at h _ r j).trans (prod_at _ _ _ _ _ (colOf t.val j) (fun k => h (ix2 r k)) (fun k => (iblk m c 4 t : FVec Ideal S2048x512 .bf16) (ix2 k j)) hh
    (fun hJ k => wx_at m c t k j hJ) (fun hJ k => wx_zero m c t k j hJ))

/-- and the third's. -/
theorem pay_gate (c : Dev nD) (t : Fin cfg0.N) (h : FVec Ideal S512x2048 .bf16) (r j : Fin 512) (hh : ∀ k, h (ix2 r k) = rowAt m c t r k) :
    k0_pay3 (F := Ideal) h (iblk m c 5 t) (ix3 0 r j)
      = spread (fun l => gelu (proj (aX m c) (aM m c) (aG m c) (bOf t.val t.isLt) (rowOf t.val r) l)) (colOf t.val j) :=
  (pay3_at h _ r j).trans ((congrArg gelu (prod_at _ _ _ _ _ (colOf t.val j) (fun k => h (ix2 r k)) (fun k => (iblk m c 5 t : FVec Ideal S2048x512 .bf16) (ix2 k j)) hh
    (fun hJ k => wg_at m c t k j hJ) (fun hJ k => wg_zero m c t k j hJ))).trans (gelu_spread _ _))

theorem xw_at (c : Dev nD) (t : Fin cfg0.N) (r j : Fin 512) :
    xwAt m c t (ix3 0 r j) = spread (proj (aX m c) (aM m c) (aW m c) (bOf t.val t.isLt) (rowOf t.val r)) (colOf t.val j) := by
  unfold xwAt
  by_cases h0 : t.val % 6 = 0
  · rw [dif_pos h0, xw_piece m c t h0]
    refine (congrFun (View.canon_cons_unit_lit _ _ _ (by decide)) (ix3 0 r j)).trans ?_
    rw [View.readAt_full, Memref.IsWhole.read_unread]
    refine (congrFun (congrArg (fun h => k0_pay2 (F := Ideal) h (iblk m c 4 t)) (reload _ _ _)) (ix3 0 r j)).trans ?_
    exact pay_xw m c t _ r j (scratch_at m c t h0 r)
  · rw [dif_neg h0]
    exact pay_xw m c t _ r j (h_at m c t r)

theorem gate_at (c : Dev nD) (t : Fin cfg0.N) (r j : Fin 512) :
    gateAt m c t (ix3 0 r j) = spread (fun l => gelu (proj (aX m c) (aM m c) (aG m c) (bOf t.val t.isLt) (rowOf t.val r) l)) (colOf t.val j) := by
  unfold gateAt
  by_cases h0 : t.val % 6 = 0
  · rw [dif_pos h0, gate_piece m c t h0]
    refine (congrFun (View.canon_cons_unit_lit _ _ _ (by decide)) (ix3 0 r j)).trans ?_
    rw [View.readAt_full, Memref.IsWhole.read_unread]
    refine (congrFun (congrArg (fun h => k0_pay3 (F := Ideal) h (iblk m c 5 t)) (reload _ _ _)) (ix3 0 r j)).trans ?_
    exact pay_gate m c t _ r j (scratch_at m c t h0 r)
  · rw [dif_neg h0]
    exact pay_gate m c t _ r j (h_at m c t r)

/-- The result arrays are the reference's composed terms over the argument arrays: the first, -/
theorem final6 (c : Dev nD) : (dats m 0 c).arrAt 6 (cfgs 0).N = Cert.RgInRefIdeal.Read.val_main_v33 (F := Ideal) (aX m c) := by
  refine (dats m 0 c).arrAt_eq_of_covers 6 _ (by decide +kernel) fun t hf y => ?_
  blk_simp
  rw [after0_6]
  idx_vars y
  obtain rfl : y0 = 0 := Subsingleton.elim _ _
  refine (x0_at m c t y1 y2).trans ?_
  unfold placedAt
  rw [← ref_x0]
  refine congrArg _ ?_
  have hN : cfg0.N = 192 := N_0
  unfold bOf rowOf
  blk_ext [idx t]

/-- the second, -/
theorem final7 (c : Dev nD) : (dats m 0 c).arrAt 7 (cfgs 0).N = Cert.RgInRefIdeal.Read.val_main_v62 (F := Ideal) (aX m c) (aM m c) (aW m c) := by
  refine (dats m 0 c).arrAt_eq_of_covers 7 _ (by decide +kernel) fun t hf y => ?_
  blk_simp
  rw [after0_7]
  idx_vars y
  obtain rfl : y0 = 0 := Subsingleton.elim _ _
  refine (xw_at m c t y1 y2).trans ?_
  rw [← ref_xw]
  refine congrArg _ ?_
  have hN : cfg0.N = 192 := N_0
  unfold bOf rowOf colOf
  blk_ext [idx t]

/-- and the third. -/
theorem final8 (c : Dev nD) : (dats m 0 c).arrAt 8 (cfgs 0).N = Cert.RgInRefIdeal.Read.val_main_v64 (F := Ideal) (aX m c) (aM m c) (aG m c) := by
  refine (dats m 0 c).arrAt_eq_of_covers 8 _ (by decide +kernel) fun t hf y => ?_
  blk_simp
  rw [after0_8]
  idx_vars y
  obtain rfl : y0 = 0 := Subsingleton.elim _ _
  refine (gate_at m c t y1 y2).trans ?_
  rw [← ref_gate]
  refine congrArg _ ?_
  have hN : cfg0.N = 192 := N_0
  unfold bOf rowOf colOf
  blk_ext [idx t]

/-- The run, with what its outputs hold. -/
theorem run_outs (ρ : Dev nD → PrngReg) : θ_run defs (onTc (τ := τ) (main (F := Ideal))) ⟨m, fun _ => 0, ρ⟩ (fun r => ∀ c : Dev nD,
      r.2.mem ((c.tc : Thread nD τ).loc main_v33_0) = Cert.RgInRefIdeal.Read.val_main_v33 (F := Ideal) (aX m c)
      ∧ r.2.mem ((c.tc : Thread nD τ).loc main_v33_1) = Cert.RgInRefIdeal.Read.val_main_v62 (F := Ideal) (aX m c) (aM m c) (aW m c)
      ∧ r.2.mem ((c.tc : Thread nD τ).loc main_v33_2) = Cert.RgInRefIdeal.Read.val_main_v64 (F := Ideal) (aX m c) (aM m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 6).trans (final6 m c), ((h.1 c).1 7).trans (final7 m c), ((h.1 c).1 8).trans (final8 m c), h.2.1 c⟩)
    (θ_run_and (run_main m ρ) (frame m ρ))

end Cert.RgInIdeal.Body

namespace Cert.Proof
open Idealize.ShloMosaic Idealize.SL.Sem

/-- The call's three results are the reference's. -/
theorem rgIn_algebraic : Cert.algebraic_RgInIdeal_RgInRefIdeal := by
  intro m g m' g' hpre hagree
  refine ⟨fun c => Cert.RgInRefIdeal.Read.val_main_v33 (F := Ideal) (Cert.RgInIdeal.Body.aX m c),
    fun c => Cert.RgInRefIdeal.Read.val_main_v62 (F := Ideal) (Cert.RgInIdeal.Body.aX m c) (Cert.RgInIdeal.Body.aM m c) (Cert.RgInIdeal.Body.aW m c),
    fun c => Cert.RgInRefIdeal.Read.val_main_v64 (F := Ideal) (Cert.RgInIdeal.Body.aX m c) (Cert.RgInIdeal.Body.aM m c) (Cert.RgInIdeal.Body.aG m c),
    Cert.RgInIdeal.Body.run_outs m g, ?_⟩
  refine (θ_run _ _ _).mono (fun r h c => ⟨(h c).1.trans ?_, (h c).2.1.trans ?_, (h c).2.2.1.trans ?_, (h c).2.2.2⟩) (Cert.RgInRefIdeal.Value.run m' g')
  · obtain ⟨h0, h1, h2, h3⟩ := hagree c
    rw [h0]
    exact Cert.RgInRefIdeal.Read.val_main_v33_eq _
  · obtain ⟨h0, h1, h2, h3⟩ := hagree c
    rw [Cert.RgInRefIdeal.Read.val_main_v62_eq, h0, h1, h2]
  · obtain ⟨h0, h1, h2, h3⟩ := hagree c
    rw [Cert.RgInRefIdeal.Read.val_main_v64_eq, h0, h1, h3]

end Cert.Proof
-- ==== Proof.lean ====
module

public import proofs.«01_k».proof.Defs
public import proofs.«01_k».proof.Proof.Gen.Ffn.Frame
public import proofs.«01_k».proof.Proof.FfnClaim
public import proofs.«01_k».proof.Proof.ScanBitsFrame
public import proofs.«01_k».proof.Proof.ScanClaim
public import proofs.«01_k».proof.Proof.Gen.ConfIn.Frame
public import proofs.«01_k».proof.Proof.ConfInClaim
public import proofs.«01_k».proof.Proof.Gen.FtOut.Frame
public import proofs.«01_k».proof.Proof.FtOutClaim
public import proofs.«01_k».proof.Proof.Gen.RgOut.Frame
public import proofs.«01_k».proof.Proof.RgOutClaim
public import proofs.«01_k».proof.Proof.RgInBitsFrame
public import proofs.«01_k».proof.Proof.RgInClaim
public import Idealize.ShloMosaic.Lib.Quiescent

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts,
  Cert.Scan.Gen.facts, Cert.ScanIdeal.Gen.facts, Cert.ScanRefIdeal.Gen.facts,
  Cert.ConfIn.Gen.facts, Cert.ConfInIdeal.Gen.facts, Cert.ConfInRefIdeal.Gen.facts, Cert.FtOut.Gen.facts, Cert.FtOutIdeal.Gen.facts, Cert.FtOutRefIdeal.Gen.facts,
  Cert.RgOut.Gen.facts, Cert.RgOutIdeal.Gen.facts, Cert.RgOutRefIdeal.Gen.facts,
  Cert.RgIn.Gen.facts, Cert.RgInIdeal.Gen.facts, Cert.RgInRefIdeal.Gen.facts, Cert.On_block_lanes.facts,
  fun m ρ _ => Cert.Ffn.Gen.frame m ρ, fun m ρ _ => Cert.FfnIdeal.Gen.frame m ρ, fun m ρ _ =>
    (θ_run _ _ _).mono (fun r h => ⟨fun c => (h c).2, sem_eq_zero_of_no_sems (by decide) _⟩) (Cert.FfnRefIdeal.Value.run m ρ),
  fun m ρ _ => Cert.Scan.Body.frame m ρ, fun m ρ _ => Cert.ScanIdeal.Body.frame m ρ, fun m ρ _ =>
    (θ_run _ _ _).mono (fun r h => ⟨fun c => (h c).2.2, sem_eq_zero_of_no_sems (by decide) _⟩) (Cert.ScanRefIdeal.Value.run m ρ),
  fun m ρ _ => Cert.ConfIn.Gen.frame m ρ, fun m ρ _ => Cert.ConfInIdeal.Gen.frame m ρ, fun m ρ _ =>
    (θ_run _ _ _).mono (fun r h => ⟨fun c => (h c).2, sem_eq_zero_of_no_sems (by decide) _⟩) (Cert.ConfInRefIdeal.Value.run m ρ),
  fun m ρ _ => Cert.FtOut.Gen.frame m ρ, fun m ρ _ => Cert.FtOutIdeal.Gen.frame m ρ, fun m ρ _ =>
    (θ_run _ _ _).mono (fun r h => ⟨fun c => (h c).2, sem_eq_zero_of_no_sems (by decide) _⟩) (Cert.FtOutRefIdeal.Value.run m ρ),
  fun m ρ _ => Cert.RgOut.Gen.frame m ρ, fun m ρ _ => Cert.RgOutIdeal.Gen.frame m ρ, fun m ρ _ =>
    (θ_run _ _ _).mono (fun r h => ⟨fun c => (h c).2, sem_eq_zero_of_no_sems (by decide) _⟩) (Cert.RgOutRefIdeal.Value.run m ρ),
  fun m ρ _ => Cert.RgIn.Body.frame m ρ, fun m ρ _ => Cert.RgInIdeal.Body.frame m ρ, fun m ρ _ =>
    (θ_run _ _ _).mono (fun r h => ⟨fun c => (h c).2.2.2, sem_eq_zero_of_no_sems (by decide) _⟩) (Cert.RgInRefIdeal.Value.run m ρ),
  trivial, ffn_algebraic, trivial, scan_algebraic, trivial, confIn_algebraic, trivial, ftOut_algebraic, trivial, rgOut_algebraic,
  trivial, rgIn_algebraic⟩

end Cert.Proof

end
